-- ==== Defs.lean ====
def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelInS (m : (ℓ : Loc Cert.KernelInS.nD Cert.KernelInS.τ Cert.KernelInS.sig) → Buf (Elt Bits) ℓ) : Prop :=
  True

def Pre_KernelInSIdeal (m : (ℓ : Loc Cert.KernelInSIdeal.nD Cert.KernelInSIdeal.τ Cert.KernelInSIdeal.sig) → Buf (Elt Ideal) ℓ) : Prop :=
  True

def Pre_ReferenceInSIdeal (m : (ℓ : Loc Cert.ReferenceInSIdeal.nD Cert.ReferenceInSIdeal.τ Cert.ReferenceInSIdeal.sig) → Buf (Elt Ideal) ℓ) : Prop :=
  True

def Pre_KernelOutS (m : (ℓ : Loc Cert.KernelOutS.nD Cert.KernelOutS.τ Cert.KernelOutS.sig) → Buf (Elt Bits) ℓ) : Prop :=
  True

def Pre_KernelOutSIdeal (m : (ℓ : Loc Cert.KernelOutSIdeal.nD Cert.KernelOutSIdeal.τ Cert.KernelOutSIdeal.sig) → Buf (Elt Ideal) ℓ) : Prop :=
  True

def Pre_KernelOutSIdeal_finite_z [hPre_finite_z : Cert.Pre_finite_z.Facts] (m : (ℓ : Loc Cert.KernelOutSIdeal.nD Cert.KernelOutSIdeal.τ Cert.KernelOutSIdeal.sig) → Buf (Elt Ideal) ℓ) : Prop :=
  ∀ c : Dev Cert.KernelOutSIdeal.nD,
    (Cert.Pre_finite_z.fn (F := Ideal) (m ((c.tc : Thread Cert.KernelOutSIdeal.nD Cert.KernelOutSIdeal.τ).loc Cert.KernelOutSIdeal.main_arg0)) (m ((c.tc : Thread Cert.KernelOutSIdeal.nD Cert.KernelOutSIdeal.τ).loc Cert.KernelOutSIdeal.main_arg1)) (m ((c.tc : Thread Cert.KernelOutSIdeal.nD Cert.KernelOutSIdeal.τ).loc Cert.KernelOutSIdeal.main_arg2)) (m ((c.tc : Thread Cert.KernelOutSIdeal.nD Cert.KernelOutSIdeal.τ).loc Cert.KernelOutSIdeal.main_arg3)) (m ((c.tc : Thread Cert.KernelOutSIdeal.nD Cert.KernelOutSIdeal.τ).loc Cert.KernelOutSIdeal.main_arg4)) (m ((c.tc : Thread Cert.KernelOutSIdeal.nD Cert.KernelOutSIdeal.τ).loc Cert.KernelOutSIdeal.main_arg5)) (m ((c.tc : Thread Cert.KernelOutSIdeal.nD Cert.KernelOutSIdeal.τ).loc Cert.KernelOutSIdeal.main_arg6)) (m ((c.tc : Thread Cert.KernelOutSIdeal.nD Cert.KernelOutSIdeal.τ).loc Cert.KernelOutSIdeal.main_arg7)) (m ((c.tc : Thread Cert.KernelOutSIdeal.nD Cert.KernelOutSIdeal.τ).loc Cert.KernelOutSIdeal.main_arg8))) = (fun _ => 1#1)

def Pre_ReferenceOutSIdeal (m : (ℓ : Loc Cert.ReferenceOutSIdeal.nD Cert.ReferenceOutSIdeal.τ Cert.ReferenceOutSIdeal.sig) → Buf (Elt Ideal) ℓ) : Prop :=
  True

def Pre_ReferenceOutSIdeal_finite_z [hPre_finite_z : Cert.Pre_finite_z.Facts] (m : (ℓ : Loc Cert.ReferenceOutSIdeal.nD Cert.ReferenceOutSIdeal.τ Cert.ReferenceOutSIdeal.sig) → Buf (Elt Ideal) ℓ) : Prop :=
  ∀ c : Dev Cert.ReferenceOutSIdeal.nD,
    (Cert.Pre_finite_z.fn (F := Ideal) (m ((c.tc : Thread Cert.ReferenceOutSIdeal.nD Cert.ReferenceOutSIdeal.τ).loc Cert.ReferenceOutSIdeal.main_arg0)) (m ((c.tc : Thread Cert.ReferenceOutSIdeal.nD Cert.ReferenceOutSIdeal.τ).loc Cert.ReferenceOutSIdeal.main_arg1)) (m ((c.tc : Thread Cert.ReferenceOutSIdeal.nD Cert.ReferenceOutSIdeal.τ).loc Cert.ReferenceOutSIdeal.main_arg2)) (m ((c.tc : Thread Cert.ReferenceOutSIdeal.nD Cert.ReferenceOutSIdeal.τ).loc Cert.ReferenceOutSIdeal.main_arg3)) (m ((c.tc : Thread Cert.ReferenceOutSIdeal.nD Cert.ReferenceOutSIdeal.τ).loc Cert.ReferenceOutSIdeal.main_arg4)) (m ((c.tc : Thread Cert.ReferenceOutSIdeal.nD Cert.ReferenceOutSIdeal.τ).loc Cert.ReferenceOutSIdeal.main_arg5)) (m ((c.tc : Thread Cert.ReferenceOutSIdeal.nD Cert.ReferenceOutSIdeal.τ).loc Cert.ReferenceOutSIdeal.main_arg6)) (m ((c.tc : Thread Cert.ReferenceOutSIdeal.nD Cert.ReferenceOutSIdeal.τ).loc Cert.ReferenceOutSIdeal.main_arg7)) (m ((c.tc : Thread Cert.ReferenceOutSIdeal.nD Cert.ReferenceOutSIdeal.τ).loc Cert.ReferenceOutSIdeal.main_arg8))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelInS [hKernelInS : Cert.KernelInS.Facts] : Prop :=
  ∀ (m : (ℓ : Loc Cert.KernelInS.nD Cert.KernelInS.τ Cert.KernelInS.sig) → Buf (Elt Bits) ℓ) (g : Dev Cert.KernelInS.nD → PrngReg), Pre_KernelInS m →
    θ_run (Cert.KernelInS.defs (F := Bits)) (onTc (τ := Cert.KernelInS.τ) (Cert.KernelInS.main (F := Bits))) ⟨m, fun _ => 0, g⟩ (fun r => (∀ c : Dev Cert.KernelInS.nD,
      r.2.mem ((c.tc : Thread Cert.KernelInS.nD Cert.KernelInS.τ).loc Cert.KernelInS.main_arg0) = m ((c.tc : Thread Cert.KernelInS.nD Cert.KernelInS.τ).loc Cert.KernelInS.main_arg0)
      ∧ r.2.mem ((c.tc : Thread Cert.KernelInS.nD Cert.KernelInS.τ).loc Cert.KernelInS.main_arg1) = m ((c.tc : Thread Cert.KernelInS.nD Cert.KernelInS.τ).loc Cert.KernelInS.main_arg1)
      ∧ r.2.mem ((c.tc : Thread Cert.KernelInS.nD Cert.KernelInS.τ).loc Cert.KernelInS.main_arg2) = m ((c.tc : Thread Cert.KernelInS.nD Cert.KernelInS.τ).loc Cert.KernelInS.main_arg2))
      ∧ r.2.sem = fun _ => 0)

def quiescent_KernelInSIdeal [hKernelInSIdeal : Cert.KernelInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg), Pre_KernelInSIdeal m →
    θ_run (Cert.KernelInSIdeal.defs (F := Ideal)) (onTc (τ := Cert.KernelInSIdeal.τ) (Cert.KernelInSIdeal.main (F := Ideal))) ⟨m, fun _ => 0, g⟩ (fun r => (∀ c : Dev Cert.KernelInSIdeal.nD,
      r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
      ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
      ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2))
      ∧ r.2.sem = fun _ => 0)

def quiescent_ReferenceInSIdeal [hReferenceInSIdeal : Cert.ReferenceInSIdeal.Facts] : Prop :=
  ∀ (m : (ℓ : Loc Cert.ReferenceInSIdeal.nD Cert.ReferenceInSIdeal.τ Cert.ReferenceInSIdeal.sig) → Buf (Elt Ideal) ℓ) (g : Dev Cert.ReferenceInSIdeal.nD → PrngReg), Pre_ReferenceInSIdeal m →
    θ_run (Cert.ReferenceInSIdeal.defs (F := Ideal)) (onTc (τ := Cert.ReferenceInSIdeal.τ) (Cert.ReferenceInSIdeal.main (F := Ideal))) ⟨m, fun _ => 0, g⟩ (fun r => (∀ c : Dev Cert.ReferenceInSIdeal.nD,
      r.2.mem ((c.tc : Thread Cert.ReferenceInSIdeal.nD Cert.ReferenceInSIdeal.τ).loc Cert.ReferenceInSIdeal.main_arg0) = m ((c.tc : Thread Cert.ReferenceInSIdeal.nD Cert.ReferenceInSIdeal.τ).loc Cert.ReferenceInSIdeal.main_arg0)
      ∧ r.2.mem ((c.tc : Thread Cert.ReferenceInSIdeal.nD Cert.ReferenceInSIdeal.τ).loc Cert.ReferenceInSIdeal.main_arg1) = m ((c.tc : Thread Cert.ReferenceInSIdeal.nD Cert.ReferenceInSIdeal.τ).loc Cert.ReferenceInSIdeal.main_arg1)
      ∧ r.2.mem ((c.tc : Thread Cert.ReferenceInSIdeal.nD Cert.ReferenceInSIdeal.τ).loc Cert.ReferenceInSIdeal.main_arg2) = m ((c.tc : Thread Cert.ReferenceInSIdeal.nD Cert.ReferenceInSIdeal.τ).loc Cert.ReferenceInSIdeal.main_arg2))
      ∧ r.2.sem = fun _ => 0)

def quiescent_KernelOutS [hKernelOutS : Cert.KernelOutS.Facts] : Prop :=
  ∀ (m : (ℓ : Loc Cert.KernelOutS.nD Cert.KernelOutS.τ Cert.KernelOutS.sig) → Buf (Elt Bits) ℓ) (g : Dev Cert.KernelOutS.nD → PrngReg), Pre_KernelOutS m →
    θ_run (Cert.KernelOutS.defs (F := Bits)) (onTc (τ := Cert.KernelOutS.τ) (Cert.KernelOutS.main (F := Bits))) ⟨m, fun _ => 0, g⟩ (fun r => (∀ c : Dev Cert.KernelOutS.nD,
      r.2.mem ((c.tc : Thread Cert.KernelOutS.nD Cert.KernelOutS.τ).loc Cert.KernelOutS.main_arg0) = m ((c.tc : Thread Cert.KernelOutS.nD Cert.KernelOutS.τ).loc Cert.KernelOutS.main_arg0)
      ∧ r.2.mem ((c.tc : Thread Cert.KernelOutS.nD Cert.KernelOutS.τ).loc Cert.KernelOutS.main_arg1) = m ((c.tc : Thread Cert.KernelOutS.nD Cert.KernelOutS.τ).loc Cert.KernelOutS.main_arg1)
      ∧ r.2.mem ((c.tc : Thread Cert.KernelOutS.nD Cert.KernelOutS.τ).loc Cert.KernelOutS.main_arg2) = m ((c.tc : Thread Cert.KernelOutS.nD Cert.KernelOutS.τ).loc Cert.KernelOutS.main_arg2)
      ∧ r.2.mem ((c.tc : Thread Cert.KernelOutS.nD Cert.KernelOutS.τ).loc Cert.KernelOutS.main_arg3) = m ((c.tc : Thread Cert.KernelOutS.nD Cert.KernelOutS.τ).loc Cert.KernelOutS.main_arg3)
      ∧ r.2.mem ((c.tc : Thread Cert.KernelOutS.nD Cert.KernelOutS.τ).loc Cert.KernelOutS.main_arg4) = m ((c.tc : Thread Cert.KernelOutS.nD Cert.KernelOutS.τ).loc Cert.KernelOutS.main_arg4)
      ∧ r.2.mem ((c.tc : Thread Cert.KernelOutS.nD Cert.KernelOutS.τ).loc Cert.KernelOutS.main_arg5) = m ((c.tc : Thread Cert.KernelOutS.nD Cert.KernelOutS.τ).loc Cert.KernelOutS.main_arg5)
      ∧ r.2.mem ((c.tc : Thread Cert.KernelOutS.nD Cert.KernelOutS.τ).loc Cert.KernelOutS.main_arg6) = m ((c.tc : Thread Cert.KernelOutS.nD Cert.KernelOutS.τ).loc Cert.KernelOutS.main_arg6)
      ∧ r.2.mem ((c.tc : Thread Cert.KernelOutS.nD Cert.KernelOutS.τ).loc Cert.KernelOutS.main_arg7) = m ((c.tc : Thread Cert.KernelOutS.nD Cert.KernelOutS.τ).loc Cert.KernelOutS.main_arg7)
      ∧ r.2.mem ((c.tc : Thread Cert.KernelOutS.nD Cert.KernelOutS.τ).loc Cert.KernelOutS.main_arg8) = m ((c.tc : Thread Cert.KernelOutS.nD Cert.KernelOutS.τ).loc Cert.KernelOutS.main_arg8))
      ∧ r.2.sem = fun _ => 0)

def quiescent_KernelOutSIdeal [hKernelOutSIdeal : Cert.KernelOutSIdeal.Facts] : Prop :=
  ∀ (m : (ℓ : Loc Cert.KernelOutSIdeal.nD Cert.KernelOutSIdeal.τ Cert.KernelOutSIdeal.sig) → Buf (Elt Ideal) ℓ) (g : Dev Cert.KernelOutSIdeal.nD → PrngReg), Pre_KernelOutSIdeal m →
    θ_run (Cert.KernelOutSIdeal.defs (F := Ideal)) (onTc (τ := Cert.KernelOutSIdeal.τ) (Cert.KernelOutSIdeal.main (F := Ideal))) ⟨m, fun _ => 0, g⟩ (fun r => (∀ c : Dev Cert.KernelOutSIdeal.nD,
      r.2.mem ((c.tc : Thread Cert.KernelOutSIdeal.nD Cert.KernelOutSIdeal.τ).loc Cert.KernelOutSIdeal.main_arg0) = m ((c.tc : Thread Cert.KernelOutSIdeal.nD Cert.KernelOutSIdeal.τ).loc Cert.KernelOutSIdeal.main_arg0)
      ∧ r.2.mem ((c.tc : Thread Cert.KernelOutSIdeal.nD Cert.KernelOutSIdeal.τ).loc Cert.KernelOutSIdeal.main_arg1) = m ((c.tc : Thread Cert.KernelOutSIdeal.nD Cert.KernelOutSIdeal.τ).loc Cert.KernelOutSIdeal.main_arg1)
      ∧ r.2.mem ((c.tc : Thread Cert.KernelOutSIdeal.nD Cert.KernelOutSIdeal.τ).loc Cert.KernelOutSIdeal.main_arg2) = m ((c.tc : Thread Cert.KernelOutSIdeal.nD Cert.KernelOutSIdeal.τ).loc Cert.KernelOutSIdeal.main_arg2)
      ∧ r.2.mem ((c.tc : Thread Cert.KernelOutSIdeal.nD Cert.KernelOutSIdeal.τ).loc Cert.KernelOutSIdeal.main_arg3) = m ((c.tc : Thread Cert.KernelOutSIdeal.nD Cert.KernelOutSIdeal.τ).loc Cert.KernelOutSIdeal.main_arg3)
      ∧ r.2.mem ((c.tc : Thread Cert.KernelOutSIdeal.nD Cert.KernelOutSIdeal.τ).loc Cert.KernelOutSIdeal.main_arg4) = m ((c.tc : Thread Cert.KernelOutSIdeal.nD Cert.KernelOutSIdeal.τ).loc Cert.KernelOutSIdeal.main_arg4)
      ∧ r.2.mem ((c.tc : Thread Cert.KernelOutSIdeal.nD Cert.KernelOutSIdeal.τ).loc Cert.KernelOutSIdeal.main_arg5) = m ((c.tc : Thread Cert.KernelOutSIdeal.nD Cert.KernelOutSIdeal.τ).loc Cert.KernelOutSIdeal.main_arg5)
      ∧ r.2.mem ((c.tc : Thread Cert.KernelOutSIdeal.nD Cert.KernelOutSIdeal.τ).loc Cert.KernelOutSIdeal.main_arg6) = m ((c.tc : Thread Cert.KernelOutSIdeal.nD Cert.KernelOutSIdeal.τ).loc Cert.KernelOutSIdeal.main_arg6)
      ∧ r.2.mem ((c.tc : Thread Cert.KernelOutSIdeal.nD Cert.KernelOutSIdeal.τ).loc Cert.KernelOutSIdeal.main_arg7) = m ((c.tc : Thread Cert.KernelOutSIdeal.nD Cert.KernelOutSIdeal.τ).loc Cert.KernelOutSIdeal.main_arg7)
      ∧ r.2.mem ((c.tc : Thread Cert.KernelOutSIdeal.nD Cert.KernelOutSIdeal.τ).loc Cert.KernelOutSIdeal.main_arg8) = m ((c.tc : Thread Cert.KernelOutSIdeal.nD Cert.KernelOutSIdeal.τ).loc Cert.KernelOutSIdeal.main_arg8))
      ∧ r.2.sem = fun _ => 0)

def quiescent_KernelOutSIdeal_pre_finite_z [hKernelOutSIdeal : Cert.KernelOutSIdeal.Facts] [hPre_finite_z : Cert.Pre_finite_z.Facts] : Prop :=
  ∀ (m : (ℓ : Loc Cert.KernelOutSIdeal.nD Cert.KernelOutSIdeal.τ Cert.KernelOutSIdeal.sig) → Buf (Elt Ideal) ℓ) (g : Dev Cert.KernelOutSIdeal.nD → PrngReg), Pre_KernelOutSIdeal_finite_z m →
    θ_run (Cert.KernelOutSIdeal.defs (F := Ideal)) (onTc (τ := Cert.KernelOutSIdeal.τ) (Cert.KernelOutSIdeal.main (F := Ideal))) ⟨m, fun _ => 0, g⟩ (fun r => (∀ c : Dev Cert.KernelOutSIdeal.nD,
      r.2.mem ((c.tc : Thread Cert.KernelOutSIdeal.nD Cert.KernelOutSIdeal.τ).loc Cert.KernelOutSIdeal.main_arg0) = m ((c.tc : Thread Cert.KernelOutSIdeal.nD Cert.KernelOutSIdeal.τ).loc Cert.KernelOutSIdeal.main_arg0)
      ∧ r.2.mem ((c.tc : Thread Cert.KernelOutSIdeal.nD Cert.KernelOutSIdeal.τ).loc Cert.KernelOutSIdeal.main_arg1) = m ((c.tc : Thread Cert.KernelOutSIdeal.nD Cert.KernelOutSIdeal.τ).loc Cert.KernelOutSIdeal.main_arg1)
      ∧ r.2.mem ((c.tc : Thread Cert.KernelOutSIdeal.nD Cert.KernelOutSIdeal.τ).loc Cert.KernelOutSIdeal.main_arg2) = m ((c.tc : Thread Cert.KernelOutSIdeal.nD Cert.KernelOutSIdeal.τ).loc Cert.KernelOutSIdeal.main_arg2)
      ∧ r.2.mem ((c.tc : Thread Cert.KernelOutSIdeal.nD Cert.KernelOutSIdeal.τ).loc Cert.KernelOutSIdeal.main_arg3) = m ((c.tc : Thread Cert.KernelOutSIdeal.nD Cert.KernelOutSIdeal.τ).loc Cert.KernelOutSIdeal.main_arg3)
      ∧ r.2.mem ((c.tc : Thread Cert.KernelOutSIdeal.nD Cert.KernelOutSIdeal.τ).loc Cert.KernelOutSIdeal.main_arg4) = m ((c.tc : Thread Cert.KernelOutSIdeal.nD Cert.KernelOutSIdeal.τ).loc Cert.KernelOutSIdeal.main_arg4)
      ∧ r.2.mem ((c.tc : Thread Cert.KernelOutSIdeal.nD Cert.KernelOutSIdeal.τ).loc Cert.KernelOutSIdeal.main_arg5) = m ((c.tc : Thread Cert.KernelOutSIdeal.nD Cert.KernelOutSIdeal.τ).loc Cert.KernelOutSIdeal.main_arg5)
      ∧ r.2.mem ((c.tc : Thread Cert.KernelOutSIdeal.nD Cert.KernelOutSIdeal.τ).loc Cert.KernelOutSIdeal.main_arg6) = m ((c.tc : Thread Cert.KernelOutSIdeal.nD Cert.KernelOutSIdeal.τ).loc Cert.KernelOutSIdeal.main_arg6)
      ∧ r.2.mem ((c.tc : Thread Cert.KernelOutSIdeal.nD Cert.KernelOutSIdeal.τ).loc Cert.KernelOutSIdeal.main_arg7) = m ((c.tc : Thread Cert.KernelOutSIdeal.nD Cert.KernelOutSIdeal.τ).loc Cert.KernelOutSIdeal.main_arg7)
      ∧ r.2.mem ((c.tc : Thread Cert.KernelOutSIdeal.nD Cert.KernelOutSIdeal.τ).loc Cert.KernelOutSIdeal.main_arg8) = m ((c.tc : Thread Cert.KernelOutSIdeal.nD Cert.KernelOutSIdeal.τ).loc Cert.KernelOutSIdeal.main_arg8))
      ∧ r.2.sem = fun _ => 0)

def quiescent_ReferenceOutSIdeal [hReferenceOutSIdeal : Cert.ReferenceOutSIdeal.Facts] : Prop :=
  ∀ (m : (ℓ : Loc Cert.ReferenceOutSIdeal.nD Cert.ReferenceOutSIdeal.τ Cert.ReferenceOutSIdeal.sig) → Buf (Elt Ideal) ℓ) (g : Dev Cert.ReferenceOutSIdeal.nD → PrngReg), Pre_ReferenceOutSIdeal m →
    θ_run (Cert.ReferenceOutSIdeal.defs (F := Ideal)) (onTc (τ := Cert.ReferenceOutSIdeal.τ) (Cert.ReferenceOutSIdeal.main (F := Ideal))) ⟨m, fun _ => 0, g⟩ (fun r => (∀ c : Dev Cert.ReferenceOutSIdeal.nD,
      r.2.mem ((c.tc : Thread Cert.ReferenceOutSIdeal.nD Cert.ReferenceOutSIdeal.τ).loc Cert.ReferenceOutSIdeal.main_arg0) = m ((c.tc : Thread Cert.ReferenceOutSIdeal.nD Cert.ReferenceOutSIdeal.τ).loc Cert.ReferenceOutSIdeal.main_arg0)
      ∧ r.2.mem ((c.tc : Thread Cert.ReferenceOutSIdeal.nD Cert.ReferenceOutSIdeal.τ).loc Cert.ReferenceOutSIdeal.main_arg1) = m ((c.tc : Thread Cert.ReferenceOutSIdeal.nD Cert.ReferenceOutSIdeal.τ).loc Cert.ReferenceOutSIdeal.main_arg1)
      ∧ r.2.mem ((c.tc : Thread Cert.ReferenceOutSIdeal.nD Cert.ReferenceOutSIdeal.τ).loc Cert.ReferenceOutSIdeal.main_arg2) = m ((c.tc : Thread Cert.ReferenceOutSIdeal.nD Cert.ReferenceOutSIdeal.τ).loc Cert.ReferenceOutSIdeal.main_arg2)
      ∧ r.2.mem ((c.tc : Thread Cert.ReferenceOutSIdeal.nD Cert.ReferenceOutSIdeal.τ).loc Cert.ReferenceOutSIdeal.main_arg3) = m ((c.tc : Thread Cert.ReferenceOutSIdeal.nD Cert.ReferenceOutSIdeal.τ).loc Cert.ReferenceOutSIdeal.main_arg3)
      ∧ r.2.mem ((c.tc : Thread Cert.ReferenceOutSIdeal.nD Cert.ReferenceOutSIdeal.τ).loc Cert.ReferenceOutSIdeal.main_arg4) = m ((c.tc : Thread Cert.ReferenceOutSIdeal.nD Cert.ReferenceOutSIdeal.τ).loc Cert.ReferenceOutSIdeal.main_arg4)
      ∧ r.2.mem ((c.tc : Thread Cert.ReferenceOutSIdeal.nD Cert.ReferenceOutSIdeal.τ).loc Cert.ReferenceOutSIdeal.main_arg5) = m ((c.tc : Thread Cert.ReferenceOutSIdeal.nD Cert.ReferenceOutSIdeal.τ).loc Cert.ReferenceOutSIdeal.main_arg5)
      ∧ r.2.mem ((c.tc : Thread Cert.ReferenceOutSIdeal.nD Cert.ReferenceOutSIdeal.τ).loc Cert.ReferenceOutSIdeal.main_arg6) = m ((c.tc : Thread Cert.ReferenceOutSIdeal.nD Cert.ReferenceOutSIdeal.τ).loc Cert.ReferenceOutSIdeal.main_arg6)
      ∧ r.2.mem ((c.tc : Thread Cert.ReferenceOutSIdeal.nD Cert.ReferenceOutSIdeal.τ).loc Cert.ReferenceOutSIdeal.main_arg7) = m ((c.tc : Thread Cert.ReferenceOutSIdeal.nD Cert.ReferenceOutSIdeal.τ).loc Cert.ReferenceOutSIdeal.main_arg7)
      ∧ r.2.mem ((c.tc : Thread Cert.ReferenceOutSIdeal.nD Cert.ReferenceOutSIdeal.τ).loc Cert.ReferenceOutSIdeal.main_arg8) = m ((c.tc : Thread Cert.ReferenceOutSIdeal.nD Cert.ReferenceOutSIdeal.τ).loc Cert.ReferenceOutSIdeal.main_arg8))
      ∧ r.2.sem = fun _ => 0)

def quiescent_ReferenceOutSIdeal_pre_finite_z [hReferenceOutSIdeal : Cert.ReferenceOutSIdeal.Facts] [hPre_finite_z : Cert.Pre_finite_z.Facts] : Prop :=
  ∀ (m : (ℓ : Loc Cert.ReferenceOutSIdeal.nD Cert.ReferenceOutSIdeal.τ Cert.ReferenceOutSIdeal.sig) → Buf (Elt Ideal) ℓ) (g : Dev Cert.ReferenceOutSIdeal.nD → PrngReg), Pre_ReferenceOutSIdeal_finite_z m →
    θ_run (Cert.ReferenceOutSIdeal.defs (F := Ideal)) (onTc (τ := Cert.ReferenceOutSIdeal.τ) (Cert.ReferenceOutSIdeal.main (F := Ideal))) ⟨m, fun _ => 0, g⟩ (fun r => (∀ c : Dev Cert.ReferenceOutSIdeal.nD,
      r.2.mem ((c.tc : Thread Cert.ReferenceOutSIdeal.nD Cert.ReferenceOutSIdeal.τ).loc Cert.ReferenceOutSIdeal.main_arg0) = m ((c.tc : Thread Cert.ReferenceOutSIdeal.nD Cert.ReferenceOutSIdeal.τ).loc Cert.ReferenceOutSIdeal.main_arg0)
      ∧ r.2.mem ((c.tc : Thread Cert.ReferenceOutSIdeal.nD Cert.ReferenceOutSIdeal.τ).loc Cert.ReferenceOutSIdeal.main_arg1) = m ((c.tc : Thread Cert.ReferenceOutSIdeal.nD Cert.ReferenceOutSIdeal.τ).loc Cert.ReferenceOutSIdeal.main_arg1)
      ∧ r.2.mem ((c.tc : Thread Cert.ReferenceOutSIdeal.nD Cert.ReferenceOutSIdeal.τ).loc Cert.ReferenceOutSIdeal.main_arg2) = m ((c.tc : Thread Cert.ReferenceOutSIdeal.nD Cert.ReferenceOutSIdeal.τ).loc Cert.ReferenceOutSIdeal.main_arg2)
      ∧ r.2.mem ((c.tc : Thread Cert.ReferenceOutSIdeal.nD Cert.ReferenceOutSIdeal.τ).loc Cert.ReferenceOutSIdeal.main_arg3) = m ((c.tc : Thread Cert.ReferenceOutSIdeal.nD Cert.ReferenceOutSIdeal.τ).loc Cert.ReferenceOutSIdeal.main_arg3)
      ∧ r.2.mem ((c.tc : Thread Cert.ReferenceOutSIdeal.nD Cert.ReferenceOutSIdeal.τ).loc Cert.ReferenceOutSIdeal.main_arg4) = m ((c.tc : Thread Cert.ReferenceOutSIdeal.nD Cert.ReferenceOutSIdeal.τ).loc Cert.ReferenceOutSIdeal.main_arg4)
      ∧ r.2.mem ((c.tc : Thread Cert.ReferenceOutSIdeal.nD Cert.ReferenceOutSIdeal.τ).loc Cert.ReferenceOutSIdeal.main_arg5) = m ((c.tc : Thread Cert.ReferenceOutSIdeal.nD Cert.ReferenceOutSIdeal.τ).loc Cert.ReferenceOutSIdeal.main_arg5)
      ∧ r.2.mem ((c.tc : Thread Cert.ReferenceOutSIdeal.nD Cert.ReferenceOutSIdeal.τ).loc Cert.ReferenceOutSIdeal.main_arg6) = m ((c.tc : Thread Cert.ReferenceOutSIdeal.nD Cert.ReferenceOutSIdeal.τ).loc Cert.ReferenceOutSIdeal.main_arg6)
      ∧ r.2.mem ((c.tc : Thread Cert.ReferenceOutSIdeal.nD Cert.ReferenceOutSIdeal.τ).loc Cert.ReferenceOutSIdeal.main_arg7) = m ((c.tc : Thread Cert.ReferenceOutSIdeal.nD Cert.ReferenceOutSIdeal.τ).loc Cert.ReferenceOutSIdeal.main_arg7)
      ∧ r.2.mem ((c.tc : Thread Cert.ReferenceOutSIdeal.nD Cert.ReferenceOutSIdeal.τ).loc Cert.ReferenceOutSIdeal.main_arg8) = m ((c.tc : Thread Cert.ReferenceOutSIdeal.nD Cert.ReferenceOutSIdeal.τ).loc Cert.ReferenceOutSIdeal.main_arg8))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v17) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v18) = v0 c
          ∧ r.2.mem ((c.tc : Thread Cert.ReferenceInIdeal.nD Cert.ReferenceInIdeal.τ).loc Cert.ReferenceInIdeal.main_v17) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelInS_KernelInSIdeal : Prop :=
  True

def algebraic_KernelInSIdeal_ReferenceInSIdeal [hKernelInSIdeal : Cert.KernelInSIdeal.Facts] [hReferenceInSIdeal : Cert.ReferenceInSIdeal.Facts] : Prop :=
  ∀ (m : (ℓ : Loc Cert.KernelInSIdeal.nD Cert.KernelInSIdeal.τ Cert.KernelInSIdeal.sig) → Buf (Elt Ideal) ℓ) (g : Dev Cert.KernelInSIdeal.nD → PrngReg)
    (m' : (ℓ : Loc Cert.ReferenceInSIdeal.nD Cert.ReferenceInSIdeal.τ Cert.ReferenceInSIdeal.sig) → Buf (Elt Ideal) ℓ) (g' : Dev Cert.ReferenceInSIdeal.nD → PrngReg), Pre_KernelInSIdeal m →
    (∀ c : Dev Cert.KernelInSIdeal.nD,
      m' ((c.tc : Thread Cert.ReferenceInSIdeal.nD Cert.ReferenceInSIdeal.τ).loc Cert.ReferenceInSIdeal.main_arg0) = m ((c.tc : Thread Cert.KernelInSIdeal.nD Cert.KernelInSIdeal.τ).loc Cert.KernelInSIdeal.main_arg0)
      ∧ m' ((c.tc : Thread Cert.ReferenceInSIdeal.nD Cert.ReferenceInSIdeal.τ).loc Cert.ReferenceInSIdeal.main_arg1) = m ((c.tc : Thread Cert.KernelInSIdeal.nD Cert.KernelInSIdeal.τ).loc Cert.KernelInSIdeal.main_arg1)
      ∧ m' ((c.tc : Thread Cert.ReferenceInSIdeal.nD Cert.ReferenceInSIdeal.τ).loc Cert.ReferenceInSIdeal.main_arg2) = m ((c.tc : Thread Cert.KernelInSIdeal.nD Cert.KernelInSIdeal.τ).loc Cert.KernelInSIdeal.main_arg2)) →
    ∃ (v0 : (c : Dev Cert.KernelInSIdeal.nD) → Buf (Elt Ideal) ((c.tc : Thread Cert.KernelInSIdeal.nD Cert.KernelInSIdeal.τ).loc Cert.KernelInSIdeal.main_v1_0)) (v1 : (c : Dev Cert.KernelInSIdeal.nD) → Buf (Elt Ideal) ((c.tc : Thread Cert.KernelInSIdeal.nD Cert.KernelInSIdeal.τ).loc Cert.KernelInSIdeal.main_v1_1)) (v2 : (c : Dev Cert.KernelInSIdeal.nD) → Buf (Elt Ideal) ((c.tc : Thread Cert.KernelInSIdeal.nD Cert.KernelInSIdeal.τ).loc Cert.KernelInSIdeal.main_v1_2)) (v3 : (c : Dev Cert.KernelInSIdeal.nD) → Buf (Elt Ideal) ((c.tc : Thread Cert.KernelInSIdeal.nD Cert.KernelInSIdeal.τ).loc Cert.KernelInSIdeal.main_v1_3)),
      θ_run (Cert.KernelInSIdeal.defs (F := Ideal)) (onTc (τ := Cert.KernelInSIdeal.τ) (Cert.KernelInSIdeal.main (F := Ideal))) ⟨m, fun _ => 0, g⟩ (fun r => ∀ c : Dev Cert.KernelInSIdeal.nD,
          r.2.mem ((c.tc : Thread Cert.KernelInSIdeal.nD Cert.KernelInSIdeal.τ).loc Cert.KernelInSIdeal.main_v1_0) = v0 c
          ∧ r.2.mem ((c.tc : Thread Cert.KernelInSIdeal.nD Cert.KernelInSIdeal.τ).loc Cert.KernelInSIdeal.main_v1_1) = v1 c
          ∧ r.2.mem ((c.tc : Thread Cert.KernelInSIdeal.nD Cert.KernelInSIdeal.τ).loc Cert.KernelInSIdeal.main_v1_2) = v2 c
          ∧ r.2.mem ((c.tc : Thread Cert.KernelInSIdeal.nD Cert.KernelInSIdeal.τ).loc Cert.KernelInSIdeal.main_v1_3) = v3 c
          ∧ r.2.mem ((c.tc : Thread Cert.KernelInSIdeal.nD Cert.KernelInSIdeal.τ).loc Cert.KernelInSIdeal.main_arg0) = m ((c.tc : Thread Cert.KernelInSIdeal.nD Cert.KernelInSIdeal.τ).loc Cert.KernelInSIdeal.main_arg0)
          ∧ r.2.mem ((c.tc : Thread Cert.KernelInSIdeal.nD Cert.KernelInSIdeal.τ).loc Cert.KernelInSIdeal.main_arg1) = m ((c.tc : Thread Cert.KernelInSIdeal.nD Cert.KernelInSIdeal.τ).loc Cert.KernelInSIdeal.main_arg1)
          ∧ r.2.mem ((c.tc : Thread Cert.KernelInSIdeal.nD Cert.KernelInSIdeal.τ).loc Cert.KernelInSIdeal.main_arg2) = m ((c.tc : Thread Cert.KernelInSIdeal.nD Cert.KernelInSIdeal.τ).loc Cert.KernelInSIdeal.main_arg2))
      ∧ θ_run (Cert.ReferenceInSIdeal.defs (F := Ideal)) (onTc (τ := Cert.ReferenceInSIdeal.τ) (Cert.ReferenceInSIdeal.main (F := Ideal))) ⟨m', fun _ => 0, g'⟩ (fun r => ∀ c : Dev Cert.ReferenceInSIdeal.nD,
          r.2.mem ((c.tc : Thread Cert.ReferenceInSIdeal.nD Cert.ReferenceInSIdeal.τ).loc Cert.ReferenceInSIdeal.main_v26) = v0 c
          ∧ r.2.mem ((c.tc : Thread Cert.ReferenceInSIdeal.nD Cert.ReferenceInSIdeal.τ).loc Cert.ReferenceInSIdeal.main_v27) = v1 c
          ∧ r.2.mem ((c.tc : Thread Cert.ReferenceInSIdeal.nD Cert.ReferenceInSIdeal.τ).loc Cert.ReferenceInSIdeal.main_v28) = v2 c
          ∧ r.2.mem ((c.tc : Thread Cert.ReferenceInSIdeal.nD Cert.ReferenceInSIdeal.τ).loc Cert.ReferenceInSIdeal.main_v31) = v3 c
          ∧ r.2.mem ((c.tc : Thread Cert.ReferenceInSIdeal.nD Cert.ReferenceInSIdeal.τ).loc Cert.ReferenceInSIdeal.main_arg0) = m' ((c.tc : Thread Cert.ReferenceInSIdeal.nD Cert.ReferenceInSIdeal.τ).loc Cert.ReferenceInSIdeal.main_arg0)
          ∧ r.2.mem ((c.tc : Thread Cert.ReferenceInSIdeal.nD Cert.ReferenceInSIdeal.τ).loc Cert.ReferenceInSIdeal.main_arg1) = m' ((c.tc : Thread Cert.ReferenceInSIdeal.nD Cert.ReferenceInSIdeal.τ).loc Cert.ReferenceInSIdeal.main_arg1)
          ∧ r.2.mem ((c.tc : Thread Cert.ReferenceInSIdeal.nD Cert.ReferenceInSIdeal.τ).loc Cert.ReferenceInSIdeal.main_arg2) = m' ((c.tc : Thread Cert.ReferenceInSIdeal.nD Cert.ReferenceInSIdeal.τ).loc Cert.ReferenceInSIdeal.main_arg2))

def preserves_KernelOutS_KernelOutSIdeal : Prop :=
  IdealRules.named_const.Statement Cert.KernelOutSIdeal.κ "inv_384" .f32 0x3B2AAAAB#32 ((1 / 384 : ℝ) : EReal)

def algebraic_KernelOutSIdeal_ReferenceOutSIdeal_pre_finite_z [hKernelOutSIdeal : Cert.KernelOutSIdeal.Facts] [hReferenceOutSIdeal : Cert.ReferenceOutSIdeal.Facts] [hPre_finite_z : Cert.Pre_finite_z.Facts] : Prop :=
  ∀ (m : (ℓ : Loc Cert.KernelOutSIdeal.nD Cert.KernelOutSIdeal.τ Cert.KernelOutSIdeal.sig) → Buf (Elt Ideal) ℓ) (g : Dev Cert.KernelOutSIdeal.nD → PrngReg)
    (m' : (ℓ : Loc Cert.ReferenceOutSIdeal.nD Cert.ReferenceOutSIdeal.τ Cert.ReferenceOutSIdeal.sig) → Buf (Elt Ideal) ℓ) (g' : Dev Cert.ReferenceOutSIdeal.nD → PrngReg), Pre_KernelOutSIdeal_finite_z m →
    (∀ c : Dev Cert.KernelOutSIdeal.nD,
      m' ((c.tc : Thread Cert.ReferenceOutSIdeal.nD Cert.ReferenceOutSIdeal.τ).loc Cert.ReferenceOutSIdeal.main_arg0) = m ((c.tc : Thread Cert.KernelOutSIdeal.nD Cert.KernelOutSIdeal.τ).loc Cert.KernelOutSIdeal.main_arg0)
      ∧ m' ((c.tc : Thread Cert.ReferenceOutSIdeal.nD Cert.ReferenceOutSIdeal.τ).loc Cert.ReferenceOutSIdeal.main_arg1) = m ((c.tc : Thread Cert.KernelOutSIdeal.nD Cert.KernelOutSIdeal.τ).loc Cert.KernelOutSIdeal.main_arg1)
      ∧ m' ((c.tc : Thread Cert.ReferenceOutSIdeal.nD Cert.ReferenceOutSIdeal.τ).loc Cert.ReferenceOutSIdeal.main_arg2) = m ((c.tc : Thread Cert.KernelOutSIdeal.nD Cert.KernelOutSIdeal.τ).loc Cert.KernelOutSIdeal.main_arg2)
      ∧ m' ((c.tc : Thread Cert.ReferenceOutSIdeal.nD Cert.ReferenceOutSIdeal.τ).loc Cert.ReferenceOutSIdeal.main_arg3) = m ((c.tc : Thread Cert.KernelOutSIdeal.nD Cert.KernelOutSIdeal.τ).loc Cert.KernelOutSIdeal.main_arg3)
      ∧ m' ((c.tc : Thread Cert.ReferenceOutSIdeal.nD Cert.ReferenceOutSIdeal.τ).loc Cert.ReferenceOutSIdeal.main_arg4) = m ((c.tc : Thread Cert.KernelOutSIdeal.nD Cert.KernelOutSIdeal.τ).loc Cert.KernelOutSIdeal.main_arg4)
      ∧ m' ((c.tc : Thread Cert.ReferenceOutSIdeal.nD Cert.ReferenceOutSIdeal.τ).loc Cert.ReferenceOutSIdeal.main_arg5) = m ((c.tc : Thread Cert.KernelOutSIdeal.nD Cert.KernelOutSIdeal.τ).loc Cert.KernelOutSIdeal.main_arg5)
      ∧ m' ((c.tc : Thread Cert.ReferenceOutSIdeal.nD Cert.ReferenceOutSIdeal.τ).loc Cert.ReferenceOutSIdeal.main_arg6) = m ((c.tc : Thread Cert.KernelOutSIdeal.nD Cert.KernelOutSIdeal.τ).loc Cert.KernelOutSIdeal.main_arg6)
      ∧ m' ((c.tc : Thread Cert.ReferenceOutSIdeal.nD Cert.ReferenceOutSIdeal.τ).loc Cert.ReferenceOutSIdeal.main_arg7) = m ((c.tc : Thread Cert.KernelOutSIdeal.nD Cert.KernelOutSIdeal.τ).loc Cert.KernelOutSIdeal.main_arg7)
      ∧ m' ((c.tc : Thread Cert.ReferenceOutSIdeal.nD Cert.ReferenceOutSIdeal.τ).loc Cert.ReferenceOutSIdeal.main_arg8) = m ((c.tc : Thread Cert.KernelOutSIdeal.nD Cert.KernelOutSIdeal.τ).loc Cert.KernelOutSIdeal.main_arg8)) →
    ∃ (v0 : (c : Dev Cert.KernelOutSIdeal.nD) → Buf (Elt Ideal) ((c.tc : Thread Cert.KernelOutSIdeal.nD Cert.KernelOutSIdeal.τ).loc Cert.KernelOutSIdeal.main_v0)),
      θ_run (Cert.KernelOutSIdeal.defs (F := Ideal)) (onTc (τ := Cert.KernelOutSIdeal.τ) (Cert.KernelOutSIdeal.main (F := Ideal))) ⟨m, fun _ => 0, g⟩ (fun r => ∀ c : Dev Cert.KernelOutSIdeal.nD,
          r.2.mem ((c.tc : Thread Cert.KernelOutSIdeal.nD Cert.KernelOutSIdeal.τ).loc Cert.KernelOutSIdeal.main_v0) = v0 c
          ∧ r.2.mem ((c.tc : Thread Cert.KernelOutSIdeal.nD Cert.KernelOutSIdeal.τ).loc Cert.KernelOutSIdeal.main_arg0) = m ((c.tc : Thread Cert.KernelOutSIdeal.nD Cert.KernelOutSIdeal.τ).loc Cert.KernelOutSIdeal.main_arg0)
          ∧ r.2.mem ((c.tc : Thread Cert.KernelOutSIdeal.nD Cert.KernelOutSIdeal.τ).loc Cert.KernelOutSIdeal.main_arg1) = m ((c.tc : Thread Cert.KernelOutSIdeal.nD Cert.KernelOutSIdeal.τ).loc Cert.KernelOutSIdeal.main_arg1)
          ∧ r.2.mem ((c.tc : Thread Cert.KernelOutSIdeal.nD Cert.KernelOutSIdeal.τ).loc Cert.KernelOutSIdeal.main_arg2) = m ((c.tc : Thread Cert.KernelOutSIdeal.nD Cert.KernelOutSIdeal.τ).loc Cert.KernelOutSIdeal.main_arg2)
          ∧ r.2.mem ((c.tc : Thread Cert.KernelOutSIdeal.nD Cert.KernelOutSIdeal.τ).loc Cert.KernelOutSIdeal.main_arg3) = m ((c.tc : Thread Cert.KernelOutSIdeal.nD Cert.KernelOutSIdeal.τ).loc Cert.KernelOutSIdeal.main_arg3)
          ∧ r.2.mem ((c.tc : Thread Cert.KernelOutSIdeal.nD Cert.KernelOutSIdeal.τ).loc Cert.KernelOutSIdeal.main_arg4) = m ((c.tc : Thread Cert.KernelOutSIdeal.nD Cert.KernelOutSIdeal.τ).loc Cert.KernelOutSIdeal.main_arg4)
          ∧ r.2.mem ((c.tc : Thread Cert.KernelOutSIdeal.nD Cert.KernelOutSIdeal.τ).loc Cert.KernelOutSIdeal.main_arg5) = m ((c.tc : Thread Cert.KernelOutSIdeal.nD Cert.KernelOutSIdeal.τ).loc Cert.KernelOutSIdeal.main_arg5)
          ∧ r.2.mem ((c.tc : Thread Cert.KernelOutSIdeal.nD Cert.KernelOutSIdeal.τ).loc Cert.KernelOutSIdeal.main_arg6) = m ((c.tc : Thread Cert.KernelOutSIdeal.nD Cert.KernelOutSIdeal.τ).loc Cert.KernelOutSIdeal.main_arg6)
          ∧ r.2.mem ((c.tc : Thread Cert.KernelOutSIdeal.nD Cert.KernelOutSIdeal.τ).loc Cert.KernelOutSIdeal.main_arg7) = m ((c.tc : Thread Cert.KernelOutSIdeal.nD Cert.KernelOutSIdeal.τ).loc Cert.KernelOutSIdeal.main_arg7)
          ∧ r.2.mem ((c.tc : Thread Cert.KernelOutSIdeal.nD Cert.KernelOutSIdeal.τ).loc Cert.KernelOutSIdeal.main_arg8) = m ((c.tc : Thread Cert.KernelOutSIdeal.nD Cert.KernelOutSIdeal.τ).loc Cert.KernelOutSIdeal.main_arg8))
      ∧ θ_run (Cert.ReferenceOutSIdeal.defs (F := Ideal)) (onTc (τ := Cert.ReferenceOutSIdeal.τ) (Cert.ReferenceOutSIdeal.main (F := Ideal))) ⟨m', fun _ => 0, g'⟩ (fun r => ∀ c : Dev Cert.ReferenceOutSIdeal.nD,
          r.2.mem ((c.tc : Thread Cert.ReferenceOutSIdeal.nD Cert.ReferenceOutSIdeal.τ).loc Cert.ReferenceOutSIdeal.main_v36) = v0 c
          ∧ r.2.mem ((c.tc : Thread Cert.ReferenceOutSIdeal.nD Cert.ReferenceOutSIdeal.τ).loc Cert.ReferenceOutSIdeal.main_arg0) = m' ((c.tc : Thread Cert.ReferenceOutSIdeal.nD Cert.ReferenceOutSIdeal.τ).loc Cert.ReferenceOutSIdeal.main_arg0)
          ∧ r.2.mem ((c.tc : Thread Cert.ReferenceOutSIdeal.nD Cert.ReferenceOutSIdeal.τ).loc Cert.ReferenceOutSIdeal.main_arg1) = m' ((c.tc : Thread Cert.ReferenceOutSIdeal.nD Cert.ReferenceOutSIdeal.τ).loc Cert.ReferenceOutSIdeal.main_arg1)
          ∧ r.2.mem ((c.tc : Thread Cert.ReferenceOutSIdeal.nD Cert.ReferenceOutSIdeal.τ).loc Cert.ReferenceOutSIdeal.main_arg2) = m' ((c.tc : Thread Cert.ReferenceOutSIdeal.nD Cert.ReferenceOutSIdeal.τ).loc Cert.ReferenceOutSIdeal.main_arg2)
          ∧ r.2.mem ((c.tc : Thread Cert.ReferenceOutSIdeal.nD Cert.ReferenceOutSIdeal.τ).loc Cert.ReferenceOutSIdeal.main_arg3) = m' ((c.tc : Thread Cert.ReferenceOutSIdeal.nD Cert.ReferenceOutSIdeal.τ).loc Cert.ReferenceOutSIdeal.main_arg3)
          ∧ r.2.mem ((c.tc : Thread Cert.ReferenceOutSIdeal.nD Cert.ReferenceOutSIdeal.τ).loc Cert.ReferenceOutSIdeal.main_arg4) = m' ((c.tc : Thread Cert.ReferenceOutSIdeal.nD Cert.ReferenceOutSIdeal.τ).loc Cert.ReferenceOutSIdeal.main_arg4)
          ∧ r.2.mem ((c.tc : Thread Cert.ReferenceOutSIdeal.nD Cert.ReferenceOutSIdeal.τ).loc Cert.ReferenceOutSIdeal.main_arg5) = m' ((c.tc : Thread Cert.ReferenceOutSIdeal.nD Cert.ReferenceOutSIdeal.τ).loc Cert.ReferenceOutSIdeal.main_arg5)
          ∧ r.2.mem ((c.tc : Thread Cert.ReferenceOutSIdeal.nD Cert.ReferenceOutSIdeal.τ).loc Cert.ReferenceOutSIdeal.main_arg6) = m' ((c.tc : Thread Cert.ReferenceOutSIdeal.nD Cert.ReferenceOutSIdeal.τ).loc Cert.ReferenceOutSIdeal.main_arg6)
          ∧ r.2.mem ((c.tc : Thread Cert.ReferenceOutSIdeal.nD Cert.ReferenceOutSIdeal.τ).loc Cert.ReferenceOutSIdeal.main_arg7) = m' ((c.tc : Thread Cert.ReferenceOutSIdeal.nD Cert.ReferenceOutSIdeal.τ).loc Cert.ReferenceOutSIdeal.main_arg7)
          ∧ r.2.mem ((c.tc : Thread Cert.ReferenceOutSIdeal.nD Cert.ReferenceOutSIdeal.τ).loc Cert.ReferenceOutSIdeal.main_arg8) = m' ((c.tc : Thread Cert.ReferenceOutSIdeal.nD Cert.ReferenceOutSIdeal.τ).loc Cert.ReferenceOutSIdeal.main_arg8))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelOut : Cert.KernelOut.Facts) (hKernelOutIdeal : Cert.KernelOutIdeal.Facts) (hReferenceOutIdeal : Cert.ReferenceOutIdeal.Facts) (hKernelIn : Cert.KernelIn.Facts) (hKernelInIdeal : Cert.KernelInIdeal.Facts) (hReferenceInIdeal : Cert.ReferenceInIdeal.Facts) (hKernelInS : Cert.KernelInS.Facts) (hKernelInSIdeal : Cert.KernelInSIdeal.Facts) (hReferenceInSIdeal : Cert.ReferenceInSIdeal.Facts) (hKernelOutS : Cert.KernelOutS.Facts) (hKernelOutSIdeal : Cert.KernelOutSIdeal.Facts) (hReferenceOutSIdeal : Cert.ReferenceOutSIdeal.Facts) (hKernel : Cert.Kernel.Facts) (hKernelIdeal : Cert.KernelIdeal.Facts) (hReferenceIdeal : Cert.ReferenceIdeal.Facts) (hPre_finite_z : Cert.Pre_finite_z.Facts) (hPre_finite : Cert.Pre_finite.Facts),
    quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelInS (hKernelInS := hKernelInS)
    ∧ quiescent_KernelInSIdeal (hKernelInSIdeal := hKernelInSIdeal)
    ∧ quiescent_ReferenceInSIdeal (hReferenceInSIdeal := hReferenceInSIdeal)
    ∧ quiescent_KernelOutS (hKernelOutS := hKernelOutS)
    ∧ quiescent_KernelOutSIdeal (hKernelOutSIdeal := hKernelOutSIdeal)
    ∧ quiescent_KernelOutSIdeal_pre_finite_z (hKernelOutSIdeal := hKernelOutSIdeal) (hPre_finite_z := hPre_finite_z)
    ∧ quiescent_ReferenceOutSIdeal (hReferenceOutSIdeal := hReferenceOutSIdeal)
    ∧ quiescent_ReferenceOutSIdeal_pre_finite_z (hReferenceOutSIdeal := hReferenceOutSIdeal) (hPre_finite_z := hPre_finite_z)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelIn_KernelInIdeal
    ∧ algebraic_KernelInIdeal_ReferenceInIdeal (hKernelInIdeal := hKernelInIdeal) (hReferenceInIdeal := hReferenceInIdeal)
    ∧ preserves_KernelInS_KernelInSIdeal
    ∧ algebraic_KernelInSIdeal_ReferenceInSIdeal (hKernelInSIdeal := hKernelInSIdeal) (hReferenceInSIdeal := hReferenceInSIdeal)
    ∧ preserves_KernelOutS_KernelOutSIdeal
    ∧ algebraic_KernelOutSIdeal_ReferenceOutSIdeal_pre_finite_z (hKernelOutSIdeal := hKernelOutSIdeal) (hReferenceOutSIdeal := hReferenceOutSIdeal) (hPre_finite_z := hPre_finite_z)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x10240 : Shape := ⟨2, ![8192, 10240]⟩
abbrev S4x256x256 : Shape := ⟨3, ![4, 256, 256]⟩
abbrev S1x1024 : Shape := ⟨2, ![1, 1024]⟩
abbrev S8192x2048 : Shape := ⟨2, ![8192, 2048]⟩
abbrev S_ : Shape := ⟨0, ![]⟩

class Facts : Prop where
  slices_S8192x10240_S8192x2048_0_6144 : S8192x10240.Slices ![0, 6144] S8192x2048
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x10240 .bf16) (main_arg1 : FVec F S4x256x256 .f32) (main_arg2 : FVec F S1x1024 .f32) : IVec S_ 1 :=
  let main_v0 : FVec F S8192x2048 .bf16 := (extractStridedSlice S8192x2048 ![0, 6144] · slices_S8192x10240_S8192x2048_0_6144) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_c : IVec S_ 1 := constantI S_ 1 1#1
  let main_v5 : IVec S_ 1 := (fun x v => Host.reduce IntOp.andi x v reducesTo_S8192x2048_S_d0_1 h_S_) main_v4 main_c
  main_v5
-- ==== Pre_finite_z.lean ====
abbrev S512x1024 : Shape := ⟨2, ![512, 1024]⟩
abbrev S512x3072 : Shape := ⟨2, ![512, 3072]⟩
abbrev S512x10240 : Shape := ⟨2, ![512, 10240]⟩
abbrev S1x3072 : Shape := ⟨2, ![1, 3072]⟩
abbrev S4096x2048 : Shape := ⟨2, ![4096, 2048]⟩
abbrev S512x2048 : Shape := ⟨2, ![512, 2048]⟩
abbrev S1x2048 : Shape := ⟨2, ![1, 2048]⟩
abbrev S_ : Shape := ⟨0, ![]⟩

class Facts : Prop where
  slices_S512x10240_S512x3072_0_0 : S512x10240.Slices ![0, 0] S512x3072
  bitsLt_bf16_f32 : FTy.bits .bf16 < FTy.bits .f32
  bcast_S_S512x3072 : S_.BroadcastsInDim S512x3072 (![] : Fin 0 → Fin S512x3072.rank)
  reducesTo_S512x3072_S_d0_1 : S512x3072.ReducesTo [0, 1] S_
  h_S_ : 0 < S_.numel

variable [Facts]

def fn {F : FTy → Type} [FloatOps F] (main_arg0 : FVec F S512x1024 .bf16) (main_arg1 : FVec F S512x3072 .f32) (main_arg2 : FVec F S512x3072 .f32) (main_arg3 : FVec F S512x3072 .f32) (main_arg4 : FVec F S512x10240 .bf16) (main_arg5 : FVec F S1x3072 .f32) (main_arg6 : FVec F S4096x2048 .bf16) (main_arg7 : FVec F S512x2048 .f32) (main_arg8 : FVec F S1x2048 .f32) : IVec S_ 1 :=
  let main_v0 : FVec F S512x3072 .bf16 := (extractStridedSlice S512x3072 ![0, 0] · slices_S512x10240_S512x3072_0_0) main_arg4
  let main_v1 : FVec F S512x3072 .f32 := (extf .f32 · bitsLt_bf16_f32) main_v0
  let main_v2 : FVec F S512x3072 .f32 := Host.absf main_v1
  let main_cst : FVec F S_ .f32 := constant S_ .f32 0x7F800000#32
  let main_v3 : FVec F S512x3072 .f32 := broadcastInDim S512x3072 ![] bcast_S_S512x3072 main_cst
  let main_v4 : IVec S512x3072 1 := cmpf .olt main_v2 main_v3
  let main_c : IVec S_ 1 := constantI S_ 1 1#1
  let main_v5 : IVec S_ 1 := (fun x v => Host.reduce IntOp.andi x v reducesTo_S512x3072_S_d0_1 h_S_) main_v4 main_c
  main_v5
-- ==== KernelOut.lean ====
abbrev S8192x1024 : Shape := ⟨2, ![8192, 1024]⟩
abbrev S8192x3072 : Shape := ⟨2, ![8192, 3072]⟩
abbrev S4096x2048 : Shape := ⟨2, ![4096, 2048]⟩
abbrev S8192x2048 : Shape := ⟨2, ![8192, 2048]⟩
abbrev S1x2048 : Shape := ⟨2, ![1, 2048]⟩
abbrev S512x1024 : Shape := ⟨2, ![512, 1024]⟩
abbrev S512x3072 : Shape := ⟨2, ![512, 3072]⟩
abbrev S512x2048 : Shape := ⟨2, ![512, 2048]⟩
abbrev S1024x2048 : Shape := ⟨2, ![1024, 2048]⟩
abbrev S3072x2048 : Shape := ⟨2, ![3072, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4096x2048, .bf16⟩
  | .hbm, ⟨3, _⟩ => ⟨S8192x2048, .f32⟩
  | .hbm, ⟨4, _⟩ => ⟨S1x2048, .f32⟩
  | .hbm, ⟨5, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S4096x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S8192x1024 : Shape := ⟨2, ![8192, 1024]⟩
abbrev S8192x3072 : Shape := ⟨2, ![8192, 3072]⟩
abbrev S4096x2048 : Shape := ⟨2, ![4096, 2048]⟩
abbrev S8192x2048 : Shape := ⟨2, ![8192, 2048]⟩
abbrev S1x2048 : Shape := ⟨2, ![1, 2048]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4096x2048, .bf16⟩
  | .hbm, ⟨3, _⟩ => ⟨S8192x2048, .f32⟩
  | .hbm, ⟨4, _⟩ => ⟨S1x2048, .f32⟩
  | .hbm, ⟨5, _⟩ => ⟨S8192x1024, .f32⟩
  | .hbm, ⟨6, _⟩ => ⟨S8192x3072, .f32⟩
  | .hbm, ⟨7, _⟩ => ⟨S8192x4096, .f32⟩
  | .hbm, ⟨8, _⟩ => ⟨S4096x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KernelIn.lean ====
abbrev S8192x2048 : Shape := ⟨2, ![8192, 2048]⟩
abbrev S1x2048 : Shape := ⟨2, ![1, 2048]⟩
abbrev S10240x2048 : Shape := ⟨2, ![10240, 2048]⟩
abbrev S128x2048 : Shape := ⟨2, ![128, 2048]⟩
abbrev S8192x10240 : Shape := ⟨2, ![8192, 10240]⟩
abbrev S8192x128 : Shape := ⟨2, ![8192, 128]⟩
abbrev S1024x2048 : Shape := ⟨2, ![1024, 2048]⟩
abbrev S2048x2048 : Shape := ⟨2, ![2048, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S10240x2048, .bf16⟩
  | .hbm, ⟨3, _⟩ => ⟨S128x2048, .bf16⟩
  | .hbm, ⟨4, _⟩ => ⟨S8192x10240, .bf16⟩
  | .hbm, ⟨5, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S128x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceInIdeal.lean ====
abbrev S8192x2048 : Shape := ⟨2, ![8192, 2048]⟩
abbrev S1x2048 : Shape := ⟨2, ![1, 2048]⟩
abbrev S10240x2048 : Shape := ⟨2, ![10240, 2048]⟩
abbrev S128x2048 : Shape := ⟨2, ![128, 2048]⟩
abbrev S_ : Shape := ⟨0, ![]⟩
abbrev S8192 : Shape := ⟨1, ![8192]⟩
abbrev S8192x1 : Shape := ⟨2, ![8192, 1]⟩
abbrev S2048x10240 : Shape := ⟨2, ![2048, 10240]⟩
abbrev S8192x10240 : Shape := ⟨2, ![8192, 10240]⟩
abbrev S2048x128 : Shape := ⟨2, ![2048, 128]⟩
abbrev S8192x128 : Shape := ⟨2, ![8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S10240x2048, .bf16⟩
  | .hbm, ⟨3, _⟩ => ⟨S128x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S10240x2048, .f32⟩
  | .hbm, ⟨20, _⟩ => ⟨S2048x10240, .f32⟩
  | .hbm, ⟨21, _⟩ => ⟨S8192x10240, .f32⟩
  | .hbm, ⟨22, _⟩ => ⟨S128x2048, .f32⟩
  | .hbm, ⟨23, _⟩ => ⟨S2048x128, .f32⟩
  | .hbm, ⟨24, _⟩ => ⟨S8192x128, .f32⟩
  | .hbm, ⟨25, _⟩ => ⟨S8192x10240, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelInS.lean ====
abbrev S512x2048 : Shape := ⟨2, ![512, 2048]⟩
abbrev S1x2048 : Shape := ⟨2, ![1, 2048]⟩
abbrev S2048x10288 : Shape := ⟨2, ![2048, 10288]⟩
abbrev S10288x2048 : Shape := ⟨2, ![10288, 2048]⟩
abbrev S512x10240 : Shape := ⟨2, ![512, 10240]⟩
abbrev S512x128 : Shape := ⟨2, ![512, 128]⟩
abbrev S10240x2048 : Shape := ⟨2, ![10240, 2048]⟩
abbrev S128x2048 : Shape := ⟨2, ![128, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x10288, .f32⟩
  | .hbm, ⟨3, _⟩ => ⟨S10288x2048, .f32⟩
  | .hbm, ⟨4, _⟩ => ⟨S512x10240, .bf16⟩
  | .hbm, ⟨5, _⟩ => ⟨S512x128, .f32⟩
  | .hbm, ⟨6, _⟩ => ⟨S10240x2048, .bf16⟩
  | .hbm, ⟨7, _⟩ => ⟨S128x2048, .bf16⟩
  | .local _ .vmem, ⟨0, _⟩ => ⟨S512x2048, .f32⟩
  | .local _ .vmem, ⟨1, _⟩ => ⟨S1x2048, .f32⟩
  | .local _ .vmem, ⟨2, _⟩ => ⟨S1024x2048, .f32⟩
  | .local _ .vmem, ⟨3, _⟩ => ⟨S1024x2048, .f32⟩
  | .local _ .vmem, ⟨4, _⟩ => ⟨S128x2048, .f32⟩
  | .local _ .vmem, ⟨5, _⟩ => ⟨S512x1024, .bf16⟩
  | .local _ .vmem, ⟨6, _⟩ => ⟨S512x1024, .bf16⟩
  | .local _ .vmem, ⟨7, _⟩ => ⟨S512x128, .f32⟩
  | .local _ .vmem, ⟨8, _⟩ => ⟨S1024x2048, .bf16⟩
  | .local _ .vmem, ⟨9, _⟩ => ⟨S1024x2048, .bf16⟩
  | .local _ .vmem, ⟨10, _⟩ => ⟨S128x2048, .bf16⟩
  | .local _ .vmem, ⟨11, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨2, ![1, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg1 c6_i32
  let c2_i32 : BitVec 32 := 2#32
  let v1 : BitVec 32 := Scalar.addi arg1 c2_i32
  let c8_i32 : BitVec 32 := 8#32
  let v2 : BitVec 1 := Scalar.cmpi .slt arg1 c8_i32
  let c6_i32_0 : BitVec 32 := 6#32
  let v3 : BitVec 32 := Scalar.subi arg1 c6_i32_0
  let v4 : BitVec 32 := Scalar.select v2 v3 arg1
  let v5 : BitVec 32 := Scalar.select v0 v1 v4
  let c0_i32 : BitVec 32 := 0#32
  let c0_i32_1 : BitVec 32 := 0#32
  ![v5.toNat, c0_i32.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let c0_i32 : BitVec 32 := 0#32
  let c0_i32_0 : BitVec 32 := 0#32
  ![c80_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceInSIdeal.lean ====
abbrev S512x2048 : Shape := ⟨2, ![512, 2048]⟩
abbrev S1x2048 : Shape := ⟨2, ![1, 2048]⟩
abbrev S2048x10288 : Shape := ⟨2, ![2048, 10288]⟩
abbrev S_ : Shape := ⟨0, ![]⟩
abbrev S512 : Shape := ⟨1, ![512]⟩
abbrev S512x1 : Shape := ⟨2, ![512, 1]⟩
abbrev S512x10288 : Shape := ⟨2, ![512, 10288]⟩
abbrev S512x1024 : Shape := ⟨2, ![512, 1024]⟩
abbrev S512x3072 : Shape := ⟨2, ![512, 3072]⟩
abbrev S512x5120 : Shape := ⟨2, ![512, 5120]⟩
abbrev S512x48 : Shape := ⟨2, ![512, 48]⟩
abbrev S512x10240 : Shape := ⟨2, ![512, 10240]⟩
abbrev S10288x2048 : Shape := ⟨2, ![10288, 2048]⟩
abbrev S6144x2048 : Shape := ⟨2, ![6144, 2048]⟩
abbrev S2048x2048 : Shape := ⟨2, ![2048, 2048]⟩
abbrev S10240x2048 : Shape := ⟨2, ![10240, 2048]⟩
abbrev S512x128 : Shape := ⟨2, ![512, 128]⟩
abbrev S48x2048 : Shape := ⟨2, ![48, 2048]⟩
abbrev S128x2048 : Shape := ⟨2, ![128, 2048]⟩

abbrev nBuf : Space → Nat
  | .hbm => 42
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1x2048, .f32⟩
  | .hbm, ⟨2, _⟩ => ⟨S2048x10288, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S512x10288, .f32⟩
  | .hbm, ⟨19, _⟩ => ⟨S512x1024, .f32⟩
  | .hbm, ⟨20, _⟩ => ⟨S512x1024, .f32⟩
  | .hbm, ⟨21, _⟩ => ⟨S512x3072, .f32⟩
  | .hbm, ⟨22, _⟩ => ⟨S512x5120, .f32⟩
  | .hbm, ⟨23, _⟩ => ⟨S512x48, .f32⟩
  | .hbm, ⟨24, _⟩ => ⟨S512x3072, .f32⟩
  | .hbm, ⟨25, _⟩ => ⟨S512x2048, .f32⟩
  | .hbm, ⟨26, _⟩ => ⟨S512x10240, .f32⟩
  | .hbm, ⟨27, _⟩ => ⟨S10288x2048, .f32⟩
  | .hbm, ⟨28, _⟩ => ⟨S6144x2048, .f32⟩
  | .hbm, ⟨29, _⟩ => ⟨S2048x2048, .f32⟩
  | .hbm, ⟨30, _⟩ => ⟨S2048x2048, .f32⟩
  | .hbm, ⟨31, _⟩ => ⟨S10240x2048, .f32⟩
  | .hbm, ⟨32, _⟩ => ⟨S512x10240, .bf16⟩
  | .hbm, ⟨33, _⟩ => ⟨S_, .i32⟩
  | .hbm, ⟨34, _⟩ => ⟨S_, .f32⟩
  | .hbm, ⟨35, _⟩ => ⟨S512x128, .f32⟩
  | .hbm, ⟨36, _⟩ => ⟨S10240x2048, .bf16⟩
  | .hbm, ⟨37, _⟩ => ⟨S48x2048, .f32⟩
  | .hbm, ⟨38, _⟩ => ⟨S_, .i32⟩
  | .hbm, ⟨39, _⟩ => ⟨S_, .f32⟩
  | .hbm, ⟨40, _⟩ => ⟨S128x2048, .f32⟩
  | .hbm, ⟨41, _⟩ => ⟨S128x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_call0_v0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_call1_v0 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== KernelOutS.lean ====
abbrev S512x1024 : Shape := ⟨2, ![512, 1024]⟩
abbrev S512x3072 : Shape := ⟨2, ![512, 3072]⟩
abbrev S512x10240 : Shape := ⟨2, ![512, 10240]⟩
abbrev S1x3072 : Shape := ⟨2, ![1, 3072]⟩
abbrev S4096x2048 : Shape := ⟨2, ![4096, 2048]⟩
abbrev S512x2048 : Shape := ⟨2, ![512, 2048]⟩
abbrev S1x2048 : Shape := ⟨2, ![1, 2048]⟩
abbrev S256x1024 : Shape := ⟨2, ![256, 1024]⟩
abbrev S256x3072 : Shape := ⟨2, ![256, 3072]⟩
abbrev S256x2048 : Shape := ⟨2, ![256, 2048]⟩
abbrev S256x384 : Shape := ⟨2, ![256, 384]⟩
abbrev S256 : Shape := ⟨1, ![256]⟩
abbrev S256x1 : Shape := ⟨2, ![256, 1]⟩
abbrev S1x384 : Shape := ⟨2, ![1, 384]⟩
abbrev S1024x2048 : Shape := ⟨2, ![1024, 2048]⟩
abbrev S3072x2048 : Shape := ⟨2, ![3072, 2048]⟩

abbrev nBuf : Space → Nat
  | .hbm => 10
  | .vmem => 18
  | .smem => 0
  | _ => 0

abbrev bufTy : (tb : Table) → Fin (tcTables nBuf tb) → BufTy
  | .hbm, ⟨0, _⟩ => ⟨S512x1024, .bf16⟩
  | .hbm, ⟨1, _⟩ => ⟨S512x3072, .f32⟩
  | .hbm, ⟨2, _⟩ => ⟨S512x3072, .f32⟩
  | .hbm, ⟨3, _⟩ => ⟨S512x3072, .f32⟩
  | .hbm, ⟨4, _⟩ => ⟨S512x10240, .bf16⟩
  | .hbm, ⟨5, _⟩ => ⟨S1x3072, .f32⟩
  | .hbm, ⟨6, _⟩ => ⟨S4096x2048, .bf16⟩
  | .hbm, ⟨7, _⟩ => ⟨S512x2048, .f32⟩
  | .hbm, ⟨8, _⟩ => ⟨S1x2048, .f32⟩
  | .hbm, ⟨9, _⟩ => ⟨S512x2048, .f32⟩
  | .local _ .vmem, ⟨0, _⟩ => ⟨S256x1024, .bf16⟩
  | .local _ .vmem, ⟨1, _⟩ => ⟨S256x1024, .bf16⟩
  | .local _ .vmem, ⟨2, _⟩ => ⟨S256x3072, .f32⟩
  | .local _ .vmem, ⟨3, _⟩ => ⟨S256x3072, .f32⟩
  | .local _ .vmem, ⟨4, _⟩ => ⟨S256x3072, .f32⟩
  | .local _ .vmem, ⟨5, _⟩ => ⟨S256x3072, .f32⟩
  | .local _ .vmem, ⟨6, _⟩ => ⟨S256x3072, .f32⟩
  | .local _ .vmem, ⟨7, _⟩ => ⟨S256x3072, .f32⟩
  | .local _ .vmem, ⟨8, _⟩ => ⟨S256x3072, .bf16⟩
  | .local _ .vmem, ⟨9, _⟩ => ⟨S256x3072, .bf16⟩
  | .local _ .vmem, ⟨10, _⟩ => ⟨S1x3072, .f32⟩
  | .local _ .vmem, ⟨11, _⟩ => ⟨S4096x2048, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | .local _ .vmem, ⟨17, _⟩ => ⟨S256x3072, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelOutSIdeal.lean ====
variable {F : FTy → Type} [FloatOps F] [Named F]
def κ : String → Option EReal := fun
  | "inv_384" => some ((1 / 384 : ℝ) : EReal)
  | _ => none
-- ==== ReferenceOutSIdeal.lean ====
abbrev S512x1024 : Shape := ⟨2, ![512, 1024]⟩
abbrev S512x3072 : Shape := ⟨2, ![512, 3072]⟩
abbrev S512x10240 : Shape := ⟨2, ![512, 10240]⟩
abbrev S1x3072 : Shape := ⟨2, ![1, 3072]⟩
abbrev S4096x2048 : Shape := ⟨2, ![4096, 2048]⟩
abbrev S512x2048 : Shape := ⟨2, ![512, 2048]⟩
abbrev S1x2048 : Shape := ⟨2, ![1, 2048]⟩
abbrev S_ : Shape := ⟨0, ![]⟩
abbrev S512x8x384 : Shape := ⟨3, ![512, 8, 384]⟩
abbrev S512x8 : Shape := ⟨2, ![512, 8]⟩
abbrev S512x8x1 : Shape := ⟨3, ![512, 8, 1]⟩
abbrev S512x4096 : Shape := ⟨2, ![512, 4096]⟩
abbrev S512 : Shape := ⟨1, ![512]⟩
abbrev S512x1 : Shape := ⟨2, ![512, 1]⟩

abbrev nBuf : Space → Nat
  | .hbm => 60
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x3072, .f32⟩
  | .hbm, ⟨2, _⟩ => ⟨S512x3072, .f32⟩
  | .hbm, ⟨3, _⟩ => ⟨S512x3072, .f32⟩
  | .hbm, ⟨4, _⟩ => ⟨S512x10240, .bf16⟩
  | .hbm, ⟨5, _⟩ => ⟨S1x3072, .f32⟩
  | .hbm, ⟨6, _⟩ => ⟨S4096x2048, .bf16⟩
  | .hbm, ⟨7, _⟩ => ⟨S512x2048, .f32⟩
  | .hbm, ⟨8, _⟩ => ⟨S1x2048, .f32⟩
  | .hbm, ⟨9, _⟩ => ⟨S512x3072, .f32⟩
  | .hbm, ⟨10, _⟩ => ⟨S512x3072, .f32⟩
  | .hbm, ⟨11, _⟩ => ⟨S512x3072, .bf16⟩
  | .hbm, ⟨12, _⟩ => ⟨S512x3072, .f32⟩
  | .hbm, ⟨13, _⟩ => ⟨S512x3072, .f32⟩
  | .hbm, ⟨14, _⟩ => ⟨S512x3072, .f32⟩
  | .hbm, ⟨15, _⟩ => ⟨S_, .f32⟩
  | .hbm, ⟨16, _⟩ => ⟨S512x3072, .f32⟩
  | .hbm, ⟨17, _⟩ => ⟨S512x3072, .f32⟩
  | .hbm, ⟨18, _⟩ => ⟨S_, .f32⟩
  | .hbm, ⟨19, _⟩ => ⟨S512x3072, .f32⟩
  | .hbm, ⟨20, _⟩ => ⟨S512x3072, .f32⟩
  | .hbm, ⟨21, _⟩ => ⟨S512x3072, .f32⟩
  | .hbm, ⟨22, _⟩ => ⟨S512x3072, .f32⟩
  | .hbm, ⟨23, _⟩ => ⟨S512x8x384, .f32⟩
  | .hbm, ⟨24, _⟩ => ⟨S512x8x384, .f32⟩
  | .hbm, ⟨25, _⟩ => ⟨S_, .f32⟩
  | .hbm, ⟨26, _⟩ => ⟨S512x8, .f32⟩
  | .hbm, ⟨27, _⟩ => ⟨S512x8x1, .f32⟩
  | .hbm, ⟨28, _⟩ => ⟨S_, .f32⟩
  | .hbm, ⟨29, _⟩ => ⟨S512x8x1, .f32⟩
  | .hbm, ⟨30, _⟩ => ⟨S512x8x1, .f32⟩
  | .hbm, ⟨31, _⟩ => ⟨S_, .f32⟩
  | .hbm, ⟨32, _⟩ => ⟨S512x8x1, .f32⟩
  | .hbm, ⟨33, _⟩ => ⟨S512x8x1, .f32⟩
  | .hbm, ⟨34, _⟩ => ⟨S512x8x1, .f32⟩
  | .hbm, ⟨35, _⟩ => ⟨S512x8x384, .f32⟩
  | .hbm, ⟨36, _⟩ => ⟨S512x8x384, .f32⟩
  | .hbm, ⟨37, _⟩ => ⟨S512x3072, .f32⟩
  | .hbm, ⟨38, _⟩ => ⟨S512x3072, .f32⟩
  | .hbm, ⟨39, _⟩ => ⟨S512x3072, .f32⟩
  | .hbm, ⟨40, _⟩ => ⟨S512x1024, .f32⟩
  | .hbm, ⟨41, _⟩ => ⟨S512x4096, .f32⟩
  | .hbm, ⟨42, _⟩ => ⟨S4096x2048, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512, .f32⟩
  | .hbm, ⟨48, _⟩ => ⟨S512x1, .f32⟩
  | .hbm, ⟨49, _⟩ => ⟨S_, .f32⟩
  | .hbm, ⟨50, _⟩ => ⟨S512x1, .f32⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S512x1, .f32⟩
  | .hbm, ⟨56, _⟩ => ⟨S512x2048, .f32⟩
  | .hbm, ⟨57, _⟩ => ⟨S512x2048, .f32⟩
  | .hbm, ⟨58, _⟩ => ⟨S512x2048, .f32⟩
  | .hbm, ⟨59, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]
-- ==== Kernel.lean ====
abbrev S8192x10240 : Shape := ⟨2, ![8192, 10240]⟩
abbrev S4x256x256 : Shape := ⟨3, ![4, 256, 256]⟩
abbrev S1x1024 : Shape := ⟨2, ![1, 1024]⟩
abbrev S8192x1024 : Shape := ⟨2, ![8192, 1024]⟩
abbrev S4x15x1024 : Shape := ⟨3, ![4, 15, 1024]⟩
abbrev S512x1024 : Shape := ⟨2, ![512, 1024]⟩
abbrev S1x15x1024 : Shape := ⟨3, ![1, 15, 1024]⟩
abbrev S528x1024 : Shape := ⟨2, ![528, 1024]⟩
abbrev S16x1024 : Shape := ⟨2, ![16, 1024]⟩
abbrev S512x1 : Shape := ⟨2, ![512, 1]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x256 : Shape := ⟨2, ![1, 256]⟩
abbrev S15x1024 : Shape := ⟨2, ![15, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x10240, .bf16⟩
  | .hbm, ⟨1, _⟩ => ⟨S4x256x256, .f32⟩
  | .hbm, ⟨2, _⟩ => ⟨S1x1024, .f32⟩
  | .hbm, ⟨3, _⟩ => ⟨S8192x1024, .bf16⟩
  | .hbm, ⟨4, _⟩ => ⟨S4x15x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S4x256x256, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x15x1024, .f32⟩
  | .local _ .vmem, ⟨9, _⟩ => ⟨S1x15x1024, .f32⟩
  | .local _ .vmem, ⟨10, _⟩ => ⟨S528x1024, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v152 : BitVec 1 := Scalar.cmpi .eq arg1 c3_i32
  let v153 : BitVec 32 := Scalar.extui v152
  let c0_i32_65 : BitVec 32 := 0#32
  let v154 : BitVec 1 := Scalar.cmpi .ne v153 c0_i32_65
  v154

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c7_i32 : BitVec 32 := 7#32
  let c0_i32 : BitVec 32 := 0#32
  ![v1.toNat, c7_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x15x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S8192x10240 : Shape := ⟨2, ![8192, 10240]⟩
abbrev S4x256x256 : Shape := ⟨3, ![4, 256, 256]⟩
abbrev S1x1024 : Shape := ⟨2, ![1, 1024]⟩
abbrev S4x2048x10240 : Shape := ⟨3, ![4, 2048, 10240]⟩
abbrev S4x2048x1024 : Shape := ⟨3, ![4, 2048, 1024]⟩
abbrev S_ : Shape := ⟨0, ![]⟩
abbrev S4x15x1024 : Shape := ⟨3, ![4, 15, 1024]⟩
abbrev S4x2063x1024 : Shape := ⟨3, ![4, 2063, 1024]⟩
abbrev S4x2064x1024 : Shape := ⟨3, ![4, 2064, 1024]⟩
abbrev S2048 : Shape := ⟨1, ![2048]⟩
abbrev S4x2048x256 : Shape := ⟨3, ![4, 2048, 256]⟩
abbrev S1x2048x1 : Shape := ⟨3, ![1, 2048, 1]⟩
abbrev S4x2048x1x256 : Shape := ⟨4, ![4, 2048, 1, 256]⟩
abbrev S4x2048x4x256 : Shape := ⟨4, ![4, 2048, 4, 256]⟩
abbrev S4x256x4x2048 : Shape := ⟨4, ![4, 256, 4, 2048]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S4x256x256, .f32⟩
  | .hbm, ⟨2, _⟩ => ⟨S1x1024, .f32⟩
  | .hbm, ⟨3, _⟩ => ⟨S8192x10240, .f32⟩
  | .hbm, ⟨4, _⟩ => ⟨S4x2048x10240, .f32⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x15x1024, .f32⟩
  | .hbm, ⟨9, _⟩ => ⟨S4x2063x1024, .f32⟩
  | .hbm, ⟨10, _⟩ => ⟨S_, .i32⟩
  | .hbm, ⟨11, _⟩ => ⟨S_, .f32⟩
  | .hbm, ⟨12, _⟩ => ⟨S4x2064x1024, .f32⟩
  | .hbm, ⟨13, _⟩ => ⟨S_, .f32⟩
  | .hbm, ⟨14, _⟩ => ⟨S_, .f32⟩
  | .hbm, ⟨15, _⟩ => ⟨S4x2064x1024, .f32⟩
  | .hbm, ⟨16, _⟩ => ⟨S2048, .i32⟩
  | .hbm, ⟨17, _⟩ => ⟨S4x2048x256, .f32⟩
  | .hbm, ⟨18, _⟩ => ⟨S4x2048x256, .f32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S1x2048x1, .f32⟩
  | .hbm, ⟨27, _⟩ => ⟨S4x2048x256, .f32⟩
  | .hbm, ⟨28, _⟩ => ⟨S4x2048x256, .f32⟩
  | .hbm, ⟨29, _⟩ => ⟨S4x2048x256, .f32⟩
  | .hbm, ⟨30, _⟩ => ⟨S4x2048x256, .f32⟩
  | .hbm, ⟨31, _⟩ => ⟨S4x2048x256, .f32⟩
  | .hbm, ⟨32, _⟩ => ⟨S4x2048x256, .f32⟩
  | .hbm, ⟨33, _⟩ => ⟨S4x2048x256, .f32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .f32⟩
  | .hbm, ⟨41, _⟩ => ⟨S1x2048x1, .f32⟩
  | .hbm, ⟨42, _⟩ => ⟨S4x2048x256, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S4x2048x256, .f32⟩
  | .hbm, ⟨47, _⟩ => ⟨S4x2048x256, .f32⟩
  | .hbm, ⟨48, _⟩ => ⟨S4x2048x256, .f32⟩
  | .hbm, ⟨49, _⟩ => ⟨S_, .i32⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .f32⟩
  | .hbm, ⟨56, _⟩ => ⟨S1x2048x1, .f32⟩
  | .hbm, ⟨57, _⟩ => ⟨S4x2048x256, .f32⟩
  | .hbm, ⟨58, _⟩ => ⟨S4x2048x256, .f32⟩
  | .hbm, ⟨59, _⟩ => ⟨S4x2048x256, .f32⟩
  | .hbm, ⟨60, _⟩ => ⟨S4x2048x256, .f32⟩
  | .hbm, ⟨61, _⟩ => ⟨S4x2048x256, .f32⟩
  | .hbm, ⟨62, _⟩ => ⟨S4x2048x256, .f32⟩
  | .hbm, ⟨63, _⟩ => ⟨S4x2048x256, .f32⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S2048, .f32⟩
  | .hbm, ⟨71, _⟩ => ⟨S1x2048x1, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S4x2048x256, .f32⟩
  | .hbm, ⟨76, _⟩ => ⟨S4x2048x256, .f32⟩
  | .hbm, ⟨77, _⟩ => ⟨S4x2048x1x256, .f32⟩
  | .hbm, ⟨78, _⟩ => ⟨S4x2048x1x256, .f32⟩
  | .hbm, ⟨79, _⟩ => ⟨S4x2048x1x256, .f32⟩
  | .hbm, ⟨80, _⟩ => ⟨S4x2048x1x256, .f32⟩
  | .hbm, ⟨81, _⟩ => ⟨S4x2048x4x256, .f32⟩
  | .hbm, ⟨82, _⟩ => ⟨S4x256x4x2048, .f32⟩
  | .hbm, ⟨83, _⟩ => ⟨S4x2048x4x256, .f32⟩
  | .hbm, ⟨84, _⟩ => ⟨S4x2048x1024, .f32⟩
  | .hbm, ⟨85, _⟩ => ⟨S1024, .f32⟩
  | .hbm, ⟨86, _⟩ => ⟨S1x1x1024, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S4x2048x1024, .f32⟩
  | .hbm, ⟨91, _⟩ => ⟨S_, .f32⟩
  | .hbm, ⟨92, _⟩ => ⟨S4x2048x1024, .f32⟩
  | .hbm, ⟨93, _⟩ => ⟨S4x2048x1024, .f32⟩
  | .hbm, ⟨94, _⟩ => ⟨S_, .f32⟩
  | .hbm, ⟨95, _⟩ => ⟨S4x2048x1024, .f32⟩
  | .hbm, ⟨96, _⟩ => ⟨S4x2048x1024, .f32⟩
  | .hbm, ⟨97, _⟩ => ⟨S4x2048x1024, .f32⟩
  | .hbm, ⟨98, _⟩ => ⟨S4x2048x1024, .f32⟩
  | .hbm, ⟨99, _⟩ => ⟨S8192x1024, .f32⟩
  | .hbm, ⟨100, _⟩ => ⟨S8192x1024, .bf16⟩
  | .hbm, ⟨101, _⟩ => ⟨S4x15x1024, .f32⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_call1_call0_cst : Ref sig .tc := ⟨.hbm, 13, rfl⟩
abbrev main_call1_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_4 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_6 : Ref sig .tc := ⟨.hbm, 64, rfl⟩
abbrev main_v50 : Ref sig .tc := ⟨.hbm, 65, rfl⟩
abbrev main_v51 : Ref sig .tc := ⟨.hbm, 66, rfl⟩
abbrev main_c_7 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_call2_v0 : Ref sig .tc := ⟨.hbm, 89, rfl⟩
abbrev main_call2_v1 : Ref sig .tc := ⟨.hbm, 90, rfl⟩
abbrev main_call2_cst : Ref sig .tc := ⟨.hbm, 91, rfl⟩
abbrev main_call2_v2 : Ref sig .tc := ⟨.hbm, 92, rfl⟩
abbrev main_call2_v3 : Ref sig .tc := ⟨.hbm, 93, rfl⟩
abbrev main_call2_cst_0 : Ref sig .tc := ⟨.hbm, 94, rfl⟩
abbrev main_call2_v4 : Ref sig .tc := ⟨.hbm, 95, rfl⟩
abbrev main_call2_v5 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Proof.OutValue.lean ====
/-
  The output projection's value at the extended reals: what the tiled kernel writes is, entry by entry, the row-normalised
  residual sum that the reference computes on the host.
-/
module

public import proofs.«01_k».proof.Defs
public import proofs.«01_k».proof.Proof.Gen.KernelOutIdeal.Value
public import proofs.«01_k».proof.Proof.Gen.ReferenceOutIdeal.Run
public import proofs.«01_k».proof.Proof.Gen.ReferenceOutIdeal.Read
public import Idealize.ShloMosaic.Lib.MatmulPlain
public import Idealize.ShloMosaic.Lib.Pipeline.Value
public import Idealize.ShloMosaic.PureOps.Ideal.Laws

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.OutValue

/-- One entry of a row after the final norm: the row's entry over the root of its mean square plus the small constant,
    times the gain. -/
def normed (row : Fin 2048 → EReal) (g : EReal) (q : Fin 2048) : EReal :=
  row q * Ideal.rsqrt (Ideal.div (∑ k : Fin 2048, row k * row k) (Ideal.ofBits .f32 0x45000000#32)
    + Ideal.ofBits .f32 0x3727C5AC#32) * g

/-- Row `R` of the residual sum: the input's row plus the two mixers' outputs through the two row ranges of the weight. -/
def resid (a : (⟨2, ![8192, 1024]⟩ : Shape).Idx → EReal) (b : (⟨2, ![8192, 3072]⟩ : Shape).Idx → EReal)
    (w : (⟨2, ![4096, 2048]⟩ : Shape).Idx → EReal) (x : (⟨2, ![8192, 2048]⟩ : Shape).Idx → EReal)
    (R : Fin 8192) (q : Fin 2048) : EReal :=
  x (ix2 R q) + ((∑ k : Fin 1024, a (ix2 R k) * w (ix2 ⟨k.val, by omega⟩ q))
    + ∑ k : Fin 3072, b (ix2 R k) * w (ix2 ⟨1024 + k.val, by omega⟩ q))

/-- The whole result array as one function of the five arguments. -/
def G (a : (⟨2, ![8192, 1024]⟩ : Shape).Idx → EReal) (b : (⟨2, ![8192, 3072]⟩ : Shape).Idx → EReal)
    (w : (⟨2, ![4096, 2048]⟩ : Shape).Idx → EReal) (x : (⟨2, ![8192, 2048]⟩ : Shape).Idx → EReal)
    (g : (⟨2, ![1, 2048]⟩ : Shape).Idx → EReal) : (⟨2, ![8192, 2048]⟩ : Shape).Idx → EReal :=
  fun i => normed (resid a b w x (i 0)) (g (ix2 0 (i 1))) (i 1)

/-- A sum over 4096 positions is the sum over the first 1024 plus the sum over the last 3072. -/
theorem sum_split (f : Fin 4096 → EReal) :
    ∑ k : Fin 4096, f k = (∑ k : Fin 1024, f ⟨k.val, by omega⟩) + ∑ k : Fin 3072, f ⟨1024 + k.val, by omega⟩ :=
  Fin.sum_univ_add (a := 1024) (b := 3072) f

/-! ## The reference -/

section Ref
open Cert.ReferenceOutIdeal Cert.ReferenceOutIdeal.Gen Cert.ReferenceOutIdeal.Read

variable (a : (⟨2, ![8192, 1024]⟩ : Shape).Idx → EReal) (b : (⟨2, ![8192, 3072]⟩ : Shape).Idx → EReal)
  (w : (⟨2, ![4096, 2048]⟩ : Shape).Idx → EReal) (x : (⟨2, ![8192, 2048]⟩ : Shape).Idx → EReal)
  (g : (⟨2, ![1, 2048]⟩ : Shape).Idx → EReal)

/-- The reference's joined operand in its first 1024 columns is the first mixer's output. -/
theorem cat_left (R : Fin 8192) (k : Fin 1024) :
    val_main_v2 (F := Ideal) a b (ix2 R ⟨k.val, by omega⟩) = a (ix2 R k) := by
  unfold val_main_v2
  exact concatenate_pair_apply_left (t := S8192x4096) (s₁ := S8192x1024) (s₂ := S8192x3072) 1 _ _ _ (ix2 R ⟨k.val, by omega⟩) rfl (ix2 R k)
    (fun d => by match d with | ⟨0, _⟩ => rfl | ⟨1, _⟩ => rfl)

/-- … and in its last 3072 columns the second mixer's output. -/
theorem cat_right (R : Fin 8192) (k : Fin 3072) :
    val_main_v2 (F := Ideal) a b (ix2 R ⟨1024 + k.val, by omega⟩) = b (ix2 R k) := by
  unfold val_main_v2
  exact concatenate_pair_apply_right (t := S8192x4096) (s₁ := S8192x1024) (s₂ := S8192x3072) 1 _ _ _ (ix2 R ⟨1024 + k.val, by omega⟩) rfl rfl (ix2 R k)
    (fun d hd => by match d with | ⟨0, _⟩ => rfl | ⟨1, _⟩ => exact absurd rfl hd)
    (by show k.val + 1024 = 1024 + k.val; omega)

/-- The reference's residual sum at row `R`. -/
theorem ref_resid (R : Fin 8192) (q : Fin 2048) :
    val_main_v5 (F := Ideal) a b w x (ix2 R q) = resid a b w x R q := by
  rw [val_main_v5_apply, val_main_v4_apply, sum_split]
  simp only [Ideal.addf_def]
  unfold resid
  refine congrArg (x (ix2 R q) + ·) (congrArg₂ (· + ·) (Finset.sum_congr rfl fun k _ => ?_) (Finset.sum_congr rfl fun k _ => ?_))
  · rw [show lidx_main_v4 (ix2 R q) ⟨k.val, by omega⟩ = ix2 R ⟨k.val, by omega⟩ from
      funext fun d => by match d with | ⟨0, _⟩ => rfl | ⟨1, _⟩ => rfl, cat_left]
    refine congrArg (a (ix2 R k) * w ·) (funext fun d => by match d with | ⟨0, _⟩ => rfl | ⟨1, _⟩ => rfl)
  · rw [show lidx_main_v4 (ix2 R q) ⟨1024 + k.val, by omega⟩ = ix2 R ⟨1024 + k.val, by omega⟩ from
      funext fun d => by match d with | ⟨0, _⟩ => rfl | ⟨1, _⟩ => rfl, cat_right]
    refine congrArg (b (ix2 R k) * w ·) (funext fun d => by match d with | ⟨0, _⟩ => rfl | ⟨1, _⟩ => rfl)

/-- The reference's result is `G` of its arguments. -/
theorem ref_eq : val_main_v17 (F := Ideal) a b w x g = G a b w x g := by
  funext i
  obtain ⟨R, q, rfl⟩ : ∃ (R : Fin 8192) (q : Fin 2048), i = ix2 R q := ⟨i 0, i 1, eq_ix2 i⟩
  rw [val_main_v17_apply, val_main_v15_apply, val_main_v16_apply, val_main_v14_apply, val_main_v13_apply, val_main_v12_apply,
    val_main_v11_apply, val_main_v10_apply, val_main_v9_apply, val_main_v8_apply, val_main_v7_apply, val_main_cst_1_apply,
    val_main_cst_0_apply, val_main_cst_apply, ref_resid]
  simp only [Ideal.mulf_def, Ideal.addf_def, Ideal.hostDivf_def, Ideal.hostUnary_rsqrt_def, Ideal.ofBits_def, Ideal.ofBits_zero_f32,
    zero_add]
  have hs : ∀ k : Fin 2048, val_main_v6 (F := Ideal) a b w x (idx_main_v7 (idx_main_v8 (idx_main_v14 (ix2 R q))) k)
      = resid a b w x R k * resid a b w x R k := fun k => by
    rw [show idx_main_v7 (idx_main_v8 (idx_main_v14 (ix2 R q))) k = ix2 R k from
      funext fun d => by match d with | ⟨0, _⟩ => rfl | ⟨1, _⟩ => rfl, val_main_v6_apply, ref_resid]
    rfl
  rw [Finset.sum_congr rfl fun k _ => hs k]
  exact congrArg _ (congrArg g (funext fun d => by match d with | ⟨0, _⟩ => rfl | ⟨1, _⟩ => rfl))

end Ref

/-! ## The kernel -/

section Ker
open Cert.KernelOutIdeal Cert.KernelOutIdeal.Gen

/-- The residual row a grid point computes from its loaded blocks. -/
def tileRow (v0 : S512x1024.Idx → EReal) (v1 : S1024x2048.Idx → EReal) (v3 : S512x3072.Idx → EReal) (v4 : S3072x2048.Idx → EReal)
    (v7 : S512x2048.Idx → EReal) (r : Fin 512) (q : Fin 2048) : EReal :=
  v7 (ix2 r q) + ((∑ k : Fin 1024, v0 (ix2 r k) * v1 (ix2 k q)) + ∑ k : Fin 3072, v3 (ix2 r k) * v4 (ix2 k q))

/-- The point's stored value at an entry of its tile. -/
theorem pay_apply (v0 : Vec Ideal S512x1024 .bf16) (v1 : Vec Ideal S1024x2048 .bf16) (v3 : Vec Ideal S512x3072 .bf16)
    (v4 : Vec Ideal S3072x2048 .bf16) (v7 : Vec Ideal S512x2048 .f32) (v19 : Vec Ideal S1x2048 .f32) (r : Fin 512) (q : Fin 2048) :
    k0_pay1 (F := Ideal) v0 v1 v3 v4 v7 v19 (ix2 r q) = normed (tileRow v0 v1 v3 v4 v7 r) (v19 (ix2 0 q)) q := by
  have e1 : ∀ (r : Fin 512) (q : Fin 2048), matmul (F := Ideal) dot_S512x1024_S1024x2048_S512x2048_1_0_0_1_n_n none v0 v1
      (constant S512x2048 .f32 0x00000000#32) (ix2 r q) = ∑ k : Fin 1024, v0 (ix2 r k) * v1 (ix2 k q) := fun r q => by
    refine (Ideal.matmul_plain_apply (M := 512) (K := 1024) (N := 2048) none v0 v1 _ r q).trans ?_
    rw [constant_apply, Ideal.ofBits_zero_f32, zero_add]
  have e2 : ∀ (r : Fin 512) (q : Fin 2048), matmul (F := Ideal) dot_S512x3072_S3072x2048_S512x2048_1_0_0_1_n_n none v3 v4
      (constant S512x2048 .f32 0x00000000#32) (ix2 r q) = ∑ k : Fin 3072, v3 (ix2 r k) * v4 (ix2 k q) := fun r q => by
    refine (Ideal.matmul_plain_apply (M := 512) (K := 3072) (N := 2048) none v3 v4 _ r q).trans ?_
    rw [constant_apply, Ideal.ofBits_zero_f32, zero_add]
  unfold k0_pay1
  dsimp only
  have eH : ∀ (r : Fin 512) (q : Fin 2048), addf (F := Ideal) v7 (addf
      (matmul (F := Ideal) dot_S512x1024_S1024x2048_S512x2048_1_0_0_1_n_n none v0 v1 (constant S512x2048 .f32 0x00000000#32))
      (matmul (F := Ideal) dot_S512x3072_S3072x2048_S512x2048_1_0_0_1_n_n none v3 v4 (constant S512x2048 .f32 0x00000000#32))) (ix2 r q)
      = tileRow v0 v1 v3 v4 v7 r q := fun r q => by
    rw [addf_apply, addf_apply, e1, e2]; rfl
  generalize addf (F := Ideal) v7 (addf
      (matmul (F := Ideal) dot_S512x1024_S1024x2048_S512x2048_1_0_0_1_n_n none v0 v1 (constant S512x2048 .f32 0x00000000#32))
      (matmul (F := Ideal) dot_S512x3072_S3072x2048_S512x2048_1_0_0_1_n_n none v3 v4 (constant S512x2048 .f32 0x00000000#32))) = H at eH ⊢
  rw [mulf_apply, mulf_apply, eH]
  unfold normed
  refine congrArg₂ (· * ·) (congrArg (tileRow v0 v1 v3 v4 v7 r q * ·) ?_) ?_
  · refine (broadcastTo_apply _ _ (ix2 r q) (ix2 r 0) (fun d => by match d with | ⟨0, _⟩ => rfl | ⟨1, _⟩ => rfl)).trans ?_
    show Ideal.rsqrt (Ideal.div _ _ + _) = _
    refine congrArg Ideal.rsqrt (congrArg₂ (· + ·) (congrArg₂ Ideal.div ?_ rfl) rfl)
    refine (shapeCast_apply _ _ (ix2 r 0) (ix1 r) ?_).trans ?_
    · rfl
    refine (Ideal.multiReduction_add_single _ _ _ _ _ _).trans ?_
    refine Finset.sum_congr rfl fun k _ => ?_
    rw [mulf_apply]
    rw [show (reduces_S512x2048_S512 : S512x2048.Reduces [1] S512).lift (ix1 r) k = ix2 r k from
      funext fun d => by match d with | ⟨0, _⟩ => rfl | ⟨1, _⟩ => rfl]
    exact congrArg₂ (· * ·) (eH r k) (eH r k)
  · exact broadcastTo_apply _ _ (ix2 r q) (ix2 0 q) (fun d => by match d with | ⟨0, _⟩ => rfl | ⟨1, _⟩ => rfl)

end Ker

end Cert.OutValue
-- ==== Proof.OutClaim.lean ====
/-
  The output projection's claim: each grid point writes its 512 rows of `G`, the 16 blocks tile the array, so both
  programs end holding the same function of the arguments.
-/
module

public import proofs.«01_k».proof.Proof.OutValue

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.OutValue

section Ker
open Cert.KernelOutIdeal Cert.KernelOutIdeal.Gen

variable (m : (ℓ : Loc nD τ sig) → Buf (Elt Ideal) ℓ) (ρ : Dev nD → PrngReg)

/-- The arguments of device `c`, as plain functions. -/
abbrev mA (c : Dev nD) : (⟨2, ![8192, 1024]⟩ : Shape).Idx → EReal := m ((c.tc : Thread nD τ).loc main_arg0)
abbrev mB (c : Dev nD) : (⟨2, ![8192, 3072]⟩ : Shape).Idx → EReal := m ((c.tc : Thread nD τ).loc main_arg1)
abbrev mW (c : Dev nD) : (⟨2, ![4096, 2048]⟩ : Shape).Idx → EReal := m ((c.tc : Thread nD τ).loc main_arg2)
abbrev mX (c : Dev nD) : (⟨2, ![8192, 2048]⟩ : Shape).Idx → EReal := m ((c.tc : Thread nD τ).loc main_arg3)
abbrev mG (c : Dev nD) : (⟨2, ![1, 2048]⟩ : Shape).Idx → EReal := m ((c.tc : Thread nD τ).loc main_arg4)

/-- The result array both programs are shown to end with. -/
abbrev result (c : Dev nD) : (⟨2, ![8192, 2048]⟩ : Shape).Idx → EReal := G (mA m c) (mB m c) (mW m c) (mX m c) (mG m c)

/-- The block indices of the six windows at every grid point: the row-blocked ones at the point's number, the others at zero. -/
theorem idx_all : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = 0 ∧ win0_4.index t 1 = 0 ∧ win0_5.index t 0 = t.val ∧ win0_5.index t 1 = 0 :=
  (by decide +kernel : ∀ t : Fin grid0.N, _)

/-- Row `r` of point `t`'s blocks is row `512·t + r` of the arrays. -/
abbrev row (t : Fin cfg0.N) (r : Fin 512) : Fin 8192 :=
  ⟨512 * t.val + r.val, by have h : t.val < 16 := t.isLt; have := r.isLt; omega⟩

theorem blk0 (c : Dev nD) (t : Fin cfg0.N) (r : Fin 512) (k : Fin 1024) :
    (iblk m c 0 t : S512x1024.Idx → EReal) (ix2 r k) = mA m c (ix2 (row t r) k) := by
  obtain ⟨h0, h1, -⟩ := idx_all t
  unfold iblk
  rw [View.read_apply]
  show m _ _ = m _ _
  refine congrArg (m ((c.tc : Thread nD τ).loc main_arg0)) (funext fun a => Fin.ext ?_)
  match a with
  | ⟨0, _⟩ => show win0_0.index t 0 * 512 + 1 * r.val = 512 * t.val + r.val; rw [h0]; omega
  | ⟨1, _⟩ => show win0_0.index t 1 * 1024 + 1 * k.val = k.val; rw [h1]; omega

theorem blk1 (c : Dev nD) (t : Fin cfg0.N) (r : Fin 512) (k : Fin 3072) :
    (iblk m c 1 t : S512x3072.Idx → EReal) (ix2 r k) = mB m c (ix2 (row t r) k) := by
  obtain ⟨-, -, h0, h1, -⟩ := idx_all t
  unfold iblk
  rw [View.read_apply]
  show m _ _ = m _ _
  refine congrArg (m ((c.tc : Thread nD τ).loc main_arg1)) (funext fun a => Fin.ext ?_)
  match a with
  | ⟨0, _⟩ => show win0_1.index t 0 * 512 + 1 * r.val = 512 * t.val + r.val; rw [h0]; omega
  | ⟨1, _⟩ => show win0_1.index t 1 * 3072 + 1 * k.val = k.val; rw [h1]; omega

theorem blk2 (c : Dev nD) (t : Fin cfg0.N) (k : Fin 4096) (q : Fin 2048) :
    (iblk m c 2 t : S4096x2048.Idx → EReal) (ix2 k q) = mW m c (ix2 k q) := by
  obtain ⟨-, -, -, -, h0, h1, -⟩ := idx_all t
  unfold iblk
  rw [View.read_apply]
  show m _ _ = m _ _
  refine congrArg (m ((c.tc : Thread nD τ).loc main_arg2)) (funext fun a => Fin.ext ?_)
  match a with
  | ⟨0, _⟩ => show win0_2.index t 0 * 4096 + 1 * k.val = k.val; rw [h0]; omega
  | ⟨1, _⟩ => show win0_2.index t 1 * 2048 + 1 * q.val = q.val; rw [h1]; omega

theorem blk3 (c : Dev nD) (t : Fin cfg0.N) (r : Fin 512) (q : Fin 2048) :
    (iblk m c 3 t : S512x2048.Idx → EReal) (ix2 r q) = mX m c (ix2 (row t r) q) := by
  obtain ⟨-, -, -, -, -, -, h0, h1, -⟩ := idx_all t
  unfold iblk
  rw [View.read_apply]
  show m _ _ = m _ _
  refine congrArg (m ((c.tc : Thread nD τ).loc main_arg3)) (funext fun a => Fin.ext ?_)
  match a with
  | ⟨0, _⟩ => show win0_3.index t 0 * 512 + 1 * r.val = 512 * t.val + r.val; rw [h0]; omega
  | ⟨1, _⟩ => show win0_3.index t 1 * 2048 + 1 * q.val = q.val; rw [h1]; omega

theorem blk4 (c : Dev nD) (t : Fin cfg0.N) (q : Fin 2048) :
    (iblk m c 4 t : S1x2048.Idx → EReal) (ix2 0 q) = mG m c (ix2 0 q) := by
  obtain ⟨-, -, -, -, -, -, -, -, h0, h1, -⟩ := idx_all t
  unfold iblk
  rw [View.read_apply]
  show m _ _ = m _ _
  refine congrArg (m ((c.tc : Thread nD τ).loc main_arg4)) (funext fun a => Fin.ext ?_)
  match a with
  | ⟨0, _⟩ => show win0_4.index t 0 * 1 + 1 * 0 = 0; rw [h0]
  | ⟨1, _⟩ => show win0_4.index t 1 * 2048 + 1 * q.val = q.val; rw [h1]; omega

theorem hz : (![0, 0] : Fin 2 → Nat) = fun _ => 0 := funext fun a => by fin_cases a <;> rfl

/-- What the body leaves in the output's buffer at point `t`, entry by entry: rows `512·t …` of the result. -/
theorem out_apply (c : Dev nD) (t : Fin cfg0.N) (r : Fin 512) (q : Fin 2048) :
    (out0_5 (iblk m c 0 t) (iblk m c 1 t) (iblk m c 2 t) (iblk m c 3 t) (iblk m c 4 t) : S512x2048.Idx → EReal) (ix2 r q)
      = result m c (ix2 (row t r) q) := by
  unfold out0_5
  rw [View.canon_unit_zero hz, View.ld_unit_zero hz, View.ld_unit_zero hz, View.ld_unit_zero hz, View.ld_unit_zero hz, pay_apply, blk4]
  show normed _ _ _ = normed _ _ _
  refine congrArg (fun f => normed f (mG m c (ix2 0 q)) q) (funext fun q' => ?_)
  unfold tileRow resid
  refine congrArg₂ (· + ·) (blk3 m c t r q') (congrArg₂ (· + ·) (Finset.sum_congr rfl fun k _ => ?_) (Finset.sum_congr rfl fun k _ => ?_))
  · refine congrArg₂ (· * ·) (blk0 m c t r k) (Eq.trans ?_ (blk2 m c t ⟨k.val, by omega⟩ q'))
    unfold View.ld
    refine congrArg (iblk m c 2 t : S4096x2048.Idx → EReal) (funext fun a => Fin.ext ?_)
    match a with
    | ⟨0, _⟩ => show 0 + 1 * k.val = k.val; omega
    | ⟨1, _⟩ => show 0 + 1 * q'.val = q'.val; omega
  · refine congrArg₂ (· * ·) (blk1 m c t r k) (Eq.trans ?_ (blk2 m c t ⟨1024 + k.val, by omega⟩ q'))
    unfold View.ld
    refine congrArg (iblk m c 2 t : S4096x2048.Idx → EReal) (funext fun a => Fin.ext ?_)
    match a with
    | ⟨0, _⟩ => show 1024 + 1 * k.val = 1024 + k.val; omega
    | ⟨1, _⟩ => show 0 + 1 * q'.val = q'.val; omega

/-- Each point writes back its block of the result. -/
theorem flushed_eq (c : Dev nD) (t : Fin cfg0.N) :
    (dats m 0 c).flushed 5 t = ((cfg0.win 5).blk t).view.read (Elt Ideal) (result m c) := by
  rw [Value.flushed5]
  funext j
  obtain ⟨r, q, rfl⟩ : ∃ (r : Fin 512) (q : Fin 2048), j = ix2 r q := ⟨j 0, j 1, eq_ix2 j⟩
  rw [View.read_apply]
  refine (out_apply m c t r q).trans (congrArg (result m c) (funext fun a => Fin.ext ?_))
  obtain ⟨-, -, -, -, -, -, -, -, -, -, h0, h1⟩ := idx_all t
  match a with
  | ⟨0, _⟩ => show 512 * t.val + r.val = win0_5.index t 0 * 512 + 1 * r.val; rw [h0]; omega
  | ⟨1, _⟩ => show q.val = win0_5.index t 1 * 2048 + 1 * q.val; rw [h1]; omega

/-- Every entry of the result array lies in the block of the point that owns its row. -/
theorem cover (i : S8192x2048.Idx) : ∃ t : Fin cfg0.N, (cfg0.win 5).flush t = true ∧ i ∈ ((cfg0.win 5).blk t).view.set := by
  have h0 : (i 0 : Nat) < 8192 := (i 0).isLt
  have h1 : (i 1 : Nat) < 2048 := (i 1).isLt
  have hN : cfg0.N = 16 := N_0
  refine ⟨⟨(i 0 : Nat) / 512, by omega⟩, flush0_5 _, ?_⟩
  generalize ht : (⟨(i 0 : Nat) / 512, by omega⟩ : Fin cfg0.N) = t
  have hv : t.val = (i 0 : Nat) / 512 := by rw [← ht]
  show i ∈ ((View.whole main_v0).slice (win0_5.rect t)).set
  rw [View.set_slice_whole, Rect.mem_set_unit]
  obtain ⟨-, -, -, -, -, -, -, -, -, -, e0, e1⟩ := idx_all t
  intro a
  match a with
  | ⟨0, _⟩ => show win0_5.index t 0 * 512 ≤ (i 0 : Nat) ∧ (i 0 : Nat) < win0_5.index t 0 * 512 + 512
              rw [e0, hv]; omega
  | ⟨1, _⟩ => show win0_5.index t 1 * 2048 ≤ (i 1 : Nat) ∧ (i 1 : Nat) < win0_5.index t 1 * 2048 + 2048
              rw [e1]; omega

/-- The result array after the kernel's run. -/
theorem final (c : Dev nD) : (dats m 0 c).arrAt 5 cfg0.N = result m c :=
  (dats m 0 c).arrAt_eq_of_cover 5 (result m c) (fun t _ => flushed_eq m c t) cover

end Ker

/-- Both programs end with the same result array and their arguments unchanged. -/
theorem algebraic : Cert.algebraic_KernelOutIdeal_ReferenceOutIdeal (hKernelOutIdeal := Cert.KernelOutIdeal.Gen.facts)
    (hReferenceOutIdeal := Cert.ReferenceOutIdeal.Gen.facts) := fun m ρ m' ρ' _ hag =>
  ⟨fun c => result m c,
    (θ_run _ _ _).mono (fun _ h c => ⟨(h c).1.trans (final m c), (h c).2⟩) (Cert.KernelOutIdeal.Value.run_blocks m ρ),
    (θ_run _ _ _).mono (fun _ h c => ⟨(h c).1.trans (by
      obtain ⟨h0, h1, h2, h3, h4⟩ := hag c
      rw [h0, h1, h2, h3, h4]
      exact ref_eq _ _ _ _ _), (h c).2⟩) (Cert.ReferenceOutIdeal.Value.run m' ρ')⟩

end Cert.OutValue
-- ==== Proof.InValue.lean ====
/-
  The input projection's value at the extended reals: what the tiled kernel computes at a grid point is, entry by entry,
  the product of the normalised rows with the weight that the reference computes on the host.
-/
module

public import proofs.«01_k».proof.Defs
public import proofs.«01_k».proof.Proof.Gen.KernelInIdeal.Skeleton
public import proofs.«01_k».proof.Proof.Gen.ReferenceInIdeal.Run
public import proofs.«01_k».proof.Proof.Gen.ReferenceInIdeal.Read
public import Idealize.ShloMosaic.Lib.MatmulPlain
public import Idealize.ShloMosaic.Lib.Pipeline.Value
public import Idealize.ShloMosaic.PureOps.Ideal.Laws

@[expose] public section

set_option maxRecDepth 16384

noncomputable section

open Idealize.ShloMosaic Idealize.ShloMosaic.TcCoe Idealize.SL.Sem Idealize.ShloMosaic.ValueIdx
open scoped BigOperators

namespace Cert.InValue

/-- One entry of a row after the input norm: the row's entry over the root of its mean square plus the small constant,
    times the gain. -/
def scaled (row : Fin 2048 → EReal) (g : Fin 2048 → EReal) (k : Fin 2048) : EReal :=
  row k * Ideal.rsqrt (Ideal.div (∑ k : Fin 2048, row k * row k) (Ideal.ofBits .f32 0x45000000#32)
    + Ideal.ofBits .f32 0x3727C5AC#32) * g k

/-- The product of the normalised rows of `x` with the transpose of `w`. -/
def proj {N : ℕ} (x : (⟨2, ![8192, 2048]⟩ : Shape).Idx → EReal) (g : (⟨2, ![1, 2048]⟩ : Shape).Idx → EReal)
    (w : (⟨2, ![N, 2048]⟩ : Shape).Idx → EReal) : (⟨2, ![8192, N]⟩ : Shape).Idx → EReal :=
  fun i => ∑ k : Fin 2048, scaled (fun q => x (ix2 (i 0) q)) (fun q => g (ix2 0 q)) k * w (ix2 (i 1) k)

/-! ## The reference -/

section Ref
open Cert.ReferenceInIdeal Cert.ReferenceInIdeal.Gen Cert.ReferenceInIdeal.Read

variable (x : (⟨2, ![8192, 2048]⟩ : Shape).Idx → EReal) (g : (⟨2, ![1, 2048]⟩ : Shape).Idx → EReal)
  (w : (⟨2, ![10240, 2048]⟩ : Shape).Idx → EReal) (wd : (⟨2, ![128, 2048]⟩ : Shape).Idx → EReal)

/-- The reference's normalised rows. -/
theorem ref_scaled (R : Fin 8192) (q : Fin 2048) :
    val_main_v11 (F := Ideal) x g (ix2 R q) = scaled (fun q => x (ix2 R q)) (fun q => g (ix2 0 q)) q := by
  rw [val_main_v11_apply, val_main_v9_apply, val_main_v10_apply, val_main_v8_apply, val_main_v7_apply, val_main_v6_apply,
    val_main_v5_apply, val_main_v4_apply, val_main_v3_apply, val_main_v2_apply, val_main_v1_apply, val_main_cst_1_apply,
    val_main_cst_0_apply, val_main_cst_apply]
  simp only [Ideal.mulf_def, Ideal.addf_def, Ideal.hostDivf_def, Ideal.hostUnary_rsqrt_def, Ideal.ofBits_def, Ideal.ofBits_zero_f32,
    zero_add]
  have hs : ∀ k : Fin 2048, val_main_v0 (F := Ideal) x (idx_main_v1 (idx_main_v2 (idx_main_v8 (ix2 R q))) k)
      = x (ix2 R k) * x (ix2 R k) := fun k => by
    rw [show idx_main_v1 (idx_main_v2 (idx_main_v8 (ix2 R q))) k = ix2 R k from
      funext fun d => by match d with | ⟨0, _⟩ => rfl | ⟨1, _⟩ => rfl, val_main_v0_apply]
    rfl
  rw [Finset.sum_congr rfl fun k _ => hs k]
  exact congrArg _ (congrArg g (funext fun d => by match d with | ⟨0, _⟩ => rfl | ⟨1, _⟩ => rfl))

/-- The reference's projection. -/
theorem ref_proj : val_main_v18 (F := Ideal) x g w = proj x g w := by
  funext i
  obtain ⟨R, q, rfl⟩ : ∃ (R : Fin 8192) (q : Fin 10240), i = ix2 R q := ⟨i 0, i 1, eq_ix2 i⟩
  rw [val_main_v18_apply]
  refine (val_main_v14_apply x g w (ix2 R q)).trans (Finset.sum_congr rfl fun k _ => ?_)
  rw [show lidx_main_v14 (ix2 R q) k = ix2 R k from funext fun d => by match d with | ⟨0, _⟩ => rfl | ⟨1, _⟩ => rfl,
    ref_scaled, val_main_v13_apply, val_main_v12_apply]
  refine congrArg (_ * ·) (?_ : w _ = w _)
  exact congrArg w (funext fun d => by match d with | ⟨0, _⟩ => rfl | ⟨1, _⟩ => rfl)

/-- The reference's `dt` columns. -/
theorem ref_dt : val_main_v17 (F := Ideal) x g wd = proj x g wd := by
  funext i
  obtain ⟨R, q, rfl⟩ : ∃ (R : Fin 8192) (q : Fin 128), i = ix2 R q := ⟨i 0, i 1, eq_ix2 i⟩
  refine (val_main_v17_apply x g wd (ix2 R q)).trans (Finset.sum_congr rfl fun k _ => ?_)
  rw [show lidx_main_v17 (ix2 R q) k = ix2 R k from funext fun d => by match d with | ⟨0, _⟩ => rfl | ⟨1, _⟩ => rfl,
    ref_scaled, val_main_v16_apply, val_main_v15_apply]
  refine congrArg (_ * ·) (?_ : wd _ = wd _)
  exact congrArg wd (funext fun d => by match d with | ⟨0, _⟩ => rfl | ⟨1, _⟩ => rfl)

end Ref

/-! ## The kernel's payloads -/

section Ker
open Cert.KernelInIdeal Cert.KernelInIdeal.Gen

/-- The normalised block. -/
theorem norm_apply (x : Vec Ideal S1024x2048 .f32) (g : Vec Ideal S1x2048 .f32) (r : Fin 1024) (q : Fin 2048) :
    k0_pay1 (F := Ideal) x g (ix2 r q) = scaled (fun q => x (ix2 r q)) (fun q => g (ix2 0 q)) q := by
  unfold k0_pay1
  dsimp only
  show mulf (F := Ideal) (φ := .f32) _ _ (ix2 r q) = _
  rw [mulf_apply, mulf_apply]
  unfold scaled
  refine congrArg₂ (· * ·) (congrArg (x (ix2 r q) * ·) ?_) ?_
  · refine (broadcastTo_apply _ _ (ix2 r q) (ix2 r 0) (fun d => by match d with | ⟨0, _⟩ => rfl | ⟨1, _⟩ => rfl)).trans ?_
    show Ideal.rsqrt (Ideal.div _ _ + _) = _
    refine congrArg Ideal.rsqrt (congrArg₂ (· + ·) (congrArg₂ Ideal.div ?_ rfl) rfl)
    refine (shapeCast_apply _ _ (ix2 r 0) (ix1 r) ?_).trans ?_
    · rfl
    refine (Ideal.multiReduction_add_single _ _ _ _ _ _).trans ?_
    refine Finset.sum_congr rfl fun k _ => ?_
    rw [mulf_apply]
    rw [show (reduces_S1024x2048_S1024 : S1024x2048.Reduces [1] S1024).lift (ix1 r) k = ix2 r k from
      funext fun d => by match d with | ⟨0, _⟩ => rfl | ⟨1, _⟩ => rfl]
    rfl
  · exact broadcastTo_apply _ _ (ix2 r q) (ix2 0 q) (fun d => by match d with | ⟨0, _⟩ => rfl | ⟨1, _⟩ => rfl)

/-- The same block as kept in the scratch buffer. -/
theorem kept_apply (x : Vec Ideal S1024x2048 .f32) (g : Vec Ideal S1x2048 .f32) (r : Fin 1024) (q : Fin 2048) :
    k0_pay2 (F := Ideal) x g (ix2 r q) = scaled (fun q => x (ix2 r q)) (fun q => g (ix2 0 q)) q := by
  unfold k0_pay2
  rw [shapeCast_self]
  exact norm_apply x g r q

/-- The `dt` block. -/
theorem dt_apply (x : Vec Ideal S1024x2048 .f32) (g : Vec Ideal S1x2048 .f32) (wd : Vec Ideal S128x2048 .bf16) (r : Fin 1024)
    (q : Fin 128) : k0_pay3 (F := Ideal) x g wd (ix2 r q)
      = ∑ k : Fin 2048, scaled (fun q => x (ix2 r q)) (fun q => g (ix2 0 q)) k * wd (ix2 q k) := by
  unfold k0_pay3
  refine (Ideal.matmul_transposedRhs_apply (M := 1024) (K := 2048) (N := 128) none (k0_pay1 (F := Ideal) x g) wd _ r q).trans ?_
  rw [constant_apply, Ideal.ofBits_zero_f32, zero_add]
  exact Finset.sum_congr rfl fun k _ => congrArg (· * _) (norm_apply x g r k)

/-- The block of the projection, from the kept rows. -/
theorem block_apply (w : Vec Ideal S2048x2048 .bf16) (h : Vec Ideal S1024x2048 .bf16) (r : Fin 1024) (q : Fin 2048) :
    k0_pay4 (F := Ideal) w h (ix2 r q) = ∑ k : Fin 2048, h (ix2 r k) * w (ix2 q k) := by
  unfold k0_pay4
  show matmul (F := Ideal) (φ₁ := .bf16) (φ₂ := .bf16) (DotDims.transposedRhs 1024 2048 2048) none h w (constant S1024x2048 .f32 0x00000000#32) (ix2 r q) = _
  refine (Ideal.matmul_transposedRhs_apply (M := 1024) (K := 2048) (N := 2048) (φ₁ := .bf16) (φ₂ := .bf16) none h w _ r q).trans ?_
  rw [constant_apply, Ideal.ofBits_zero_f32, zero_add]

end Ker

end Cert.InValue
-- ==== Proof.InRun.lean ====
module

public import proofs.«01_k».proof.Proof.Gen.KernelInIdeal.Frame
public import proofs.«01_k».proof.Proof.Gen.KernelInIdeal.Skeleton
public import Idealize.ShloMosaic.Lib.Pipeline.TableIdle
public import Idealize.ShloMosaic.Lib.Pipeline.Value

/-!
# The prompt's input projection: one grid point, and the whole launch

The grid is 8 row blocks by 5 column blocks, the columns running fastest. At the first column of a row block the
body normalises the rows, keeps them in its scratch buffer and stores the 128 `dt` columns; at every column it
multiplies the kept rows by one block of the weight. The `dt` block is written back only at the row block's last
column, four points after it was stored. So both the scratch and the `dt` staging buffer are described, at every
point, by the inputs at the first point of the row block (`first`).
-/

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelInIdeal Cert.KernelInIdeal.Gen

variable {F : FTy → Type} [FloatOps F]

local notation "𝕄" => MT nD τ sig Unit (Elt F) ℕ (UR sig nD τ) ℕ

/-! ## The body at one point -/

/-- The zero offsets a whole buffer is loaded and stored at. -/
theorem zeros : (![0, 0] : Fin 2 → Nat) = fun _ => 0 := by decide

/-- What a whole buffer reads after one store of the whole of it. -/
theorem read_stored {s : Shape} {e : EltTy} (v : View sig .tc .vmem s e) (f : v.ty.Contents (Elt F))
    {off : Fin s.rank → Nat} (h : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon _ _ _ (fun y => ⟨_, List.mem_singleton_self _, ?_⟩), View.canon_unit_zero h]
  subst h
  show y ∈ (Rect.whole s).set
  rw [Rect.set_whole]; exact Finset.mem_univ y

section Body

variable (c : Dev nD) (i : grid0.Coords)
  (a2 : Memref sig .tc .vmem S1024x2048 .f32) (w2 : a2.IsWhole) (a3 : Memref sig .tc .vmem S1x2048 .f32) (w3 : a3.IsWhole)
  (a4 : Memref sig .tc .vmem S2048x2048 .bf16) (w4 : a4.IsWhole) (a5 : Memref sig .tc .vmem S128x2048 .bf16) (w5 : a5.IsWhole)
  (a6 : Memref sig .tc .vmem S1024x2048 .bf16) (w6 : a6.IsWhole) (a7 : Memref sig .tc .vmem S1024x128 .f32) (w7 : a7.IsWhole)
  (a8 : Memref sig .tc .vmem S1024x2048 .bf16) (w8 : a8.IsWhole)
  (x : Vec F S1024x2048 .f32) (g : Vec F S1x2048 .f32) (w : Vec F S2048x2048 .bf16) (wd : Vec F S128x2048 .bf16)

/-- The four input buffers, at their contents. -/
abbrev ins : sProp 𝕄 :=
  iprop(owns (c : Thread nD τ) a2 fullShare x ∗ owns (c : Thread nD τ) a3 fullShare g
    ∗ owns (c : Thread nD τ) a4 fullShare w ∗ owns (c : Thread nD τ) a5 fullShare wd)

set_option maxHeartbeats 1000000 in
/-- At the first column of a row block the body leaves the normalised rows in the scratch, their product with the
    `dt` weight in the `dt` buffer and their product with the column block's weight in the output buffer. -/
theorem run_first (hc : k0_cond1 i = 1#1) (E : Set ℕ) (K : PUnit → sProp 𝕄) :
    iprop(ins c a2 a3 a4 a5 x g w wd ∗ (∃ d, owns (c : Thread nD τ) a6 fullShare d) ∗ (∃ d, owns (c : Thread nD τ) a7 fullShare d)
        ∗ (∃ d, owns (c : Thread nD τ) a8 fullShare d)
        ∗ (iprop(ins c a2 a3 a4 a5 x g w wd ∗ owns (c : Thread nD τ) a6 fullShare (k0_pay4 w (k0_pay2 x g))
            ∗ owns (c : Thread nD τ) a7 fullShare (k0_pay3 x g wd) ∗ owns (c : Thread nD τ) a8 fullShare (k0_pay2 x g)) -∗ K ⟨⟩))
      ⊢ wp frame (wpE (defs₀ (F := F)) Variants.none c none) E (cc0_inproj i a2 w2 a3 w3 a4 w4 a5 w5 a6 w6 a7 w7 a8 w8) K := by
  simp only [cc0_inproj_eq_skeleton]; unfold cc0_inproj_skel
  unfold ins owns
  iintro ⟨⟨⟨%f2, %h2, H2⟩, ⟨%f3, %h3, H3⟩, ⟨%f4, %h4, H4⟩, ⟨%f5, %h5, H5⟩⟩, ⟨%d6, %f6, -, H6⟩, ⟨%d7, %f7, -, H7⟩, ⟨%d8, %f8, -, H8⟩, Hk⟩
  obtain rfl := w2.eq_unread h2; obtain rfl := w3.eq_unread h3; obtain rfl := w4.eq_unread h4; obtain rfl := w5.eq_unread h5
  sl_exec (disch := sl_exact hc)
  sl_step
  iapply Hk
  isplitl [H2 H3 H4 H5]
  · isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    iexists _; isplitr; · ipureintro; exact w5.read_unread _
    iexact H5
  isplitl [H6]
  · iexists _; isplitr; swap; · iexact H6
    ipureintro
    sl_unfold_words
    refine (read_stored (s := S1024x2048) _ _ zeros _ _).trans ?_
    simp only [View.readCov_unit_zero (S := S1024x2048) _ zeros, View.readAt_eq_ld, w2.read_unread, w3.read_unread, w4.read_unread, w5.read_unread,
      View.ld_unit_zero (S := S1024x2048) zeros, View.ld_unit_zero (S := S1x2048) zeros, View.ld_unit_zero (S := S2048x2048) zeros,
      View.ld_unit_zero (S := S128x2048) zeros]
  isplitl [H7]
  · iexists _; isplitr; swap; · iexact H7
    ipureintro
    sl_unfold_words
    refine (read_stored (s := S1024x128) _ _ zeros _ _).trans ?_
    simp only [View.readAt_eq_ld, w2.read_unread, w3.read_unread, w4.read_unread, w5.read_unread,
      View.ld_unit_zero (S := S1024x2048) zeros, View.ld_unit_zero (S := S1x2048) zeros, View.ld_unit_zero (S := S2048x2048) zeros,
      View.ld_unit_zero (S := S128x2048) zeros]
  iexists _; isplitr; swap; · iexact H8
  ipureintro
  sl_unfold_words
  refine (read_stored (s := S1024x2048) _ _ zeros _ _).trans ?_
  simp only [View.readAt_eq_ld, w2.read_unread, w3.read_unread, w4.read_unread, w5.read_unread,
    View.ld_unit_zero (S := S1024x2048) zeros, View.ld_unit_zero (S := S1x2048) zeros, View.ld_unit_zero (S := S2048x2048) zeros,
      View.ld_unit_zero (S := S128x2048) zeros]

set_option maxHeartbeats 1000000 in
/-- At a later column the body leaves the scratch `h` and the `dt` buffer `y` as they were, and the product of `h`
    with the column block's weight in the output buffer. -/
theorem run_later (hc : ¬k0_cond1 i = 1#1) (y : Vec F S1024x128 .f32) (h : Vec F S1024x2048 .bf16) (E : Set ℕ) (K : PUnit → sProp 𝕄) :
    iprop(ins c a2 a3 a4 a5 x g w wd ∗ (∃ d, owns (c : Thread nD τ) a6 fullShare d) ∗ owns (c : Thread nD τ) a7 fullShare y
        ∗ owns (c : Thread nD τ) a8 fullShare h
        ∗ (iprop(ins c a2 a3 a4 a5 x g w wd ∗ owns (c : Thread nD τ) a6 fullShare (k0_pay4 w h)
            ∗ owns (c : Thread nD τ) a7 fullShare y ∗ owns (c : Thread nD τ) a8 fullShare h) -∗ K ⟨⟩))
      ⊢ wp frame (wpE (defs₀ (F := F)) Variants.none c none) E (cc0_inproj i a2 w2 a3 w3 a4 w4 a5 w5 a6 w6 a7 w7 a8 w8) K := by
  simp only [cc0_inproj_eq_skeleton]; unfold cc0_inproj_skel
  unfold ins owns
  iintro ⟨⟨⟨%f2, %h2, H2⟩, ⟨%f3, %h3, H3⟩, ⟨%f4, %h4, H4⟩, ⟨%f5, %h5, H5⟩⟩, ⟨%d6, %f6, -, H6⟩, ⟨%f7, %h7, H7⟩, ⟨%f8, %h8, H8⟩, Hk⟩
  obtain rfl := w2.eq_unread h2; obtain rfl := w3.eq_unread h3; obtain rfl := w4.eq_unread h4; obtain rfl := w5.eq_unread h5
  obtain rfl := w7.eq_unread h7; obtain rfl := w8.eq_unread h8
  sl_exec (disch := sl_exact hc)
  sl_step
  iapply Hk
  isplitl [H2 H3 H4 H5]
  · isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    iexists _; isplitr; · ipureintro; exact w5.read_unread _
    iexact H5
  isplitl [H6]
  · iexists _; isplitr; swap; · iexact H6
    ipureintro
    sl_unfold_words
    refine (read_stored (s := S1024x2048) _ _ zeros _ _).trans ?_
    simp only [View.readAt_eq_ld, w4.read_unread, w8.read_unread, View.ld_unit_zero (S := S1024x2048) zeros,
      View.ld_unit_zero (S := S2048x2048) zeros]
  isplitl [H7]
  · iexists _; isplitr; · ipureintro; exact w7.read_unread _
    iexact H7
  iexists _; isplitr; · ipureintro; exact w8.read_unread _
  iexact H8

end Body

end Cert.InRun
-- ==== Proof.InLaunch.lean ====
/-
  The launch of the prompt's input projection: what every buffer holds at every grid point, the body's triple at the
  point, and the run of the whole program, stated at any scalar values.
-/
module

public import proofs.«01_k».proof.Proof.InRun
public import Idealize.ShloMosaic.Lib.Claim

@[expose] public section

set_option maxRecDepth 16384

noncomputable section

namespace Cert.InRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelInIdeal Cert.KernelInIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem points : cfg0.N = 40 := N_0

/-- The first point of `t`'s row block: the one at column block 0. -/
def first (t : Fin cfg0.N) : Fin cfg0.N :=
  ⟨5 * (t.val / 5), by have := t.isLt; have := points; omega⟩

/-- A row block's first point is its own. -/
theorem first_self (t : Fin cfg0.N) (h : t.val % 5 = 0) : first t = t := Fin.ext (by unfold first; simp only; omega)

/-- Points of one row block have one first point. -/
theorem first_pred (t : Fin cfg0.N) (h : ¬t.val % 5 = 0) (h' : t.val - 1 < cfg0.N) : first ⟨t.val - 1, h'⟩ = first t :=
  Fin.ext (by unfold first; simp only; omega)

/-- The body's branch is taken exactly at column block 0. -/
theorem taken : ∀ t : Fin cfg0.N, k0_cond1 (grid0.coords t) = 1#1 ↔ t.val % 5 = 0 :=
  (by decide +kernel : ∀ t : Fin grid0.N, k0_cond1 (grid0.coords t) = 1#1 ↔ t.val % 5 = 0)

/-- The `dt` window is live exactly at column block 0, -/
theorem live_dt : ∀ t : Fin cfg0.N, cfg0.idle 5 (grid0.coords t) = !decide (t.val % 5 = 0) :=
  (by decide +kernel : ∀ t : Fin grid0.N, idle0 5 (grid0.coords t) = !decide (t.val % 5 = 0))

/-- and its buffer holds a stored block at every later column. -/
theorem stale_dt : ∀ t : Fin cfg0.N, ¬t.val % 5 = 0 → cfg0.fresh 5 t.val = false := by
  intro t h
  have key : ∀ n : ℕ, ∀ hn : n < cfg0.N, ¬n % 5 = 0 → cfg0.fresh 5 n = false := by
    intro n
    induction n with
    | zero => intro _ h; exact absurd rfl h
    | succ n ih =>
      intro hn h
      have hn' : n < cfg0.N := by omega
      rw [Pipeline.Cfg.fresh_succ cfg0 5 n hn']
      have hfl : (cfg0.win 5).flush ⟨n, hn'⟩ = false := by
        rw [Bool.eq_false_iff]; intro hf; have := (flush0_5 ⟨n, hn'⟩).mp hf; simp only at this; omega
      rw [hfl]
      by_cases h0 : n % 5 = 0
      · have := live_dt ⟨n, hn'⟩
        simp only [h0, decide_true, Bool.not_true] at this
        rw [show cfg0.idle 5 (cfg0.grid.coords ⟨n, hn'⟩) = false from this]; rfl
      · rw [ih hn' h0]; simp
  exact key t.val t.isLt h

/-! ## What the buffers hold -/

/-- The normalised rows of `t`'s row block. -/
def rows (c : Dev nD) (t : Fin cfg0.N) : Vec F S1024x2048 .bf16 := k0_pay2 (iblk m c 0 (first t)) (iblk m c 1 (first t))

/-- Their `dt` block. -/
def dtBlock (c : Dev nD) (t : Fin cfg0.N) : Vec F S1024x128 .f32 :=
  k0_pay3 (iblk m c 0 (first t)) (iblk m c 1 (first t)) (iblk m c 3 (first t))

/-- The block of the projection at point `t`. -/
def block (c : Dev nD) (t : Fin cfg0.N) : Vec F S1024x2048 .bf16 := k0_pay4 (iblk m c 2 t) (rows m c t)

/-- The scratch buffer of the normalised rows. -/
abbrev scratch : Memref sig .tc .vmem S1024x2048 .bf16 := Memref.whole cc0_scratch0

/-- The invariant before position `n`: the scratch at anything before the first point, then at the rows of the point before. -/
def Inv (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

/-- The launch's invariant, its scratch as a buffer at some contents. -/
theorem inv_open (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

theorem inv_succ (c : Dev nD) (n : ℕ) (hn : n < cfg0.N) :
    Inv m c (n + 1) hn = iprop(owns (c : Thread nD τ) scratch fullShare (rows m c ⟨n, hn⟩) ∗ (∃ r, prngReg c r)) := rfl

/-- Whatever the position, the scratch is a buffer at some contents. -/
theorem inv_some (c : Dev nD) (n : ℕ) (hn : n ≤ cfg0.N) :
    Inv m c n hn ⊢ iprop((∃ d, owns (c : Thread nD τ) scratch fullShare d) ∗ (∃ r, prngReg c r)) := by
  cases n with
  | zero => rw [← inv_open]; exact Idealize.SL.BI.Entails.refl _
  | succ n =>
    rw [inv_succ]
    iintro ⟨H, Hg⟩
    isplitl [H]; · iexists _; iexact H
    iexact Hg

/-- At a later column the scratch holds the rows of the point's own row block. -/
theorem inv_later (c : Dev nD) (t : Fin cfg0.N) (h : ¬t.val % 5 = 0) (hn : t.val ≤ cfg0.N) :
    Inv m c t.val hn = iprop(owns (c : Thread nD τ) scratch fullShare (rows m c t) ∗ (∃ r, prngReg c r)) := by
  obtain ⟨n, ht⟩ := t
  cases n with
  | zero => exact absurd rfl h
  | succ n =>
    rw [inv_succ]
    unfold rows
    rw [show first (⟨n, hn⟩ : Fin cfg0.N) = first ⟨n + 1, ht⟩ from first_pred ⟨n + 1, ht⟩ h hn]

/-- The proof data of the call: inputs left at their blocks, the outputs at `block` and `dtBlock`. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
    | ⟨5, _⟩ => dtBlock m c t
  Φ t := Inv m c t.val (Nat.le_of_lt_succ t.isLt)
  q _ := fullShare
  owed _ := 0

theorem data_A (c : Dev nD) (w : Fin cfg0.W) : (data m 0 c).A w = V m c (Pipeline.arrRef spec0 w) := by dsimp only [data]

theorem data_inv (c : Dev nD) (t : Fin cfg0.N) : (data m 0 c).Φ t.castSucc = Inv m c t.val (Nat.le_of_lt t.isLt) := by
  dsimp only [data]; exact Dat.Φ_castSucc (Inv m c) t

theorem after_x (c : Dev nD) (t : Fin cfg0.N) : (data m 0 c).after 0 t = iblk m c 0 t := by dsimp only [data]
theorem after_g (c : Dev nD) (t : Fin cfg0.N) : (data m 0 c).after 1 t = iblk m c 1 t := by dsimp only [data]
theorem after_w (c : Dev nD) (t : Fin cfg0.N) : (data m 0 c).after 2 t = iblk m c 2 t := by dsimp only [data]
theorem after_wd (c : Dev nD) (t : Fin cfg0.N) : (data m 0 c).after 3 t = iblk m c 3 t := by dsimp only [data]
theorem after_o (c : Dev nD) (t : Fin cfg0.N) : (data m 0 c).after 4 t = block m c t := by dsimp only [data]
theorem after_dt (c : Dev nD) (t : Fin cfg0.N) : (data m 0 c).after 5 t = dtBlock m c t := by dsimp only [data]

/-- At a later column the body finds its row block's `dt` block in the `dt` buffer. -/
theorem before_dt (c : Dev nD) (t : Fin cfg0.N) (h : ¬t.val % 5 = 0) (d) : (data m 0 c).before 5 t d = dtBlock m c t := by
  have carry : ∀ (t : Fin cfg0.N) (_ : ¬t.val % 5 = 0) (h' : t.val - 1 < cfg0.N), dtBlock m c t = dtBlock m c ⟨t.val - 1, h'⟩ := by
    intro t h h'
    unfold dtBlock
    rw [first_pred t h h']
  rw [(data m 0 c).before_out_traj 5 rfl (fun _ _ => rfl) (fun t ht hi _ => by
    have h0 : ¬t.val % 5 = 0 := fun h0 => by
      have e := live_dt t
      rw [show cfg0.idle 5 (grid0.coords t) = true from hi] at e
      simp [h0] at e
    rw [after_dt, after_dt]; exact carry t h0 _) t.val t rfl d, stale_dt t h, if_neg Bool.false_ne_true, after_dt]
  exact (carry t h _).symm

/-- A `dt` buffer at the row block's `dt` block is what the point leaves, stored or not, written back or not. -/
theorem leaves_dt (c : Dev nD) (t : Fin cfg0.N) :
    owns (c : Thread nD τ) (st0_5 t) fullShare (dtBlock m c t) ⊢ ((data m 0 c).leavesExact 5 t : sProp 𝕄) := by
  by_cases h0 : t.val % 5 = 0
  · have hi : cfg0.idle 5 (cfg0.grid.coords t) = false := (live_dt t).trans (by simp [h0])
    unfold Dat.leavesExact
    rw [hi, after_dt]
  · have hi : cfg0.idle 5 (cfg0.grid.coords t) = true := (live_dt t).trans (by simp [h0])
    cases hf : (cfg0.win 5).flush t with
    | false =>
      rw [Dat.leavesExact_idle _ 5 t hi hf]
      iintro H
      iexists (dtBlock m c t)
      rw [before_dt m c t h0]
      iexact H
    | true =>
      unfold Dat.leavesExact
      rw [hi, hf, after_dt]

/-! ## The body's triple at a point -/

/-- What the body is run on at point `t`, -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d)))

/-- and what it leaves. -/
def post (c : Dev nD) (t : Fin cfg0.N) : sProp 𝕄 :=
  iprop((data m 0 c).Φ t.succ ∗ (data m 0 c).owesAt () t.succ
    ∗ (data m 0 c).leavesExact 0 t ∗ (data m 0 c).leavesExact 1 t ∗ (data m 0 c).leavesExact 2 t
    ∗ (data m 0 c).leavesExact 3 t ∗ (data m 0 c).leavesExact 4 t ∗ (data m 0 c).leavesExact 5 t)

set_option maxHeartbeats 2000000 in
/-- The body at any point, by the two runs. -/
theorem at_point (c : Dev nD) (t : Fin cfg0.N) :
    pre m c t ⊢ wp frame (wpE (defs₀ (F := F)) Variants.none c none) Set.univ (bodyAt0 t) (fun _ => post m c t) := by
  unfold pre post bodyAt0
  have b0 : ∀ d, (data m 0 c).before 0 t d = iblk m c 0 t := before0_0_of m _ (data_A m c 0) (after_x m c) t
  have b1 : ∀ d, (data m 0 c).before 1 t d = iblk m c 1 t := before0_1_of m _ (data_A m c 1) (after_g m c) t
  have b2 : ∀ d, (data m 0 c).before 2 t d = iblk m c 2 t := before0_2_of m _ (data_A m c 2) (after_w m c) t
  have b3 : ∀ d, (data m 0 c).before 3 t d = iblk m c 3 t := before0_3_of m _ (data_A m c 3) (after_wd m c) t
  simp only [b0, b1, b2, b3]
  rw [show (data m 0 c).owesAt () t.succ = (data m 0 c).owesAt () t.castSucc from rfl,
    show (data m 0 c).Φ t.succ = Inv m c (t.val + 1) t.isLt from rfl, inv_succ, data_inv]
  rw [show (data m 0 c).leavesExact 0 t = owns (c : Thread nD τ) (st0_0 t) fullShare (iblk m c 0 t) from rfl,
    show (data m 0 c).leavesExact 1 t = owns (c : Thread nD τ) (st0_1 t) fullShare (iblk m c 1 t) from rfl,
    show (data m 0 c).leavesExact 2 t = owns (c : Thread nD τ) (st0_2 t) fullShare (iblk m c 2 t) from rfl,
    show (data m 0 c).leavesExact 3 t = owns (c : Thread nD τ) (st0_3 t) fullShare (iblk m c 3 t) from rfl,
    show (data m 0 c).leavesExact 4 t = owns (c : Thread nD τ) (st0_4 t) fullShare (block m c t) from rfl]
  by_cases h0 : t.val % 5 = 0
  · have hr : rows m c t = k0_pay2 (iblk m c 0 t) (iblk m c 1 t) := by unfold rows; rw [first_self t h0]
    have hd : dtBlock m c t = k0_pay3 (iblk m c 0 t) (iblk m c 1 t) (iblk m c 3 t) := by unfold dtBlock; rw [first_self t h0]
    iintro ⟨HI, Ho, ⟨%d0, H0⟩, ⟨%d1, H1⟩, ⟨%d2, H2⟩, ⟨%d3, H3⟩, ⟨%d4, H4⟩, ⟨%d5, H5⟩⟩
    ihave HI := inv_some m c t.val _ $$ HI
    icases HI with ⟨HS, Hg⟩
    iapply (run_first c (grid0.coords t) _ _ _ _ _ _ _ _ _ _ _ _ _ _ (iblk m c 0 t) (iblk m c 1 t) (iblk m c 2 t) (iblk m c 3 t)
      ((taken t).mpr h0) Set.univ _)
    isplitl [H0 H1 H2 H3]
    · unfold ins
      isplitl [H0]; · iexact H0
      isplitl [H1]; · iexact H1
      isplitl [H2]; · iexact H2
      iexact H3
    isplitl [H4]; · iexists _; iexact H4
    isplitl [H5]; · iexists _; iexact H5
    isplitl [HS]; · iexact HS
    unfold ins
    iintro ⟨⟨H0, H1, H2, H3⟩, H4, H5, HS⟩
    isplitl [HS Hg]
    · isplitl [HS]
      · rw [show rows m c ⟨t.val, t.isLt⟩ = _ from hr]; iexact HS
      iexact Hg
    isplitl [Ho]; · iexact Ho
    isplitl [H0]; · iexact H0
    isplitl [H1]; · iexact H1
    isplitl [H2]; · iexact H2
    isplitl [H3]; · iexact H3
    isplitl [H4]; · unfold block; rw [hr]; iexact H4
    iapply (leaves_dt m c t)
    rw [hd]; iexact H5
  · rw [inv_later m c t h0]
    simp only [before_dt m c t h0]
    iintro ⟨⟨HS, Hg⟩, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ _ _ (iblk m c 0 t) (iblk m c 1 t) (iblk m c 2 t) (iblk m c 3 t)
      (fun h => h0 ((taken t).mp h)) (dtBlock m c t) (rows m c t) Set.univ _)
    isplitl [H0 H1 H2 H3]
    · unfold ins
      isplitl [H0]; · iexact H0
      isplitl [H1]; · iexact H1
      isplitl [H2]; · iexact H2
      iexact H3
    isplitl [H4]; · iexists _; iexact H4
    isplitl [H5]; · iexact H5
    isplitl [HS]; · iexact HS
    unfold ins
    iintro ⟨⟨H0, H1, H2, H3⟩, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_dt m c t); iexact H5

/-! ## The run -/

theorem body (c : Dev nD) : BodyObligation (data (F := F) m 0 c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  exact triple_restated (at_point m c t) rfl .rfl fun _ => .rfl

theorem enter (c : Dev nD) : Pipeline.ΦA spec0 c ⊢ (data m 0 c).Φ 0 := by
  rw [show (data m 0 c).Φ 0 = Pipeline.ΦA spec0 c from rfl]

theorem leave (c : Dev nD) : (data m 0 c).Φ (Fin.last cfg0.N) ⊢ Pipeline.ΦA spec0 c := by
  rw [inv_open, show (data m 0 c).Φ (Fin.last cfg0.N) = Inv m c cfg0.N (Nat.le_refl _) from rfl]; exact inv_some m c _ _

-- the launch theorem's implicit arguments are found by unifying its conclusion with this one
set_option backward.isDefEq.respectTransparency.types false in
/-- Every execution terminates with the arrays at what the proof data says and every semaphore at zero. -/
theorem launch : θ_run defs (onTc (τ := τ) (main (F := F))) (s₀ m ρ)
    (fun r => Pipeline.FramePost cfgs (data m) 0 (V m) r ∧ r.2.sem = fun _ => 0) :=
  Pipeline.θ_run_frame_track (Q' := _) cfgs (data m) (0 : Fin 1) launch0 defs₀ Variants.none m ρ main
    (hbody := fun c => (body m c).loose) (hshare := fun c => (data m 0 c).share_full fun _ => rfl)
    (howed := fun _ _ => rfl) (V := V m) (hmain := hmain m Variants.none) (hA := data_A m) (hin := enter m) (hout := leave m)

/-- The run without the semaphores. -/
theorem run : θ_run defs (onTc (τ := τ) (main (F := F))) (s₀ m ρ) (Pipeline.FramePost cfgs (data m) 0 (V m)) :=
  (θ_run defs _ _).mono (fun _ h => h.1) (launch m ρ)

/-- The program ends, its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_A m) (run m ρ)) ((θ_run defs _ _).mono (fun _ h => h.2) (launch m ρ))

end Cert.InRun
-- ==== Proof.InClaim.lean ====
/-
  The input projection's claims: the frame of both readings of the kernel by the one run, and the result arrays — each
  grid point writes its block of the projection, each row block its `dt` rows, and the blocks tile the arrays.
-/
module

public import proofs.«01_k».proof.Proof.InValue
public import proofs.«01_k».proof.Proof.InLaunch
public import proofs.«01_k».proof.Proof.Gen.KernelIn

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.InValue

/-! ## One run for both readings -/

section Bits
variable {F : FTy → Type} [FloatOps F]

/-- The two printed kernels have one table of bodies, -/
theorem bodies_eq : Cert.KernelIn.defs₀ (F := F) = Cert.KernelInIdeal.defs₀ (F := F) := by
  unfold Cert.KernelIn.defs₀ Cert.KernelInIdeal.defs₀
  refine congrArg (Defs.onTc (nD := Cert.KernelIn.nD) (τ := Cert.KernelIn.τ) (sig := Cert.KernelIn.sig) (Λ := Cert.KernelIn.Λ₀)) ?_
  funext l p
  match l, p with
  | 0, (t, s) => rfl
  | ⟨_ + 1, h⟩, _ => exact absurd h (Nat.not_lt.2 (Nat.le_add_left _ _))

/-- so one table of definitions. -/
theorem defs_eq : Cert.KernelIn.defs (F := F) = Cert.KernelInIdeal.defs (F := F) :=
  congrArg (Pipeline.defs Cert.KernelIn.pcfgs) bodies_eq

end Bits

/-- The kernel ends with its arguments as they were and its semaphores at zero, at bit patterns. -/
theorem frame_bits : Cert.quiescent_KernelIn (hKernelIn := Cert.KernelIn.Gen.facts) := fun m ρ _ => by
  rw [defs_eq]
  exact Cert.InRun.frame (F := Bits) m ρ

section Ker
open Cert.KernelInIdeal Cert.KernelInIdeal.Gen Cert.InRun

variable (m : (ℓ : Loc nD τ sig) → Buf (Elt Ideal) ℓ) (ρ : Dev nD → PrngReg)

/-- The arguments of device `c`, as plain functions. -/
abbrev mX (c : Dev nD) : (⟨2, ![8192, 2048]⟩ : Shape).Idx → EReal := m ((c.tc : Thread nD τ).loc main_arg0)
abbrev mG (c : Dev nD) : (⟨2, ![1, 2048]⟩ : Shape).Idx → EReal := m ((c.tc : Thread nD τ).loc main_arg1)
abbrev mW (c : Dev nD) : (⟨2, ![10240, 2048]⟩ : Shape).Idx → EReal := m ((c.tc : Thread nD τ).loc main_arg2)
abbrev mD (c : Dev nD) : (⟨2, ![128, 2048]⟩ : Shape).Idx → EReal := m ((c.tc : Thread nD τ).loc main_arg3)

/-- The block indices of the six windows at every grid point. -/
theorem idx_all : ∀ t : Fin cfg0.N, win0_0.index t 0 = t.val / 5 ∧ win0_0.index t 1 = 0 ∧ win0_1.index t 0 = 0 ∧ win0_1.index t 1 = 0
    ∧ win0_2.index t 0 = t.val % 5 ∧ win0_2.index t 1 = 0 ∧ win0_3.index t 0 = 0 ∧ win0_3.index t 1 = 0
    ∧ win0_4.index t 0 = t.val / 5 ∧ win0_4.index t 1 = t.val % 5 ∧ win0_5.index t 0 = t.val / 5 ∧ win0_5.index t 1 = 0 :=
  (by decide +kernel : ∀ t : Fin grid0.N, _)

/-- Row `r` of point `t`'s row block is row `1024·(t / 5) + r` of the arrays. -/
abbrev row (t : Fin cfg0.N) (r : Fin 1024) : Fin 8192 :=
  ⟨1024 * (t.val / 5) + r.val, by have h : t.val < 40 := t.isLt; have := r.isLt; omega⟩

/-- Column `q` of point `t`'s column block is column `2048·(t % 5) + q` of the projection. -/
abbrev col (t : Fin cfg0.N) (q : Fin 2048) : Fin 10240 :=
  ⟨2048 * (t.val % 5) + q.val, by have := q.isLt; omega⟩

/-- A row block's first point has the same rows. -/
theorem row_first (t : Fin cfg0.N) (r : Fin 1024) : row (first t) r = row t r :=
  Fin.ext (by show 1024 * ((5 * (t.val / 5)) / 5) + r.val = 1024 * (t.val / 5) + r.val; omega)

theorem blk0 (c : Dev nD) (t : Fin cfg0.N) (r : Fin 1024) (k : Fin 2048) :
    (iblk m c 0 t : S1024x2048.Idx → EReal) (ix2 r k) = mX m c (ix2 (row t r) k) := by
  obtain ⟨h0, h1, -⟩ := idx_all t
  unfold iblk
  rw [View.read_apply]
  show m _ _ = m _ _
  refine congrArg (m ((c.tc : Thread nD τ).loc main_arg0)) (funext fun a => Fin.ext ?_)
  match a with
  | ⟨0, _⟩ => show win0_0.index t 0 * 1024 + 1 * r.val = 1024 * (t.val / 5) + r.val; rw [h0]; omega
  | ⟨1, _⟩ => show win0_0.index t 1 * 2048 + 1 * k.val = k.val; rw [h1]; omega

theorem blk1 (c : Dev nD) (t : Fin cfg0.N) (k : Fin 2048) :
    (iblk m c 1 t : S1x2048.Idx → EReal) (ix2 0 k) = mG m c (ix2 0 k) := by
  obtain ⟨-, -, h0, h1, -⟩ := idx_all t
  unfold iblk
  rw [View.read_apply]
  show m _ _ = m _ _
  refine congrArg (m ((c.tc : Thread nD τ).loc main_arg1)) (funext fun a => Fin.ext ?_)
  match a with
  | ⟨0, _⟩ => show win0_1.index t 0 * 1 + 1 * 0 = 0; rw [h0]
  | ⟨1, _⟩ => show win0_1.index t 1 * 2048 + 1 * k.val = k.val; rw [h1]; omega

theorem blk2 (c : Dev nD) (t : Fin cfg0.N) (q : Fin 2048) (k : Fin 2048) :
    (iblk m c 2 t : S2048x2048.Idx → EReal) (ix2 q k) = mW m c (ix2 (col t q) k) := by
  obtain ⟨-, -, -, -, h0, h1, -⟩ := idx_all t
  unfold iblk
  rw [View.read_apply]
  show m _ _ = m _ _
  refine congrArg (m ((c.tc : Thread nD τ).loc main_arg2)) (funext fun a => Fin.ext ?_)
  match a with
  | ⟨0, _⟩ => show win0_2.index t 0 * 2048 + 1 * q.val = 2048 * (t.val % 5) + q.val; rw [h0]; omega
  | ⟨1, _⟩ => show win0_2.index t 1 * 2048 + 1 * k.val = k.val; rw [h1]; omega

theorem blk3 (c : Dev nD) (t : Fin cfg0.N) (q : Fin 128) (k : Fin 2048) :
    (iblk m c 3 t : S128x2048.Idx → EReal) (ix2 q k) = mD m c (ix2 q k) := by
  obtain ⟨-, -, -, -, -, -, h0, h1, -⟩ := idx_all t
  unfold iblk
  rw [View.read_apply]
  show m _ _ = m _ _
  refine congrArg (m ((c.tc : Thread nD τ).loc main_arg3)) (funext fun a => Fin.ext ?_)
  match a with
  | ⟨0, _⟩ => show win0_3.index t 0 * 128 + 1 * q.val = q.val; rw [h0]; omega
  | ⟨1, _⟩ => show win0_3.index t 1 * 2048 + 1 * k.val = k.val; rw [h1]; omega

/-- The first point's normalised row is the array's. -/
theorem scaled_first (c : Dev nD) (t : Fin cfg0.N) (r : Fin 1024) (k : Fin 2048) :
    scaled (fun q => (iblk m c 0 (first t) : S1024x2048.Idx → EReal) (ix2 r q)) (fun q => (iblk m c 1 (first t) : S1x2048.Idx → EReal) (ix2 0 q)) k
      = scaled (fun q => mX m c (ix2 (row t r) q)) (fun q => mG m c (ix2 0 q)) k := by
  refine congrArg₂ (fun f g => scaled f g k) (funext fun q => ?_) (funext fun q => blk1 m c (first t) q)
  rw [← row_first]
  exact blk0 m c (first t) r q

/-- What a point leaves in the projection's buffer, entry by entry. -/
theorem block_entry (c : Dev nD) (t : Fin cfg0.N) (r : Fin 1024) (q : Fin 2048) :
    (block m c t : S1024x2048.Idx → EReal) (ix2 r q) = proj (mX m c) (mG m c) (mW m c) (ix2 (row t r) (col t q)) := by
  unfold block
  refine (block_apply _ _ r q).trans (Finset.sum_congr rfl fun k _ => congrArg₂ (· * ·) ?_ (blk2 m c t q k))
  unfold rows
  exact (kept_apply _ _ r k).trans (scaled_first m c t r k)

/-- What a point leaves in the `dt` buffer, entry by entry. -/
theorem dt_entry (c : Dev nD) (t : Fin cfg0.N) (r : Fin 1024) (q : Fin 128) :
    (dtBlock m c t : S1024x128.Idx → EReal) (ix2 r q) = proj (mX m c) (mG m c) (mD m c) (ix2 (row t r) q) := by
  unfold dtBlock
  exact (dt_apply _ _ _ r q).trans (Finset.sum_congr rfl fun k _ => congrArg₂ (· * ·) (scaled_first m c t r k) (blk3 m c (first t) q k))

/-- Each point writes back its block of the projection. -/
theorem flushed_o (c : Dev nD) (t : Fin cfg0.N) :
    (data m 0 c).flushed 4 t = ((cfg0.win 4).blk t).view.read (Elt Ideal) (proj (mX m c) (mG m c) (mW m c)) := by
  show (cfg0.win 4).cut (grid0.coords t) ((data m 0 c).after 4 t) = _
  rw [after_o]
  funext j
  obtain ⟨r, q, rfl⟩ : ∃ (r : Fin 1024) (q : Fin 2048), j = ix2 r q := ⟨j 0, j 1, eq_ix2 j⟩
  rw [View.read_apply]
  refine (block_entry m c t r q).trans (congrArg (proj (mX m c) (mG m c) (mW m c)) (funext fun a => Fin.ext ?_))
  obtain ⟨-, -, -, -, -, -, -, -, h0, h1, -⟩ := idx_all t
  match a with
  | ⟨0, _⟩ => show 1024 * (t.val / 5) + r.val = win0_4.index t 0 * 1024 + 1 * r.val; rw [h0]; omega
  | ⟨1, _⟩ => show 2048 * (t.val % 5) + q.val = win0_4.index t 1 * 2048 + 1 * q.val; rw [h1]; omega

/-- Each row block's last point writes back its `dt` rows. -/
theorem flushed_dt (c : Dev nD) (t : Fin cfg0.N) :
    (data m 0 c).flushed 5 t = ((cfg0.win 5).blk t).view.read (Elt Ideal) (proj (mX m c) (mG m c) (mD m c)) := by
  show (cfg0.win 5).cut (grid0.coords t) ((data m 0 c).after 5 t) = _
  rw [after_dt]
  funext j
  obtain ⟨r, q, rfl⟩ : ∃ (r : Fin 1024) (q : Fin 128), j = ix2 r q := ⟨j 0, j 1, eq_ix2 j⟩
  rw [View.read_apply]
  refine (dt_entry m c t r q).trans (congrArg (proj (mX m c) (mG m c) (mD m c)) (funext fun a => Fin.ext ?_))
  obtain ⟨-, -, -, -, -, -, -, -, -, -, h0, h1⟩ := idx_all t
  match a with
  | ⟨0, _⟩ => show 1024 * (t.val / 5) + r.val = win0_5.index t 0 * 1024 + 1 * r.val; rw [h0]; omega
  | ⟨1, _⟩ => show q.val = win0_5.index t 1 * 128 + 1 * q.val; rw [h1]; omega

/-- The points' blocks tile the projection. -/
theorem cover_o (i : S8192x10240.Idx) : ∃ t : Fin cfg0.N, (cfg0.win 4).flush t = true ∧ i ∈ ((cfg0.win 4).blk t).view.set := by
  have h0 : (i 0 : Nat) < 8192 := (i 0).isLt
  have h1 : (i 1 : Nat) < 10240 := (i 1).isLt
  have hN : cfg0.N = 40 := N_0
  refine ⟨⟨5 * ((i 0 : Nat) / 1024) + (i 1 : Nat) / 2048, by omega⟩, flush0_4 _, ?_⟩
  generalize ht : (⟨5 * ((i 0 : Nat) / 1024) + (i 1 : Nat) / 2048, by omega⟩ : Fin cfg0.N) = t
  have hv : t.val = 5 * ((i 0 : Nat) / 1024) + (i 1 : Nat) / 2048 := by rw [← ht]
  show i ∈ ((View.whole main_v0_0).slice (win0_4.rect t)).set
  rw [View.set_slice_whole, Rect.mem_set_unit]
  obtain ⟨-, -, -, -, -, -, -, -, e0, e1, -⟩ := idx_all t
  intro a
  match a with
  | ⟨0, _⟩ => show win0_4.index t 0 * 1024 ≤ (i 0 : Nat) ∧ (i 0 : Nat) < win0_4.index t 0 * 1024 + 1024
              rw [e0, hv]; omega
  | ⟨1, _⟩ => show win0_4.index t 1 * 2048 ≤ (i 1 : Nat) ∧ (i 1 : Nat) < win0_4.index t 1 * 2048 + 2048
              rw [e1, hv]; omega

/-- The row blocks tile the `dt` rows. -/
theorem cover_dt (i : S8192x128.Idx) : ∃ t : Fin cfg0.N, (cfg0.win 5).flush t = true ∧ i ∈ ((cfg0.win 5).blk t).view.set := by
  have h0 : (i 0 : Nat) < 8192 := (i 0).isLt
  have h1 : (i 1 : Nat) < 128 := (i 1).isLt
  have hN : cfg0.N = 40 := N_0
  refine ⟨⟨5 * ((i 0 : Nat) / 1024) + 4, by omega⟩, (flush0_5 _).mpr (by show (5 * ((i 0 : Nat) / 1024) + 4) % 5 = 4; omega), ?_⟩
  generalize ht : (⟨5 * ((i 0 : Nat) / 1024) + 4, by omega⟩ : Fin cfg0.N) = t
  have hv : t.val = 5 * ((i 0 : Nat) / 1024) + 4 := by rw [← ht]
  show i ∈ ((View.whole main_v0_1).slice (win0_5.rect t)).set
  rw [View.set_slice_whole, Rect.mem_set_unit]
  obtain ⟨-, -, -, -, -, -, -, -, -, -, e0, e1⟩ := idx_all t
  intro a
  match a with
  | ⟨0, _⟩ => show win0_5.index t 0 * 1024 ≤ (i 0 : Nat) ∧ (i 0 : Nat) < win0_5.index t 0 * 1024 + 1024
              rw [e0, hv]; omega
  | ⟨1, _⟩ => show win0_5.index t 1 * 128 ≤ (i 1 : Nat) ∧ (i 1 : Nat) < win0_5.index t 1 * 128 + 128
              rw [e1]; omega

/-- The projection's array after the run. -/
theorem final_o (c : Dev nD) : (data m 0 c).arrAt 4 cfg0.N = proj (mX m c) (mG m c) (mW m c) :=
  (data m 0 c).arrAt_eq_of_cover 4 (proj (mX m c) (mG m c) (mW m c)) (fun t _ => flushed_o m c t) cover_o

/-- The `dt` array after the run. -/
theorem final_dt (c : Dev nD) : (data m 0 c).arrAt 5 cfg0.N = proj (mX m c) (mG m c) (mD m c) :=
  (data m 0 c).arrAt_eq_of_cover 5 (proj (mX m c) (mG m c) (mD m c)) (fun t _ => flushed_dt m c t) cover_dt

end Ker

/-- Both programs end with the same two result arrays and their arguments unchanged. -/
theorem algebraic : Cert.algebraic_KernelInIdeal_ReferenceInIdeal (hKernelInIdeal := Cert.KernelInIdeal.Gen.facts)
    (hReferenceInIdeal := Cert.ReferenceInIdeal.Gen.facts) := fun m ρ m' ρ' _ hag =>
  ⟨fun c => proj (mX m c) (mG m c) (mW m c), fun c => proj (mX m c) (mG m c) (mD m c),
    (θ_run _ _ _).mono (fun _ h c => ⟨((h.1 c).1 4).trans (final_o m c), ((h.1 c).1 5).trans (final_dt m c), h.2 c⟩)
      (θ_run_and (Cert.InRun.run m ρ) (Cert.KernelInIdeal.Gen.frame_of m ρ (Cert.InRun.data m) (Cert.InRun.data_A m) (Cert.InRun.run m ρ))),
    (θ_run _ _ _).mono (fun _ h c => ⟨(h c).1.trans (by
      obtain ⟨h0, h1, h2, h3⟩ := hag c
      rw [h0, h1, h2]
      exact ref_proj _ _ _), (h c).2.1.trans (by
      obtain ⟨h0, h1, h2, h3⟩ := hag c
      rw [h0, h1, h3]
      exact ref_dt _ _ _), (h c).2.2⟩) (Cert.ReferenceInIdeal.Value.run m' ρ')⟩

end Cert.InValue
-- ==== Proof.OutSValue.lean ====
/-
  The sample's output projection on the reference's side: the eight groups' gated norm of the state's output, the product
  of the joined rows with the weight, the residual and the final norm, each as one function of the arguments.
-/
module

public import proofs.«01_k».proof.Defs
public import proofs.«01_k».proof.Proof.OutValue
public import proofs.«01_k».proof.Proof.Gen.ReferenceOutSIdeal.Run
public import proofs.«01_k».proof.Proof.Gen.ReferenceOutSIdeal.Read
public import Idealize.ShloMosaic.PureOps.Ideal.Laws
public import Idealize.ShloMosaic.Lib.IdealHost

@[expose] public section

set_option maxRecDepth 16384

noncomputable section

open Idealize.ShloMosaic Idealize.ShloMosaic.TcCoe Idealize.SL.Sem Idealize.ShloMosaic.ValueIdx
open scoped BigOperators

namespace Cert.OutSValue

/-- Column `k` of group `g`. -/
def scol (g : Fin 8) (k : Fin 384) : Fin 3072 := ⟨384 * g.val + k.val, by omega⟩

/-- Every column is one of a group's. -/
theorem eq_scol (j : Fin 3072) : ∃ g k, j = scol g k :=
  ⟨⟨j.val / 384, by omega⟩, ⟨j.val % 384, by omega⟩, Fin.ext (by show j.val = 384 * (j.val / 384) + j.val % 384; omega)⟩

/-- A state output through its gate: the diagonal part plus the decayed part, times `z / (1 + exp (-z))`. -/
def cell (yo e d z : EReal) : EReal := (d + e * yo) * (z * Ideal.div 1 (1 + Ideal.exp (-z)))

/-- An entry of a group over the root of the group's mean square plus the small constant. -/
def grouped (row : Fin 384 → EReal) (k : Fin 384) : EReal :=
  row k * Ideal.rsqrt (Ideal.div (∑ i : Fin 384, row i * row i) (Ideal.ofBits .f32 0x43C00000#32) + Ideal.ofBits .f32 0x3727C5AC#32)

/-- The gated norm of one row, at column `k` of group `g`. -/
def gnorm (yo e d z n : Fin 3072 → EReal) (g : Fin 8) (k : Fin 384) : EReal :=
  grouped (fun i => cell (yo (scol g i)) (e (scol g i)) (d (scol g i)) (z (scol g i))) k * n (scol g k)

/-- The same at a column. -/
def gated (yo e d z n : Fin 3072 → EReal) (j : Fin 3072) : EReal :=
  gnorm yo e d z n ⟨j.val / 384, by omega⟩ ⟨j.val % 384, by omega⟩

theorem gated_scol (yo e d z n : Fin 3072 → EReal) (g : Fin 8) (k : Fin 384) :
    gated yo e d z n (scol g k) = gnorm yo e d z n g k := by
  have hk := k.isLt
  unfold gated
  have h1 : (⟨(scol g k).val / 384, by have := (scol g k).isLt; omega⟩ : Fin 8) = g := Fin.ext (by
    show (384 * g.val + k.val) / 384 = g.val; omega)
  have h2 : (⟨(scol g k).val % 384, by omega⟩ : Fin 384) = k := Fin.ext (by
    show (384 * g.val + k.val) % 384 = k.val; omega)
  rw [h1, h2]

/-- A row of the residual sum: the input's row plus the pooled row and the gated row through the two row ranges of the weight. -/
def resid (x : Fin 2048 → EReal) (a : Fin 1024 → EReal) (b : Fin 3072 → EReal) (w : (⟨2, ![4096, 2048]⟩ : Shape).Idx → EReal)
    (q : Fin 2048) : EReal :=
  x q + ((∑ k : Fin 1024, a k * w (ix2 ⟨k.val, by omega⟩ q)) + ∑ k : Fin 3072, b k * w (ix2 ⟨1024 + k.val, by omega⟩ q))

section Arr
variable (a : (⟨2, ![512, 1024]⟩ : Shape).Idx → EReal) (yo e d : (⟨2, ![512, 3072]⟩ : Shape).Idx → EReal)
  (z : (⟨2, ![512, 10240]⟩ : Shape).Idx → EReal) (n : (⟨2, ![1, 3072]⟩ : Shape).Idx → EReal)
  (w : (⟨2, ![4096, 2048]⟩ : Shape).Idx → EReal) (x : (⟨2, ![512, 2048]⟩ : Shape).Idx → EReal)
  (g : (⟨2, ![1, 2048]⟩ : Shape).Idx → EReal)

/-- Row `R` of the gated norm. -/
def gRow (R : Fin 512) : Fin 3072 → EReal :=
  gated (fun j => yo (ix2 R j)) (fun j => e (ix2 R j)) (fun j => d (ix2 R j)) (fun j => z (ix2 R (⟨j.val, by omega⟩ : Fin 10240)))
    (fun j => n (ix2 0 j))

/-- Row `R` of the residual sum. -/
def rRow (R : Fin 512) : Fin 2048 → EReal :=
  resid (fun q => x (ix2 R q)) (fun k => a (ix2 R k)) (gRow yo e d z n R) w

/-- The whole result array as one function of the nine arguments. -/
def G : (⟨2, ![512, 2048]⟩ : Shape).Idx → EReal :=
  fun i => OutValue.normed (rRow a yo e d z n w x (i 0)) (g (ix2 0 (i 1))) (i 1)

section Ref
open Cert.ReferenceOutSIdeal Cert.ReferenceOutSIdeal.Gen Cert.ReferenceOutSIdeal.Read

/-- The gated state output, entry by entry. -/
theorem ref_cell (R : Fin 512) (j : Fin 3072) :
    val_main_v5 (F := Ideal) yo e d z (ix2 R j)
      = cell (yo (ix2 R j)) (e (ix2 R j)) (d (ix2 R j)) (z (ix2 R (⟨j.val, by omega⟩ : Fin 10240))) := by
  have hz : val_main_v2 (F := Ideal) z (ix2 R j) = z (ix2 R (⟨j.val, by omega⟩ : Fin 10240)) := by
    rw [val_main_v2_apply]
    exact congrArg z (funext fun a => by match a with | ⟨0, _⟩ => rfl | ⟨1, _⟩ => rfl)
  rw [val_main_v5_apply, val_main_v1_apply, val_main_v0_apply, val_main_v4_apply, val_main_call0_v5_apply, val_main_call0_v4_apply,
    val_main_call0_v3_apply, val_main_call0_v2_apply, val_main_call0_v1_apply, val_main_call0_v0_apply, val_main_v3_apply, hz,
    val_main_call0_cst_apply, val_main_call0_cst_0_apply]
  show (_ + _ * _) * (_ * Ideal.div (Ideal.ofBits .f32 0x3F800000#32) (Ideal.ofBits .f32 0x3F800000#32 + Ideal.exp (-_))) = _
  rw [Ideal.ofBits_one_f32]
  rfl

/-- The gated norm, entry by entry. -/
theorem ref_gnorm (R : Fin 512) (j : Fin 3072) :
    val_main_v19 (F := Ideal) yo e d z n (ix2 R j) = gRow yo e d z n R j := by
  obtain ⟨g, k, rfl⟩ := eq_scol j
  have hg := g.isLt
  have hk := k.isLt
  have hR := R.isLt
  have e17 : idx_main_v17 (ix2 R (scol g k)) = ix3 R g k := funext fun a => Fin.ext (by
    match a with
    | ⟨0, _⟩ => show (R.val * 3072 + (384 * g.val + k.val)) / 3072 = R.val; omega
    | ⟨1, _⟩ => show (R.val * 3072 + (384 * g.val + k.val)) / 384 % 8 = g.val; omega
    | ⟨2, _⟩ => show (R.val * 3072 + (384 * g.val + k.val)) % 384 = k.val; omega)
  have e6 : ∀ i : Fin 384, val_main_v6 (F := Ideal) yo e d z (ix3 R g i) = cell (yo (ix2 R (scol g i))) (e (ix2 R (scol g i)))
      (d (ix2 R (scol g i))) (z (ix2 R (⟨(scol g i).val, by have := (scol g i).isLt; omega⟩ : Fin 10240))) := fun i => by
    have hi := i.isLt
    rw [val_main_v6_apply, show idx_main_v6 (ix3 R g i) = ix2 R (scol g i) from funext fun a => Fin.ext (by
      match a with
      | ⟨0, _⟩ => show ((R.val * 8 + g.val) * 384 + i.val) / 3072 = R.val; omega
      | ⟨1, _⟩ => show ((R.val * 8 + g.val) * 384 + i.val) % 3072 = 384 * g.val + i.val; omega), ref_cell]
  unfold gRow
  rw [gated_scol, val_main_v19_apply, val_main_v17_apply, e17, val_main_v16_apply, val_main_v15_apply, val_main_v14_apply, val_main_v13_apply,
    val_main_v12_apply, val_main_v11_apply, val_main_v10_apply, val_main_v9_apply, val_main_v8_apply, val_main_v18_apply, val_main_cst_apply,
    val_main_cst_0_apply, val_main_cst_1_apply, e6]
  simp only [Ideal.mulf_def, Ideal.addf_def, Ideal.hostDivf_def, Ideal.hostUnary_rsqrt_def, Ideal.ofBits_def, Ideal.ofBits_zero_f32, zero_add]
  unfold gnorm grouped
  have hs : ∀ i : Fin 384, val_main_v7 (F := Ideal) yo e d z (idx_main_v8 (idx_main_v9 (idx_main_v15 (ix3 R g k))) i)
      = cell (yo (ix2 R (scol g i))) (e (ix2 R (scol g i))) (d (ix2 R (scol g i))) (z (ix2 R (⟨(scol g i).val, by have := (scol g i).isLt; omega⟩ : Fin 10240)))
        * cell (yo (ix2 R (scol g i))) (e (ix2 R (scol g i))) (d (ix2 R (scol g i))) (z (ix2 R (⟨(scol g i).val, by have := (scol g i).isLt; omega⟩ : Fin 10240))) :=
    fun i => by
      rw [show idx_main_v8 (idx_main_v9 (idx_main_v15 (ix3 R g k))) i = ix3 R g i from
        funext fun a => by match a with | ⟨0, _⟩ => rfl | ⟨1, _⟩ => rfl | ⟨2, _⟩ => rfl, val_main_v7_apply, e6]
      rfl
  rw [Finset.sum_congr rfl fun i _ => hs i]
  exact congrArg _ (congrArg n (funext fun a => by match a with | ⟨0, _⟩ => rfl | ⟨1, _⟩ => rfl))

/-- The joined rows: the pooled row in the first 1024 columns. -/
theorem cat_left (R : Fin 512) (k : Fin 1024) :
    val_main_v21 (F := Ideal) a yo e d z n (ix2 R ⟨k.val, by omega⟩) = a (ix2 R k) := by
  unfold val_main_v21
  exact concatenate_pair_apply_left (t := S512x4096) (s₁ := S512x1024) (s₂ := S512x3072) 1 _ _ _ (ix2 R ⟨k.val, by omega⟩) rfl (ix2 R k)
    (fun d => by match d with | ⟨0, _⟩ => rfl | ⟨1, _⟩ => rfl)

/-- … and the gated row in the last 3072. -/
theorem cat_right (R : Fin 512) (k : Fin 3072) :
    val_main_v21 (F := Ideal) a yo e d z n (ix2 R ⟨1024 + k.val, by omega⟩) = gRow yo e d z n R k := by
  rw [← ref_gnorm]
  unfold val_main_v21
  exact concatenate_pair_apply_right (t := S512x4096) (s₁ := S512x1024) (s₂ := S512x3072) 1 _ _ _ (ix2 R ⟨1024 + k.val, by omega⟩) rfl rfl (ix2 R k)
    (fun d hd => by match d with | ⟨0, _⟩ => rfl | ⟨1, _⟩ => exact absurd rfl hd)
    (by show k.val + 1024 = 1024 + k.val; omega)

/-- The residual sum at row `R`. -/
theorem ref_resid (R : Fin 512) (q : Fin 2048) :
    val_main_v24 (F := Ideal) a yo e d z n w x (ix2 R q) = rRow a yo e d z n w x R q := by
  rw [val_main_v24_apply, val_main_v23_apply, OutValue.sum_split]
  simp only [Ideal.addf_def]
  unfold rRow resid
  refine congrArg (x (ix2 R q) + ·) (congrArg₂ (· + ·) (Finset.sum_congr rfl fun k _ => ?_) (Finset.sum_congr rfl fun k _ => ?_))
  · rw [show lidx_main_v23 (ix2 R q) ⟨k.val, by omega⟩ = ix2 R ⟨k.val, by omega⟩ from
      funext fun d => by match d with | ⟨0, _⟩ => rfl | ⟨1, _⟩ => rfl, cat_left]
    refine congrArg (a (ix2 R k) * w ·) (funext fun d => by match d with | ⟨0, _⟩ => rfl | ⟨1, _⟩ => rfl)
  · rw [show lidx_main_v23 (ix2 R q) ⟨1024 + k.val, by omega⟩ = ix2 R ⟨1024 + k.val, by omega⟩ from
      funext fun d => by match d with | ⟨0, _⟩ => rfl | ⟨1, _⟩ => rfl, cat_right]
    refine congrArg (gRow yo e d z n R k * w ·) (funext fun d => by match d with | ⟨0, _⟩ => rfl | ⟨1, _⟩ => rfl)

/-- The reference's result is `G` of its arguments. -/
theorem ref_eq : val_main_v36 (F := Ideal) a yo e d z n w x g = G a yo e d z n w x g := by
  funext i
  obtain ⟨R, q, rfl⟩ : ∃ (R : Fin 512) (q : Fin 2048), i = ix2 R q := ⟨i 0, i 1, eq_ix2 i⟩
  rw [val_main_v36_apply, val_main_v34_apply, val_main_v35_apply, val_main_v33_apply, val_main_v32_apply, val_main_v31_apply,
    val_main_v30_apply, val_main_v29_apply, val_main_v28_apply, val_main_v27_apply, val_main_v26_apply, val_main_cst_4_apply,
    val_main_cst_3_apply, val_main_cst_2_apply, ref_resid]
  simp only [Ideal.mulf_def, Ideal.addf_def, Ideal.hostDivf_def, Ideal.hostUnary_rsqrt_def, Ideal.ofBits_def, Ideal.ofBits_zero_f32,
    zero_add]
  have hs : ∀ k : Fin 2048, val_main_v25 (F := Ideal) a yo e d z n w x (idx_main_v26 (idx_main_v27 (idx_main_v33 (ix2 R q))) k)
      = rRow a yo e d z n w x R k * rRow a yo e d z n w x R k := fun k => by
    rw [show idx_main_v26 (idx_main_v27 (idx_main_v33 (ix2 R q))) k = ix2 R k from
      funext fun d => by match d with | ⟨0, _⟩ => rfl | ⟨1, _⟩ => rfl, val_main_v25_apply, ref_resid]
    rfl
  rw [Finset.sum_congr rfl fun k _ => hs k]
  exact congrArg _ (congrArg g (funext fun d => by match d with | ⟨0, _⟩ => rfl | ⟨1, _⟩ => rfl))

end Ref
end Arr
end Cert.OutSValue
end
-- ==== Proof.PoolMath.lean ====
/-
  The mathematics of the pool mixer, free of both programs: running sums and sliding windows over one axis, the gate
  `g * sigmoid g` written with a hyperbolic tangent, and what the finiteness precondition says of an entry.
-/
module

public import Idealize.ShloMosaic.PureOps.Ideal.Laws
public import Idealize.ShloMosaic.Lib.ValueIdx
public import Idealize.ShloMosaic.Lib.IdealHost
public import Mathlib.Analysis.SpecialFunctions.Trigonometric.DerivHyp

@[expose] public section

noncomputable section

open Idealize.ShloMosaic Idealize.ShloMosaic.ValueIdx
open scoped BigOperators

namespace Cert.PoolMath

/-! ## Sums -/

/-- A left fold that adds a term at each step is the start plus the sum of the terms. -/
theorem foldl_add {ι : Type} (g : ι → EReal) (l : List ι) : ∀ z : EReal, l.foldl (fun r n => r + g n) z = z + (l.map g).sum := by
  induction l with
  | nil => intro z; simp
  | cons a l ih => intro z; rw [List.foldl_cons, ih, List.map_cons, List.sum_cons, add_assoc]

/-- A window of `K + 1` positions ending at `j` sums the entries up to `j`, the positions before entry 0 giving zero. -/
theorem sum_padded (f : ℕ → EReal) (K j : ℕ) (hj : j ≤ K) :
    ∑ k ∈ Finset.range (K + 1), (if K ≤ j + k then f (j + k - K) else 0) = ∑ i ∈ Finset.range (j + 1), f i := by
  obtain ⟨d, rfl⟩ : ∃ d, K = j + d := ⟨K - j, by omega⟩
  rw [show j + d + 1 = d + (j + 1) by omega, Finset.sum_range_add,
    Finset.sum_eq_zero (fun k hk => if_neg (by have := Finset.mem_range.1 hk; omega)), zero_add]
  refine Finset.sum_congr rfl fun i _ => ?_
  rw [if_pos (by omega)]
  exact congrArg f (by omega)

/-- The indices of a window `1 × 2064 × 1` are its positions on the middle axis. -/
theorem sum_window (G : (⟨3, ![1, 2064, 1]⟩ : Shape).Idx → EReal) :
    ∑ w, G w = ∑ k : Fin 2064, G (ix3 (0 : Fin 1) k (0 : Fin 1)) := by
  refine (Fintype.sum_equiv ⟨fun k : Fin 2064 => ix3 (0 : Fin 1) k (0 : Fin 1), fun w => w 1, fun k => rfl, fun w => ?_⟩ _ _
    (fun k => rfl)).symm
  funext a
  match a with
  | ⟨0, _⟩ => exact Subsingleton.elim (α := Fin 1) _ _
  | ⟨1, _⟩ => rfl
  | ⟨2, _⟩ => exact Subsingleton.elim (α := Fin 1) _ _

/-- The running sum down the middle axis, as a window sum of the whole height padded low by one less: entry `(b, j, c)`
    is the sum of the entries `(b, 0, c) … (b, j, c)`. -/
theorem cumsum_apply (x : (⟨3, ![4, 2064, 1024]⟩ : Shape).Idx → EReal) (f : Fin 4 → Fin 1024 → ℕ → EReal)
    (hx : ∀ (b : Fin 4) (i : Fin 2064) (c : Fin 1024), x (ix3 b i c) = f b c i.val) (init : EReal) (h0 : init = 0)
    (h : (⟨3, ![4, 2064, 1024]⟩ : Shape).ReduceWindows (![1, 2064, 1] : Fin 3 → ℕ) ![1, 1, 1] ![0, 2063, 0] ![0, 0, 0]
      (⟨3, ![4, 2064, 1024]⟩ : Shape)) (b : Fin 4) (j : Fin 2064) (c : Fin 1024) :
    Ideal.hostReduceWindowAdd ![1, 2064, 1] ![1, 1, 1] ![0, 2063, 0] ![0, 0, 0] h x init (ix3 b j c)
      = ∑ i ∈ Finset.range (j.val + 1), f b c i := by
  subst h0
  have hj := j.isLt
  unfold Ideal.hostReduceWindowAdd Host.reduceWindow
  refine (foldl_add _ _ _).trans ?_
  rw [zero_add, ← Fin.sum_univ_def]
  refine (Equiv.sum_comp (⟨3, ![1, 2064, 1]⟩ : Shape).rowMajor.symm (fun w : (⟨3, ![1, 2064, 1]⟩ : Shape).Idx =>
      if hin : ∀ a : Fin 3, (![0, 2063, 0] : Fin 3 → ℕ) a ≤ (ix3 b j c a).val * (![1, 1, 1] : Fin 3 → ℕ) a + (w a).val
          ∧ (ix3 b j c a).val * (![1, 1, 1] : Fin 3 → ℕ) a + (w a).val - (![0, 2063, 0] : Fin 3 → ℕ) a < (⟨3, ![4, 2064, 1024]⟩ : Shape).size a
        then x (fun a => ⟨(ix3 b j c a).val * (![1, 1, 1] : Fin 3 → ℕ) a + (w a).val - (![0, 2063, 0] : Fin 3 → ℕ) a, (hin a).2⟩) else 0)).trans ?_
  rw [sum_window, ← sum_padded _ 2063 j.val (by omega),
    ← Fin.sum_univ_eq_sum_range (fun k => if 2063 ≤ j.val + k then f b c (j.val + k - 2063) else 0) 2064]
  refine Finset.sum_congr rfl fun k _ => ?_
  by_cases hk : 2063 ≤ j.val + k.val
  · rw [if_pos hk, dif_pos (fun a => by
      match a with
      | ⟨0, _⟩ => show 0 ≤ b.val * 1 + 0 ∧ b.val * 1 + 0 - 0 < 4; omega
      | ⟨1, _⟩ => show 2063 ≤ j.val * 1 + k.val ∧ j.val * 1 + k.val - 2063 < 2064; omega
      | ⟨2, _⟩ => show 0 ≤ c.val * 1 + 0 ∧ c.val * 1 + 0 - 0 < 1024; omega)]
    refine Eq.trans (congrArg x (funext fun a => Fin.ext ?_)) (hx b ⟨j.val + k.val - 2063, by omega⟩ c)
    match a with
    | ⟨0, _⟩ => show b.val * 1 + 0 - 0 = b.val; omega
    | ⟨1, _⟩ => show j.val * 1 + k.val - 2063 = j.val + k.val - 2063; omega
    | ⟨2, _⟩ => show c.val * 1 + 0 - 0 = c.val; omega
  · rw [if_neg hk, dif_neg]
    intro hin
    have h1 : 2063 ≤ j.val * 1 + k.val := (hin 1).1
    omega

/-- A window of `w` entries ending at `n`, and the one before it, make the window of `2 w` entries. -/
theorem window_double (f : ℕ → EReal) (n w : ℕ) :
    ∑ i ∈ Finset.range w, f (n - i) + ∑ i ∈ Finset.range w, f (n - w - i) = ∑ i ∈ Finset.range (2 * w), f (n - i) := by
  rw [two_mul, Finset.sum_range_add]
  exact congrArg (_ + ·) (Finset.sum_congr rfl fun i _ => congrArg f (by omega))

/-- Of real entries, the running sum at `n + w` less the running sum at `n` is the sum of the last `w` entries. -/
theorem window_diff (f : ℕ → EReal) (r : ℕ → ℝ) (hf : ∀ i, f i = (r i : EReal)) (n w : ℕ) :
    ∑ i ∈ Finset.range (n + w + 1), f i - ∑ i ∈ Finset.range (n + 1), f i = ∑ i ∈ Finset.range w, f (n + w - i) := by
  have hs : ∀ s : Finset ℕ, ∀ g : ℕ → ℕ, ∑ i ∈ s, f (g i) = ((∑ i ∈ s, r (g i) : ℝ) : EReal) := fun s g => by
    rw [Finset.sum_congr rfl (fun i _ => hf (g i))]
    induction s using Finset.cons_induction with
    | empty => simp
    | cons a s ha ih => rw [Finset.sum_cons, Finset.sum_cons, ih, EReal.coe_add]
  have e1 := hs (Finset.range (n + w + 1)) id
  have e2 := hs (Finset.range (n + 1)) id
  simp only [id] at e1 e2
  rw [e1, e2, hs _ (fun i => n + w - i), ← EReal.coe_sub]
  congr 1
  rw [show n + w + 1 = n + 1 + w by omega, Finset.sum_range_add, add_sub_cancel_left, ← Finset.sum_range_reflect]
  refine Finset.sum_congr rfl fun i hi => congrArg r ?_
  have := Finset.mem_range.1 hi
  omega

/-! ## The gate -/

/-- The literal one half. -/
theorem half : Ideal.ofBits .f32 0x3F000000#32 = ((1 / 2 : ℝ) : EReal) := by
  simp [Ideal.ofBits, Ideal.ieee, -EReal.coe_mul]; norm_num

/-- At a real gate `g`, with `h = g / 2`: `h + h * tanh h = g * (1 / (1 + exp (-g)))`. -/
theorem gate (g : ℝ) :
    ((1 / 2 : ℝ) : EReal) * (g : EReal) + ((1 / 2 : ℝ) : EReal) * (g : EReal) * Ideal.tanh (((1 / 2 : ℝ) : EReal) * (g : EReal))
      = (g : EReal) * Ideal.div 1 (1 + Ideal.exp (-(g : EReal))) := by
  have hl : Ideal.div 1 (1 + Ideal.exp (-(g : EReal))) = Ideal.logistic (g : EReal) := rfl
  rw [hl, Ideal.logistic_coe, ← EReal.coe_mul, Ideal.tanh_coe, ← EReal.coe_mul, ← EReal.coe_add, ← EReal.coe_mul]
  congr 1
  rw [Real.tanh_eq_sinh_div_cosh, Real.sinh_eq, Real.cosh_eq]
  have e1 : Real.exp (1 / 2 * g) * Real.exp (-(1 / 2 * g)) = 1 := by rw [← Real.exp_add]; simp
  have e2 : Real.exp (-g) = Real.exp (-(1 / 2 * g)) * Real.exp (-(1 / 2 * g)) := by rw [← Real.exp_add]; congr 1; ring
  have p1 := Real.exp_pos (1 / 2 * g)
  have p2 := Real.exp_pos (-(1 / 2 * g))
  rw [e2]
  generalize Real.exp (1 / 2 * g) = a at *
  generalize Real.exp (-(1 / 2 * g)) = b at *
  have h1 : (a + b) ≠ 0 := by positivity
  have h2 : (1 + b * b) ≠ 0 := by positivity
  field_simp
  linear_combination (2 * g * b) * e1

/-! ## The precondition at an entry -/

/-- A number whose absolute value is below infinity is real. -/
theorem real_of_abs_lt (x : EReal) (h : Ideal.cmp .olt (max x (-x)) ⊤ = 1#1) : ∃ r : ℝ, x = (r : EReal) := by
  induction x with
  | bot => exact absurd h (by simp [Ideal.cmp])
  | top => exact absurd h (by simp [Ideal.cmp])
  | coe r => exact ⟨r, rfl⟩

end Cert.PoolMath
end
-- ==== Proof.PoolRef.lean ====
/-
  The pool mixer's reference, entry by entry. The pool input `u` of a sequence is preceded by sixteen zero rows
  (`pad`); the reference takes running sums of that column and differences them, which for real entries is a sum over
  the last 2, 4, 8 or 16 rows.
-/
module

public import proofs.«01_k».proof.Proof.PoolMath
public import proofs.«01_k».proof.Proof.Gen.ReferenceIdeal.Read
public import Idealize.ShloMosaic.Lib.KernelVsHost
public import Idealize.ShloMosaic.Lib.Pipeline.ValueKit.Tiles

@[expose] public section

set_option maxRecDepth 16384

noncomputable section

open Idealize.ShloMosaic Idealize.ShloMosaic.ValueIdx
open scoped BigOperators

namespace Cert.PoolValue

/-! ## The closed form -/

section Closed
variable (X : (⟨2, ![8192, 10240]⟩ : Shape).Idx → EReal) (W : (⟨3, ![4, 256, 256]⟩ : Shape).Idx → EReal)
  (S : (⟨2, ![1, 1024]⟩ : Shape).Idx → EReal)

/-- Column `c` of the pool input of sequence `b`, moved down by sixteen: zero at rows `0 … 15`, row `i - 16` of the
    sequence at `16 ≤ i < 2064`. -/
def pad (b : Fin 4) (c : Fin 1024) (i : ℕ) : EReal :=
  if h : 16 ≤ i ∧ i < 2064 then
    X (ix2 ⟨2048 * b.val + (i - 16), by have := b.isLt; omega⟩ ⟨6144 + c.val, by have := c.isLt; omega⟩) else 0

/-- The column of entry `k` of group `g`. -/
abbrev col (g : Fin 4) (k : Fin 256) : Fin 1024 := ⟨256 * g.val + k.val, by have := g.isLt; have := k.isLt; omega⟩

/-- The number of rows averaged at position `p`: the window of the group, or the rows there are, as a float. -/
def count (w : BitVec 32) (p : ℕ) : EReal :=
  FloatOps.sitofp (F := Ideal) .f32 (IntOp.minsi w (IntOp.addi (BitVec.ofNat 32 p) 1#32))

/-- A group's pooled entry: the mean of the last `n` rows less the row itself. -/
def pooled (b : Fin 4) (n : ℕ) (w : BitVec 32) (c : Fin 1024) (p : ℕ) : EReal :=
  Ideal.div (∑ i ∈ Finset.range n, pad X b c (16 + p - i)) (count w p) - pad X b c (16 + p)

/-- The gate of row `R` and column `c`. -/
abbrev gateAt (R : Fin 8192) (c : Fin 1024) : EReal := X (ix2 R ⟨7168 + c.val, by have := c.isLt; omega⟩)

/-- Row `p` of sequence `b`, as a row of the array. -/
abbrev row (b : Fin 4) (p : Fin 2048) : Fin 8192 := ⟨2048 * b.val + p.val, by have := b.isLt; have := p.isLt; omega⟩

/-- Group `g`'s window. -/
abbrev win (g : Fin 4) : ℕ := 2 ^ (g.val + 1)

/-- An entry of the pool mixer: the group's pooled row times the group's matrix, scaled and gated by `x * sigmoid x`. -/
def ent (b : Fin 4) (p : Fin 2048) (g : Fin 4) (q : Fin 256) : EReal :=
  (∑ k : Fin 256, pooled X b (win g) (BitVec.ofNat 32 (win g)) (col g k) p.val * W (ix3 g k q)) * S (ix2 0 (col g q))
    * (gateAt X (row b p) (col g q) * Ideal.div 1 (1 + Ideal.exp (-(gateAt X (row b p) (col g q)))))

/-- The pool mixer's output array. -/
def G (i : (⟨2, ![8192, 1024]⟩ : Shape).Idx) : EReal :=
  ent X W S ⟨(i 0).val / 2048, by have : (i 0).val < 8192 := (i 0).isLt; omega⟩ ⟨(i 0).val % 2048, Nat.mod_lt _ (by norm_num)⟩
    ⟨(i 1).val / 256, by have : (i 1).val < 1024 := (i 1).isLt; omega⟩ ⟨(i 1).val % 256, Nat.mod_lt _ (by norm_num)⟩

/-- The rows carried to the next call: the last fifteen of each sequence's pool input. -/
def H (i : (⟨3, ![4, 15, 1024]⟩ : Shape).Idx) : EReal := pad X (i 0) (i 2) (2049 + (i 1).val)

theorem G_at (b : Fin 4) (p : Fin 2048) (g : Fin 4) (q : Fin 256) : G X W S (ix2 (row b p) (col g q)) = ent X W S b p g q := by
  have := b.isLt; have := p.isLt; have := g.isLt; have := q.isLt
  unfold G
  congr 1
  · exact Fin.ext (show (2048 * b.val + p.val) / 2048 = b.val by omega)
  · exact Fin.ext (show (2048 * b.val + p.val) % 2048 = p.val by omega)
  · exact Fin.ext (show (256 * g.val + q.val) / 256 = g.val by omega)
  · exact Fin.ext (show (256 * g.val + q.val) % 256 = q.val by omega)

/-- The entries the precondition speaks of are real. -/
def RealCols : Prop := ∀ (R : Fin 8192) (c : Fin 2048), ∃ r : ℝ, X (ix2 R ⟨6144 + c.val, by have := c.isLt; omega⟩) = (r : EReal)

theorem pad_real (hX : RealCols X) (b : Fin 4) (c : Fin 1024) (i : ℕ) : ∃ r : ℝ, pad X b c i = (r : EReal) := by
  unfold pad
  split
  · exact hX _ ⟨c.val, by have := c.isLt; omega⟩
  · exact ⟨0, rfl⟩

theorem gate_real (hX : RealCols X) (R : Fin 8192) (c : Fin 1024) : ∃ r : ℝ, gateAt X R c = (r : EReal) := by
  obtain ⟨r, hr⟩ := hX R ⟨1024 + c.val, by have := c.isLt; omega⟩
  refine ⟨r, Eq.trans (congrArg X (congrArg (ix2 R) (Fin.ext ?_))) hr⟩
  show 7168 + c.val = 6144 + (1024 + c.val)
  omega

end Closed

/-! ## The reference -/

section Ref
open Cert.ReferenceIdeal Cert.ReferenceIdeal.Gen Cert.ReferenceIdeal.Read

variable (X : (⟨S8192x10240, .bf16⟩ : BufTy).Contents (Elt Ideal)) (W : (⟨S4x256x256, .f32⟩ : BufTy).Contents (Elt Ideal))
  (S : (⟨S1x1024, .f32⟩ : BufTy).Contents (Elt Ideal))

/-- The pool input, from the projection's columns 6144 … 7167. -/
theorem v2_at (b : Fin 4) (p : Fin 2048) (c : Fin 1024) : val_main_v2 (F := Ideal) X (ix3 b p c) = pad X b c (16 + p.val) := by
  have := b.isLt; have := p.isLt; have := c.isLt
  rw [val_main_v2_apply, val_main_v1_apply, val_main_v0_apply]
  unfold pad
  rw [dif_pos (by omega)]
  show X _ = X _
  refine congrArg X (funext fun a => Fin.ext ?_)
  match a with
  | ⟨0, _⟩ => show ((b.val * 2048 + p.val) * 10240 + (6144 + c.val)) / 10240 = 2048 * b.val + (16 + p.val - 16); omega
  | ⟨1, _⟩ => show ((b.val * 2048 + p.val) * 10240 + (6144 + c.val)) % 10240 = 6144 + c.val; omega

/-- The gate, from columns 7168 … 8191. -/
theorem v3_at (b : Fin 4) (p : Fin 2048) (c : Fin 1024) : val_main_v3 (F := Ideal) X (ix3 b p c) = gateAt X (row b p) c := by
  have := b.isLt; have := p.isLt; have := c.isLt
  rw [val_main_v3_apply, val_main_v1_apply, val_main_v0_apply]
  show X _ = X _
  refine congrArg X (funext fun a => Fin.ext ?_)
  match a with
  | ⟨0, _⟩ => show ((b.val * 2048 + p.val) * 10240 + (7168 + c.val)) / 10240 = 2048 * b.val + p.val; omega
  | ⟨1, _⟩ => show ((b.val * 2048 + p.val) * 10240 + (7168 + c.val)) % 10240 = 7168 + c.val; omega

theorem zero_f32 : (FloatOps.ofBits (F := Ideal) .f32 0x00000000#32 : EReal) = 0 := Ideal.ofBits_zero_f32

/-- Fifteen zero rows, then the pool input. -/
theorem v5_at (b : Fin 4) (j : Fin 2063) (c : Fin 1024) : val_main_v5 (F := Ideal) X (ix3 b j c) = pad X b c (j.val + 1) := by
  unfold val_main_v5
  by_cases hj : j.val < 15
  · rw [concatenate_pair_apply_left (t := S4x2063x1024) (s₁ := S4x15x1024) (s₂ := S4x2048x1024) 1 _ _ _ (ix3 b j c) rfl
      (ix3 b ⟨j.val, hj⟩ c) (fun d => by match d with | ⟨0, _⟩ => rfl | ⟨1, _⟩ => rfl | ⟨2, _⟩ => rfl)]
    rw [val_main_v4_apply, val_main_cst_apply]
    unfold pad
    rw [dif_neg (by omega)]
    exact zero_f32
  · have := j.isLt
    rw [concatenate_pair_apply_right (t := S4x2063x1024) (s₁ := S4x15x1024) (s₂ := S4x2048x1024) 1 _ _ _ (ix3 b j c) rfl rfl
      (ix3 b ⟨j.val - 15, by omega⟩ c)
      (fun d hd => by match d with | ⟨0, _⟩ => rfl | ⟨1, _⟩ => exact absurd rfl hd | ⟨2, _⟩ => rfl)
      (by show j.val - 15 + 15 = j.val; omega)]
    rw [v2_at]
    exact congrArg (pad X b c) (show 16 + (j.val - 15) = j.val + 1 by omega)

/-- One more zero row in front. -/
theorem v6_at (b : Fin 4) (j : Fin 2064) (c : Fin 1024) : val_main_v6 (F := Ideal) X (ix3 b j c) = pad X b c j.val := by
  unfold val_main_v6
  by_cases hj : j.val = 0
  · rw [pad_apply_of_not_inside _ _ _ _ _ _ _ (ix3 b j c) 1 (by
      intro h
      have h1 : 1 ≤ j.val := h.1
      omega)]
    unfold pad
    rw [dif_neg (by omega), val_main_call0_v0_apply, val_main_c_apply]
    show ((((0#32 : BitVec 32).toInt : ℝ)) : EReal) = 0
    simp
  · have := j.isLt
    rw [pad_apply_of_inside _ _ _ _ _ _ _ (ix3 b j c) (ix3 b ⟨j.val - 1, by omega⟩ c) (fun d => by
      match d with
      | ⟨0, _⟩ => show b.val = 0 + b.val * (0 + 1); omega
      | ⟨1, _⟩ => show j.val = 1 + (j.val - 1) * (0 + 1); omega
      | ⟨2, _⟩ => show c.val = 0 + c.val * (0 + 1); omega), v5_at]
    exact congrArg (pad X b c) (show j.val - 1 + 1 = j.val by omega)

/-- The running sums. -/
theorem v7_at (b : Fin 4) (j : Fin 2064) (c : Fin 1024) :
    val_main_v7 (F := Ideal) X (ix3 b j c) = ∑ i ∈ Finset.range (j.val + 1), pad X b c i := by
  have hx := v6_at X
  have h0 : val_main_call1_call0_v0 (F := Ideal) (Shape.Idx.first h_S_) = 0 := by
    rw [val_main_call1_call0_v0_apply, val_main_call1_call0_cst_apply]; exact zero_f32
  unfold val_main_v7 Host.reduceWindowAdd
  generalize val_main_v6 (F := Ideal) X = x at hx ⊢
  generalize val_main_call1_call0_v0 (F := Ideal) (Shape.Idx.first h_S_) = z at h0 ⊢
  rw [Ideal.hostReduceWindowAdd_def]
  exact PoolMath.cumsum_apply x (fun b c i => pad X b c i) hx z h0 _ b j c

/-- The difference of two running sums `n` rows apart is the sum of the last `n` rows. -/
theorem diff_at (hX : RealCols X) (n : ℕ) (hn : n ≤ 16) (b : Fin 4) (p : Fin 2048) (c : Fin 1024) (j j' : Fin 2064)
    (hj : j.val = 16 + p.val) (hj' : j'.val = 16 - n + p.val) :
    val_main_v7 (F := Ideal) X (ix3 b j c) - val_main_v7 (F := Ideal) X (ix3 b j' c)
      = ∑ i ∈ Finset.range n, pad X b c (16 + p.val - i) := by
  choose r hr using fun i => pad_real X hX b c i
  rw [v7_at, v7_at, hj, hj']
  have h := PoolMath.window_diff (fun i => pad X b c i) r hr (16 - n + p.val) n
  rw [show 16 - n + p.val + n = 16 + p.val by omega] at h
  exact h

end Ref

end Cert.PoolValue
end
-- ==== Proof.PoolTile.lean ====
/-
  One column group of the pool kernel's tile: doubling rotations turn the scratch's column into window sums, and the
  rest of the group's arithmetic is one expression shared by the four groups.
-/
module

public import proofs.«01_k».proof.Proof.PoolRef
public import proofs.«01_k».proof.Proof.Gen.KernelIdeal.Skeleton
public import Idealize.ShloMosaic.Lib.MatmulPlain

@[expose] public section

set_option maxRecDepth 16384

noncomputable section

open Idealize.ShloMosaic Idealize.ShloMosaic.ValueIdx
open scoped BigOperators

namespace Cert.PoolValue
open Cert.KernelIdeal Cert.KernelIdeal.Gen

/-- A column plus itself moved down by `n` rows, around the end. -/
def roll (n : BitVec 32) (v : FVec Ideal S528x256 .f32) : FVec Ideal S528x256 .f32 :=
  addf v (dynamicRotate 0 n none v rotates_S528x256_d0)

/-- From row `w` on past where windows of `w` rows are right, `roll w` makes windows of `2 w` rows. -/
theorem roll_apply (f : Fin 256 → ℕ → EReal) (v : FVec Ideal S528x256 .f32) (n : BitVec 32) (w lo : ℕ) (hw : n.toNat = w) (hw' : w ≤ 16)
    (hv : ∀ (j : Fin 528) (k : Fin 256), lo ≤ j.val → v (ix2 j k) = ∑ i ∈ Finset.range w, f k (j.val - i))
    (j : Fin 528) (k : Fin 256) (hj : lo + w ≤ j.val) :
    roll n v (ix2 j k) = ∑ i ∈ Finset.range (2 * w), f k (j.val - i) := by
  have := j.isLt
  unfold roll
  rw [addf_apply, dynamicRotate_apply 0 n v _ (ix2 j k) (ix2 (⟨j.val - w, by omega⟩ : Fin 528) k) (fun b => by
    match b with
    | ⟨0, _⟩ =>
      show j.val - w = (j.val + 528 - n.toNat % 528) % 528
      rw [hw]; omega
    | ⟨1, _⟩ => rfl), hv j k (by omega), hv ⟨j.val - w, by omega⟩ k (show lo ≤ j.val - w by omega),
    ← PoolMath.window_double]

section Rolls
variable (f : Fin 256 → ℕ → EReal) (v : FVec Ideal S528x256 .f32) (hv : ∀ (j : Fin 528) (k : Fin 256), v (ix2 j k) = f k j.val)
include hv

theorem roll1 (j : Fin 528) (k : Fin 256) (hj : 1 ≤ j.val) :
    roll 1#32 v (ix2 j k) = ∑ i ∈ Finset.range 2, f k (j.val - i) :=
  roll_apply f v 1#32 1 0 rfl (by omega) (fun j k _ => by rw [Finset.sum_range_one]; exact hv j k) j k (by omega)

theorem roll2 (j : Fin 528) (k : Fin 256) (hj : 3 ≤ j.val) :
    roll 2#32 (roll 1#32 v) (ix2 j k) = ∑ i ∈ Finset.range 4, f k (j.val - i) :=
  roll_apply f _ 2#32 2 1 rfl (by omega) (roll1 f v hv) j k (by omega)

theorem roll4 (j : Fin 528) (k : Fin 256) (hj : 7 ≤ j.val) :
    roll 4#32 (roll 2#32 (roll 1#32 v)) (ix2 j k) = ∑ i ∈ Finset.range 8, f k (j.val - i) :=
  roll_apply f _ 4#32 4 3 rfl (by omega) (roll2 f v hv) j k (by omega)

theorem roll8 (j : Fin 528) (k : Fin 256) (hj : 15 ≤ j.val) :
    roll 8#32 (roll 4#32 (roll 2#32 (roll 1#32 v))) (ix2 j k) = ∑ i ∈ Finset.range 16, f k (j.val - i) :=
  roll_apply f _ 8#32 8 7 rfl (by omega) (roll4 f v hv) j k (by omega)

end Rolls

/-- The rest of a group: rows 16 … of the window sums divided by the count, less the row, times the group's matrix, scaled
    and gated. -/
def tail (v : FVec Ideal S528x256 .f32) (w : BitVec 32) (pos : IVec S512x1 32) (u : FVec Ideal S512x256 .f32)
    (mat : Vec Ideal S1x256x256 .f32) (gt : Vec Ideal S512x256 .bf16) (sc : Vec Ideal S1x256 .f32) : FVec Ideal S512x256 .bf16 :=
  truncf .bf16
    (mulf
      (mulf
        (matmul dot_S512x256_S256x256_S512x256_1_0_0_1_n_n none
          (truncf .bf16 (subf (divf (extractStridedSlice S512x256 ![16, 0] v slices_S528x256_o16_0_S512x256)
            (broadcastTo S512x256 (sitofp .f32 (minsi (broadcast S512x1 w) (addi pos (broadcast S512x1 1#32)))) broadcasts_S512x1_S512x256)) u)
            bitsLt_bf16_f32)
          (truncf .bf16 (shapeCast S256x256 mat shapeCasts_S1x256x256_S256x256) bitsLt_bf16_f32)
          (constant S512x256 .f32 0x00000000#32))
        (broadcastTo S512x256 sc broadcasts_S1x256_S512x256))
      (addf (mulf (broadcast S512x256 (Scalar.ofBits .f32 0x3F000000#32)) (extf .f32 gt bitsLt_bf16_f32))
        (mulf (mulf (broadcast S512x256 (Scalar.ofBits .f32 0x3F000000#32)) (extf .f32 gt bitsLt_bf16_f32))
          (tanh (mulf (broadcast S512x256 (Scalar.ofBits .f32 0x3F000000#32)) (extf .f32 gt bitsLt_bf16_f32))))))
    bitsLt_bf16_f32

theorem pay9_eq (i : grid0.Coords) (U : Vec Ideal S512x1024 .bf16) (v : Vec Ideal S528x256 .f32) (mat : Vec Ideal S1x256x256 .f32)
    (gt : Vec Ideal S512x256 .bf16) (sc : Vec Ideal S1x256 .f32) :
    k0_pay9 (k0_pay7 gt) (k0_pay8 i U v mat sc) (FloatOps.ofBits .f32 0x3F000000#32)
      = tail (roll 1#32 v) 2#32 (k0_pay6 i) (extractStridedSlice S512x256 ![0, 0] (k0_pay4 U) slices_S512x1024_o0_0_S512x256) mat gt sc := rfl

theorem pay10_eq (u : FVec Ideal S512x1024 .f32) (pos : IVec S512x1 32) (v : Vec Ideal S528x256 .f32) (mat : Vec Ideal S1x256x256 .f32)
    (gt : Vec Ideal S512x256 .bf16) (sc : Vec Ideal S1x256 .f32) :
    k0_pay10 u pos v mat gt sc = tail (roll 2#32 (roll 1#32 v)) 4#32 pos
      (extractStridedSlice S512x256 ![0, 256] u slices_S512x1024_o0_256_S512x256) mat gt sc := rfl

theorem pay11_eq (u : FVec Ideal S512x1024 .f32) (pos : IVec S512x1 32) (v : Vec Ideal S528x256 .f32) (mat : Vec Ideal S1x256x256 .f32)
    (gt : Vec Ideal S512x256 .bf16) (sc : Vec Ideal S1x256 .f32) :
    k0_pay11 u pos v mat gt sc = tail (roll 4#32 (roll 2#32 (roll 1#32 v))) 8#32 pos
      (extractStridedSlice S512x256 ![0, 512] u slices_S512x1024_o0_512_S512x256) mat gt sc := rfl

theorem pay13_eq (u : FVec Ideal S512x1024 .f32) (pos : IVec S512x1 32) (v : Vec Ideal S528x256 .f32) (mat : Vec Ideal S1x256x256 .f32)
    (gt : Vec Ideal S512x256 .bf16) (sc : Vec Ideal S1x256 .f32) :
    k0_pay13 pos (k0_pay12 u) v mat gt sc = tail (roll 8#32 (roll 4#32 (roll 2#32 (roll 1#32 v)))) 16#32 pos
      (extractStridedSlice S512x256 ![0, 768] u slices_S512x1024_o0_768_S512x256) mat gt sc := rfl

/-- The position words of a tile: row `r` of the tile of coordinate `t` is position `512 t + r`. -/
theorem pos_apply (i : grid0.Coords) (r : Fin 512) : k0_pay6 i (ix2 r 0) = BitVec.ofNat 32 (512 * (i 1).val + r.val) := by
  have h1 : (i 1).val < 4 := (i 1).isLt
  have hr := r.isLt
  show BitVec.ofNat 32 (i 1).val * 512#32 + BitVec.ofNat 32 (0 * 512 + r.val) = _
  apply BitVec.eq_of_toNat_eq
  simp only [BitVec.toNat_add, BitVec.toNat_mul, BitVec.toNat_ofNat]
  omega

/-- An entry of a group's tile. -/
theorem tail_apply (v : FVec Ideal S528x256 .f32) (w : BitVec 32) (pos : IVec S512x1 32) (u : FVec Ideal S512x256 .f32)
    (mat : Vec Ideal S1x256x256 .f32) (gt : Vec Ideal S512x256 .bf16) (sc : Vec Ideal S1x256 .f32) (r : Fin 512) (q : Fin 256)
    (p : ℕ) (hp : pos (ix2 r 0) = BitVec.ofNat 32 p) (g : ℝ) (hg : gt (ix2 r q) = (g : EReal)) :
    tail v w pos u mat gt sc (ix2 r q)
      = (∑ k : Fin 256, (Ideal.div (v (ix2 (⟨16 + r.val, by omega⟩ : Fin 528) k)) (count w p) - u (ix2 r k)) * mat (ix3 0 k q)) * sc (ix2 0 q)
        * ((g : EReal) * Ideal.div 1 (1 + Ideal.exp (-(g : EReal)))) := by
  rw [← PoolMath.gate]
  refine congrArg₂ (fun a b : EReal => a * b) (congrArg₂ (fun a b : EReal => a * b) ?_ ?_) ?_
  · refine (Ideal.matmul_plain_apply (M := 512) (K := 256) (N := 256) none _ _ _ r q).trans ?_
    rw [show (constant (F := Ideal) S512x256 .f32 0x00000000#32 (ix2 r q) : EReal) = 0 from Ideal.ofBits_zero_f32]
    refine (zero_add _).trans (Finset.sum_congr rfl fun k _ => congrArg₂ (fun a b : EReal => a * b)
      (congrArg₂ (fun a b : EReal => a - b) (congrArg₂ Ideal.div ?_ ?_) rfl) ?_)
    · exact extractStridedSlice_apply ![16, 0] v _ (ix2 r k) (ix2 (⟨16 + r.val, by omega⟩ : Fin 528) k) (fun d => by
        match d with
        | ⟨0, _⟩ => rfl
        | ⟨1, _⟩ => show k.val = 0 + k.val; omega)
    · refine (broadcastTo_apply _ _ (ix2 r k) (ix2 r 0) (fun d => by
        match d with
        | ⟨0, _⟩ => rfl
        | ⟨1, _⟩ => rfl)).trans ?_
      unfold count
      rw [← hp]
      rfl
    · exact shapeCast_apply mat _ (ix2 k q) (ix3 0 k q) (by
        rewrite [Shape.rowMajor_val_three, Shape.rowMajor_val_two]
        show (0 * 256 + k.val) * 256 + q.val = k.val * 256 + q.val
        omega)
  · exact broadcastTo_apply sc _ (ix2 r q) (ix2 0 q) (fun d => by
      match d with
      | ⟨0, _⟩ => rfl
      | ⟨1, _⟩ => rfl)
  · rw [← PoolMath.half, ← hg]
    rfl

end Cert.PoolValue
end
-- ==== Proof.PoolOut.lean ====
/-
  What the pool kernel's body leaves at one grid point: the four column groups of its tile, the sixteen rows kept in the
  scratch for the next point, and at a sequence's last point the fifteen rows handed to the next call.
-/
module

public import proofs.«01_k».proof.Proof.PoolTile
public import proofs.«01_k».proof.Proof.Gen.KernelIdeal.Value
public import Idealize.ShloMosaic.Lib.WritesUnit

@[expose] public section

set_option maxRecDepth 16384

noncomputable section

open Idealize.ShloMosaic Idealize.ShloMosaic.TcCoe Idealize.SL.Sem Idealize.ShloMosaic.ValueIdx
open scoped BigOperators

namespace Cert.PoolValue
open Cert.KernelIdeal Cert.KernelIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

/-- An index under the last piece reads that piece. -/
theorem canon_mem {s : Shape} {e : EltTy} (off size : Fin s.rank → ℕ) (inb : ∀ a, off a + size a ≤ s.size a)
    (w : (Rect.unit off size inb).shape.Idx → Elt Ideal e) (L : List (View.Piece (Elt Ideal) s e)) (y : s.Idx)
    (x : (Rect.unit off size inb).shape.Idx) (hx : ∀ a, (y a).val = off a + (x a).val) :
    View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ w L x

/-- An index that misses the last piece on some axis reads the earlier ones. -/
theorem canon_skip {s : Shape} {e : EltTy} (off size : Fin s.rank → ℕ) (inb : ∀ a, off a + size a ≤ s.size a)
    (w : (Rect.unit off size inb).shape.Idx → Elt Ideal e) (L : List (View.Piece (Elt Ideal) s e)) (y : s.Idx) (a : Fin s.rank)
    (ha : (y a).val < off a ∨ off a + size a ≤ (y a).val) :
    View.canon ((⟨Rect.unit off size inb, w⟩ : View.Piece (Elt Ideal) s e) :: L) y = View.canon L y := by
  refine View.canon_cons_of_not_mem _ L fun h => ?_
  have h' := (Rect.mem_set_unit (inb := inb)).1 h a
  omega

/-- An entry of the tile at coordinate `t`, from the column sums `P` of the scratch and the point's blocks. -/
def tileEnt (t : ℕ) (P : Fin 1024 → ℕ → EReal) (x1 : Vec Ideal S512x1024 .bf16) (x2 : Vec Ideal S4x256x256 .f32)
    (x3 : Vec Ideal S1x1024 .f32) (r : Fin 512) (g : Fin 4) (q : Fin 256) : EReal :=
  (∑ k : Fin 256, (Ideal.div (∑ i ∈ Finset.range (win g), P (col g k) (16 + r.val - i)) (count (BitVec.ofNat 32 (win g)) (512 * t + r.val))
      - P (col g k) (16 + r.val)) * x2 (ix3 g k q)) * x3 (ix2 0 (col g q))
    * (x1 (ix2 r (col g q)) * Ideal.div 1 (1 + Ideal.exp (-(x1 (ix2 r (col g q)) : EReal))))

/-- A group's tile is the entry, whichever group. -/
theorem group_apply (i : grid0.Coords) (P : Fin 1024 → ℕ → EReal) (x0 x1 : Vec Ideal S512x1024 .bf16) (x2 : Vec Ideal S4x256x256 .f32)
    (x3 : Vec Ideal S1x1024 .f32) (hU : ∀ (r : Fin 512) (c : Fin 1024), x0 (ix2 r c) = P c (16 + r.val))
    (hG : ∀ (r : Fin 512) (c : Fin 1024), ∃ z : ℝ, x1 (ix2 r c) = (z : EReal))
    (g : Fin 4) (v : FVec Ideal S528x256 .f32) (u : FVec Ideal S512x256 .f32) (mat : Vec Ideal S1x256x256 .f32)
    (gt : Vec Ideal S512x256 .bf16) (sc : Vec Ideal S1x256 .f32) (r : Fin 512) (q : Fin 256)
    (hv : ∀ k : Fin 256, v (ix2 (⟨16 + r.val, by omega⟩ : Fin 528) k) = ∑ i ∈ Finset.range (win g), P (col g k) (16 + r.val - i))
    (hu : ∀ k : Fin 256, u (ix2 r k) = x0 (ix2 r (col g k)))
    (hm : ∀ k : Fin 256, mat (ix3 0 k q) = x2 (ix3 g k q)) (hg : gt (ix2 r q) = x1 (ix2 r (col g q)))
    (hs : sc (ix2 0 q) = x3 (ix2 0 (col g q))) :
    tail v (BitVec.ofNat 32 (win g)) (k0_pay6 i) u mat gt sc (ix2 r q) = tileEnt (i 1).val P x1 x2 x3 r g q := by
  obtain ⟨z, hz⟩ := hG r (col g q)
  rw [tail_apply v _ _ u mat gt sc r q _ (pos_apply i r) z (hg.trans hz)]
  unfold tileEnt
  rw [hz, hs]
  refine congrArg (fun a : EReal => a * x3 (ix2 0 (col g q)) * ((z : EReal) * Ideal.div 1 (1 + Ideal.exp (-(z : EReal)))))
    (Finset.sum_congr rfl fun k _ => ?_)
  rw [hv, hu, hU, hm]

/-- The four stores of a tile, read back. -/
theorem out_canon (i : grid0.Coords) (P : Fin 1024 → ℕ → EReal) (x0 x1 : Vec Ideal S512x1024 .bf16) (x2 : Vec Ideal S4x256x256 .f32)
    (x3 : Vec Ideal S1x1024 .f32) (hU : ∀ (r : Fin 512) (c : Fin 1024), x0 (ix2 r c) = P c (16 + r.val))
    (hG : ∀ (r : Fin 512) (c : Fin 1024), ∃ z : ℝ, x1 (ix2 r c) = (z : EReal))
    (S0 S1 S2 S3 : Vec Ideal S528x256 .f32)
    (h0 : ∀ (j : Fin 528) (k : Fin 256), S0 (ix2 j k) = P (col 0 k) j.val) (h1 : ∀ (j : Fin 528) (k : Fin 256), S1 (ix2 j k) = P (col 1 k) j.val)
    (h2 : ∀ (j : Fin 528) (k : Fin 256), S2 (ix2 j k) = P (col 2 k) j.val) (h3 : ∀ (j : Fin 528) (k : Fin 256), S3 (ix2 j k) = P (col 3 k) j.val)
    (r : Fin 512) (g : Fin 4) (q : Fin 256) :
    View.canon
      [(⟨Rect.unit ![0, 768] S512x256.size inb_S512x1024_S512x256_0_768, k0_pay13 (k0_pay6 i) (k0_pay12 (k0_pay4 x0)) S3
          (View.ld x2 (Rect.unit ![3, 0, 0] S1x256x256.size inb_S4x256x256_S1x256x256_3_0_0))
          (View.ld x1 (Rect.unit ![0, 768] S512x256.size inb_S512x1024_S512x256_0_768))
          (View.ld x3 (Rect.unit ![0, 768] S1x256.size inb_S1x1024_S1x256_0_768))⟩ : View.Piece (Elt Ideal) S512x1024 .bf16),
       ⟨Rect.unit ![0, 512] S512x256.size inb_S512x1024_S512x256_0_512, k0_pay11 (k0_pay4 x0) (k0_pay6 i) S2
          (View.ld x2 (Rect.unit ![2, 0, 0] S1x256x256.size inb_S4x256x256_S1x256x256_2_0_0))
          (View.ld x1 (Rect.unit ![0, 512] S512x256.size inb_S512x1024_S512x256_0_512))
          (View.ld x3 (Rect.unit ![0, 512] S1x256.size inb_S1x1024_S1x256_0_512))⟩,
       ⟨Rect.unit ![0, 256] S512x256.size inb_S512x1024_S512x256_0_256, k0_pay10 (k0_pay4 x0) (k0_pay6 i) S1
          (View.ld x2 (Rect.unit ![1, 0, 0] S1x256x256.size inb_S4x256x256_S1x256x256_1_0_0))
          (View.ld x1 (Rect.unit ![0, 256] S512x256.size inb_S512x1024_S512x256_0_256))
          (View.ld x3 (Rect.unit ![0, 256] S1x256.size inb_S1x1024_S1x256_0_256))⟩,
       ⟨Rect.unit ![0, 0] S512x256.size inb_S512x1024_S512x256_0_0, k0_pay9
          (k0_pay7 (View.ld x1 (Rect.unit ![0, 0] S512x256.size inb_S512x1024_S512x256_0_0)))
          (k0_pay8 i x0 S0 (View.ld x2 (Rect.unit ![0, 0, 0] S1x256x256.size inb_S4x256x256_S1x256x256_0_0_0))
            (View.ld x3 (Rect.unit ![0, 0] S1x256.size inb_S1x1024_S1x256_0_0)))
          (FloatOps.ofBits .f32 1056964608#32)⟩] (ix2 r (col g q))
      = tileEnt (i 1).val P x1 x2 x3 r g q := by
  have hr := r.isLt
  have hq := q.isLt
  match g with
  | ⟨0, _⟩ =>
    rw [canon_skip _ _ _ _ _ _ 1 (.inl (show 256 * 0 + q.val < 768 by omega))]
    rw [canon_skip _ _ _ _ _ _ 1 (.inl (show 256 * 0 + q.val < 512 by omega))]
    rw [canon_skip _ _ _ _ _ _ 1 (.inl (show 256 * 0 + q.val < 256 by omega))]
    rw [canon_mem _ _ _ _ _ _ (ix2 r q) (fun d => by
      match d with
      | ⟨0, _⟩ => show r.val = 0 + r.val; omega
      | ⟨1, _⟩ => show 256 * 0 + q.val = 0 + q.val; omega)]
    refine (congrFun (pay9_eq i x0 S0 _ _ _) (ix2 r q)).trans
      (group_apply i P x0 x1 x2 x3 hU hG 0 _ _ _ _ _ r q
        (fun k => roll1 (fun k n => P (col 0 k) n) S0 h0 ⟨16 + r.val, by omega⟩ k (show 1 ≤ 16 + r.val by omega))
        (fun k => ?_) (fun k => ?_) ?_ ?_)
    · exact extractStridedSlice_apply ![0, 0] (k0_pay4 x0) _ (ix2 r k) (ix2 r (col 0 k)) (fun d => by
        match d with
        | ⟨0, _⟩ => show r.val = 0 + r.val; omega
        | ⟨1, _⟩ => show 256 * 0 + k.val = 0 + k.val; omega)
    · exact View.ld_unit_apply_of x2 ![0, 0, 0] S1x256x256.size _ (ix3 0 k q) (ix3 0 k q) (fun d => by
        match d with
        | ⟨0, _⟩ => rfl
        | ⟨1, _⟩ => show k.val = 0 + k.val; omega
        | ⟨2, _⟩ => show q.val = 0 + q.val; omega)
    · exact View.ld_unit_apply_of x1 ![0, 0] S512x256.size _ (ix2 r q) (ix2 r (col 0 q)) (fun d => by
        match d with
        | ⟨0, _⟩ => show r.val = 0 + r.val; omega
        | ⟨1, _⟩ => show 256 * 0 + q.val = 0 + q.val; omega)
    · exact View.ld_unit_apply_of x3 ![0, 0] S1x256.size _ (ix2 0 q) (ix2 0 (col 0 q)) (fun d => by
        match d with
        | ⟨0, _⟩ => rfl
        | ⟨1, _⟩ => show 256 * 0 + q.val = 0 + q.val; omega)
  | ⟨1, _⟩ =>
    rw [canon_skip _ _ _ _ _ _ 1 (.inl (show 256 * 1 + q.val < 768 by omega))]
    rw [canon_skip _ _ _ _ _ _ 1 (.inl (show 256 * 1 + q.val < 512 by omega))]
    rw [canon_mem _ _ _ _ _ _ (ix2 r q) (fun d => by
      match d with
      | ⟨0, _⟩ => show r.val = 0 + r.val; omega
      | ⟨1, _⟩ => show 256 * 1 + q.val = 256 + q.val; omega)]
    refine (congrFun (pay10_eq (k0_pay4 x0) (k0_pay6 i) S1 _ _ _) (ix2 r q)).trans
      (group_apply i P x0 x1 x2 x3 hU hG 1 _ _ _ _ _ r q
        (fun k => roll2 (fun k n => P (col 1 k) n) S1 h1 ⟨16 + r.val, by omega⟩ k (show 3 ≤ 16 + r.val by omega))
        (fun k => ?_) (fun k => ?_) ?_ ?_)
    · exact extractStridedSlice_apply ![0, 256] (k0_pay4 x0) _ (ix2 r k) (ix2 r (col 1 k)) (fun d => by
        match d with
        | ⟨0, _⟩ => show r.val = 0 + r.val; omega
        | ⟨1, _⟩ => show 256 * 1 + k.val = 256 + k.val; omega)
    · exact View.ld_unit_apply_of x2 ![1, 0, 0] S1x256x256.size _ (ix3 0 k q) (ix3 1 k q) (fun d => by
        match d with
        | ⟨0, _⟩ => rfl
        | ⟨1, _⟩ => show k.val = 0 + k.val; omega
        | ⟨2, _⟩ => show q.val = 0 + q.val; omega)
    · exact View.ld_unit_apply_of x1 ![0, 256] S512x256.size _ (ix2 r q) (ix2 r (col 1 q)) (fun d => by
        match d with
        | ⟨0, _⟩ => show r.val = 0 + r.val; omega
        | ⟨1, _⟩ => show 256 * 1 + q.val = 256 + q.val; omega)
    · exact View.ld_unit_apply_of x3 ![0, 256] S1x256.size _ (ix2 0 q) (ix2 0 (col 1 q)) (fun d => by
        match d with
        | ⟨0, _⟩ => rfl
        | ⟨1, _⟩ => show 256 * 1 + q.val = 256 + q.val; omega)
  | ⟨2, _⟩ =>
    rw [canon_skip _ _ _ _ _ _ 1 (.inl (show 256 * 2 + q.val < 768 by omega))]
    rw [canon_mem _ _ _ _ _ _ (ix2 r q) (fun d => by
      match d with
      | ⟨0, _⟩ => show r.val = 0 + r.val; omega
      | ⟨1, _⟩ => show 256 * 2 + q.val = 512 + q.val; omega)]
    refine (congrFun (pay11_eq (k0_pay4 x0) (k0_pay6 i) S2 _ _ _) (ix2 r q)).trans
      (group_apply i P x0 x1 x2 x3 hU hG 2 _ _ _ _ _ r q
        (fun k => roll4 (fun k n => P (col 2 k) n) S2 h2 ⟨16 + r.val, by omega⟩ k (show 7 ≤ 16 + r.val by omega))
        (fun k => ?_) (fun k => ?_) ?_ ?_)
    · exact extractStridedSlice_apply ![0, 512] (k0_pay4 x0) _ (ix2 r k) (ix2 r (col 2 k)) (fun d => by
        match d with
        | ⟨0, _⟩ => show r.val = 0 + r.val; omega
        | ⟨1, _⟩ => show 256 * 2 + k.val = 512 + k.val; omega)
    · exact View.ld_unit_apply_of x2 ![2, 0, 0] S1x256x256.size _ (ix3 0 k q) (ix3 2 k q) (fun d => by
        match d with
        | ⟨0, _⟩ => rfl
        | ⟨1, _⟩ => show k.val = 0 + k.val; omega
        | ⟨2, _⟩ => show q.val = 0 + q.val; omega)
    · exact View.ld_unit_apply_of x1 ![0, 512] S512x256.size _ (ix2 r q) (ix2 r (col 2 q)) (fun d => by
        match d with
        | ⟨0, _⟩ => show r.val = 0 + r.val; omega
        | ⟨1, _⟩ => show 256 * 2 + q.val = 512 + q.val; omega)
    · exact View.ld_unit_apply_of x3 ![0, 512] S1x256.size _ (ix2 0 q) (ix2 0 (col 2 q)) (fun d => by
        match d with
        | ⟨0, _⟩ => rfl
        | ⟨1, _⟩ => show 256 * 2 + q.val = 512 + q.val; omega)
  | ⟨3, _⟩ =>
    rw [canon_mem _ _ _ _ _ _ (ix2 r q) (fun d => by
      match d with
      | ⟨0, _⟩ => show r.val = 0 + r.val; omega
      | ⟨1, _⟩ => show 256 * 3 + q.val = 768 + q.val; omega)]
    refine (congrFun (pay13_eq (k0_pay4 x0) (k0_pay6 i) S3 _ _ _) (ix2 r q)).trans
      (group_apply i P x0 x1 x2 x3 hU hG 3 _ _ _ _ _ r q
        (fun k => roll8 (fun k n => P (col 3 k) n) S3 h3 ⟨16 + r.val, by omega⟩ k (show 15 ≤ 16 + r.val by omega))
        (fun k => ?_) (fun k => ?_) ?_ ?_)
    · exact extractStridedSlice_apply ![0, 768] (k0_pay4 x0) _ (ix2 r k) (ix2 r (col 3 k)) (fun d => by
        match d with
        | ⟨0, _⟩ => show r.val = 0 + r.val; omega
        | ⟨1, _⟩ => show 256 * 3 + k.val = 768 + k.val; omega)
    · exact View.ld_unit_apply_of x2 ![3, 0, 0] S1x256x256.size _ (ix3 0 k q) (ix3 3 k q) (fun d => by
        match d with
        | ⟨0, _⟩ => rfl
        | ⟨1, _⟩ => show k.val = 0 + k.val; omega
        | ⟨2, _⟩ => show q.val = 0 + q.val; omega)
    · exact View.ld_unit_apply_of x1 ![0, 768] S512x256.size _ (ix2 r q) (ix2 r (col 3 q)) (fun d => by
        match d with
        | ⟨0, _⟩ => show r.val = 0 + r.val; omega
        | ⟨1, _⟩ => show 256 * 3 + q.val = 768 + q.val; omega)
    · exact View.ld_unit_apply_of x3 ![0, 768] S1x256.size _ (ix2 0 q) (ix2 0 (col 3 q)) (fun d => by
        match d with
        | ⟨0, _⟩ => rfl
        | ⟨1, _⟩ => show 256 * 3 + q.val = 768 + q.val; omega)

/-- A row of the scratch from the sixteenth on, after the tile's rows were stored there. -/
theorem pay5_apply (x0 : Vec Ideal S512x1024 .bf16) (r : Fin 512) (n : Fin 1024) : k0_pay5 x0 (ix2 r n) = x0 (ix2 r n) := by
  unfold k0_pay5
  rw [shapeCast_self]
  rfl

theorem pay3_apply (r : Fin 16) (n : Fin 1024) : (k0_pay3 (F := Ideal)) (ix2 r n) = (0 : EReal) := by
  unfold k0_pay3
  rw [shapeCast_self]
  show Ideal.ofBits .f32 0x00000000#32 = (0 : EReal)
  simp [Ideal.ofBits, Ideal.ieee]

/-- The scratch's load of a column group at a sequence's first point: zeros, then the tile's rows. -/
theorem load_first (v : View sig .tc .vmem S528x1024 .f32) (x0 : Vec Ideal S512x1024 .bf16) (P : Fin 1024 → ℕ → EReal)
    (hU : ∀ (r : Fin 512) (n : Fin 1024), x0 (ix2 r n) = P n (16 + r.val)) (hZ : ∀ (n : Fin 1024) (j : ℕ), j < 16 → P n j = 0)
    (o : ℕ) (inb : ∀ a, (![0, o] : Fin 2 → ℕ) a + S528x256.size a ≤ S528x1024.size a) (j : Fin 528) (k : Fin 256) (n : Fin 1024) (hn : n.val = o + k.val) :
    v.readCov (Val := Elt Ideal)
        [⟨Rect.unit ![16, 0] S512x1024.size inb_S528x1024_S512x1024_16_0, k0_pay5 x0⟩,
          ⟨Rect.unit ![0, 0] S16x1024.size inb_S528x1024_S16x1024_0_0, k0_pay3 (F := Ideal)⟩]
        (Rect.unit (s := S528x1024) ![0, o] S528x256.size inb).toLoadRect (ix2 j k) = P n j.val := by
  rw [View.readCov_eq_canon']
  have hi : (Rect.unit (s := S528x1024) ![0, o] S528x256.size inb).toLoadRect.idx (ix2 j k) = ix2 j n := funext fun a => Fin.ext (by
    match a with
    | ⟨0, _⟩ => show 0 + 1 * j.val = j.val; omega
    | ⟨1, _⟩ => show o + 1 * k.val = n.val; omega)
  show View.canon _ ((Rect.unit (s := S528x1024) ![0, o] S528x256.size inb).toLoadRect.idx (ix2 j k)) = _
  rw [hi]
  have hj := j.isLt
  by_cases h : 16 ≤ j.val
  · rw [canon_mem _ _ _ _ _ _ (ix2 (⟨j.val - 16, by omega⟩ : Fin 512) n) (fun d => by
      match d with
      | ⟨0, _⟩ => show j.val = 16 + (j.val - 16); omega
      | ⟨1, _⟩ => show n.val = 0 + n.val; omega), pay5_apply, hU]
    exact congrArg (P n) (show 16 + (j.val - 16) = j.val by omega)
  · rw [canon_skip _ _ _ _ _ _ 0 (.inl (show j.val < 16 by omega)), canon_mem _ _ _ _ _ _ (ix2 (⟨j.val, by omega⟩ : Fin 16) n) (fun d => by
      match d with
      | ⟨0, _⟩ => show j.val = 0 + j.val; omega
      | ⟨1, _⟩ => show n.val = 0 + n.val; omega), pay3_apply, hZ n j.val (by omega)]

/-- The same load at a later point: the rows the point before kept, then the tile's rows. -/
theorem load_later (a8 : Memref sig .tc .vmem S528x1024 .f32) (h8 : a8.IsWhole) (x0 : Vec Ideal S512x1024 .bf16) (xs : Vec Ideal S528x1024 .f32)
    (P : Fin 1024 → ℕ → EReal)
    (hU : ∀ (r : Fin 512) (n : Fin 1024), x0 (ix2 r n) = P n (16 + r.val))
    (hS : ∀ (j : Fin 528) (n : Fin 1024), j.val < 16 → xs (ix2 j n) = P n j.val)
    (o : ℕ) (inb : ∀ a, (![0, o] : Fin 2 → ℕ) a + S528x256.size a ≤ S528x1024.size a) (j : Fin 528) (k : Fin 256) (n : Fin 1024) (hn : n.val = o + k.val) :
    View.readAt (Elt Ideal) a8.view (Rect.unit (s := S528x1024) ![0, o] S528x256.size inb).toLoadRect
        (a8.view.writes (Elt Ideal) (h8.unread xs) [⟨Rect.unit ![16, 0] S512x1024.size inb_S528x1024_S512x1024_16_0, k0_pay5 x0⟩]) (ix2 j k)
      = P n j.val := by
  rw [View.readAt_apply]
  have hi : (Rect.unit (s := S528x1024) ![0, o] S528x256.size inb).toLoadRect.idx (ix2 j k) = ix2 j n := funext fun a => Fin.ext (by
    match a with
    | ⟨0, _⟩ => show 0 + 1 * j.val = j.val; omega
    | ⟨1, _⟩ => show o + 1 * k.val = n.val; omega)
  rw [hi]
  have hj := j.isLt
  by_cases h : 16 ≤ j.val
  · refine (View.read_writes_cons_unit_of_mem (off := ![16, 0]) (off' := ![16, 0]) a8.view _ _ _ _ (ix2 j n)
      (ix2 (⟨j.val - 16, by omega⟩ : Fin 512) n) rfl (fun d => by
      match d with
      | ⟨0, _⟩ => show j.val = 16 + (j.val - 16); omega
      | ⟨1, _⟩ => show n.val = 0 + n.val; omega)).trans ?_
    rw [pay5_apply, hU]
    exact congrArg (P n) (show 16 + (j.val - 16) = j.val by omega)
  · refine (View.read_writes_cons_unit_of_not_mem (off := ![16, 0]) (off' := ![16, 0]) a8.view _ _ _ _ (ix2 j n) rfl 0
      (.inl (show j.val < 16 by omega))).trans ?_
    show a8.view.read (Elt Ideal) (h8.unread xs) (ix2 j n) = _
    rw [h8.read_unread, hS j n (by omega)]

/-- The load of the scratch's last rows, once the tile's rows were stored: the tile's own last rows. -/
theorem load_last (v : View sig .tc .vmem S528x1024 .f32) (x0 : Vec Ideal S512x1024 .bf16) (L : List (View.Piece (Elt Ideal) S528x1024 .f32))
    (j : Fin 16) (n : Fin 1024) :
    v.readCov (Val := Elt Ideal) (⟨Rect.unit ![16, 0] S512x1024.size inb_S528x1024_S512x1024_16_0, k0_pay5 x0⟩ :: L)
        (Rect.unit (s := S528x1024) ![512, 0] S16x1024.size inb_S528x1024_S16x1024_512_0).toLoadRect (ix2 j n)
      = x0 (ix2 (⟨496 + j.val, by omega⟩ : Fin 512) n) := by
  rw [View.readCov_eq_canon']
  show View.canon _ ((Rect.unit (s := S528x1024) ![512, 0] S16x1024.size inb_S528x1024_S16x1024_512_0).toLoadRect.idx (ix2 j n)) = _
  rw [canon_mem _ _ _ _ _ _ (ix2 (⟨496 + j.val, by omega⟩ : Fin 512) n) (fun d => by
      match d with
      | ⟨0, _⟩ => show 512 + 1 * j.val = 16 + (496 + j.val); omega
      | ⟨1, _⟩ => show 0 + 1 * n.val = 0 + n.val; omega), pay5_apply]

/-- What the scratch holds in its first sixteen rows after a point. -/
theorem kept_canon (v : View sig .tc .vmem S528x1024 .f32) (x0 : Vec Ideal S512x1024 .bf16) (L L' : List (View.Piece (Elt Ideal) S528x1024 .f32))
    (j : Fin 528) (n : Fin 1024) (hj : j.val < 16) :
    View.canon ((⟨Rect.unit ![0, 0] S16x1024.size inb_S528x1024_S16x1024_0_0, k0_pay1 (v.readCov (Val := Elt Ideal)
        (⟨Rect.unit ![16, 0] S512x1024.size inb_S528x1024_S512x1024_16_0, k0_pay5 x0⟩ :: L)
        (Rect.unit (s := S528x1024) ![512, 0] S16x1024.size inb_S528x1024_S16x1024_512_0).toLoadRect)⟩ : View.Piece (Elt Ideal) S528x1024 .f32) :: L') (ix2 j n)
      = x0 (ix2 (⟨496 + j.val, by omega⟩ : Fin 512) n) := by
  rw [canon_mem _ _ _ _ _ _ (ix2 (⟨j.val, hj⟩ : Fin 16) n) (fun d => by
      match d with
      | ⟨0, _⟩ => show j.val = 0 + j.val; omega
      | ⟨1, _⟩ => show n.val = 0 + n.val; omega)]
  unfold k0_pay1
  rw [shapeCast_self]
  exact load_last v x0 L ⟨j.val, hj⟩ n

section Cases
variable (c : Dev nD) (i : grid0.Coords) (a2 : Memref sig .tc .vmem S512x1024 .bf16) (h2 : a2.IsWhole)
    (a3 : Memref sig .tc .vmem S512x1024 .bf16) (h3 : a3.IsWhole) (a4 : Memref sig .tc .vmem S4x256x256 .f32) (h4 : a4.IsWhole)
    (a5 : Memref sig .tc .vmem S1x1024 .f32) (h5 : a5.IsWhole) (a6 : Memref sig .tc .vmem S512x1024 .bf16) (h6 : a6.IsWhole)
    (a7 : Memref sig .tc .vmem S1x15x1024 .f32) (h7 : a7.IsWhole) (a8 : Memref sig .tc .vmem S528x1024 .f32) (h8 : a8.IsWhole)
    (x0 x1 : Vec Ideal S512x1024 .bf16) (x2 : Vec Ideal S4x256x256 .f32) (x3 : Vec Ideal S1x1024 .f32) (xs : Vec Ideal S528x1024 .f32)
    (P : Fin 1024 → ℕ → EReal)

/-- The tile a sequence's first point leaves. -/
theorem out_A (hc0 : cond0_0 i) (hc1 : ¬cond0_1 i) (hU : ∀ (r : Fin 512) (n : Fin 1024), x0 (ix2 r n) = P n (16 + r.val)) (hZ : ∀ (n : Fin 1024) (j : ℕ), j < 16 → P n j = 0)
    (hG : ∀ (r : Fin 512) (n : Fin 1024), ∃ z : ℝ, x1 (ix2 r n) = (z : EReal)) (r : Fin 512) (g : Fin 4) (q : Fin 256) :
    out0_A_4 (F := Ideal) c i a2 h2 a3 h3 a4 h4 a5 h5 a6 h6 a7 h7 a8 h8 hc0 hc1 x0 x1 x2 x3 (ix2 r (col g q)) = tileEnt (i 1).val P x1 x2 x3 r g q := by
  unfold out0_A_4
  rw [View.read_writes_eq_canon _ _ _ (cover0_A_4 c i a2 h2 a3 h3 a4 h4 a5 h5 a6 h6 a7 h7 a8 h8 hc0 hc1 x0 x1 x2 x3)]
  unfold kernelRun0_A
  dsimp only
  sl_unfold_words
  simp only [View.readAt_eq_ld a2.view, View.readAt_eq_ld a3.view, View.readAt_eq_ld a4.view, View.readAt_eq_ld a5.view,
    h2.read_unread, h3.read_unread, h4.read_unread, h5.read_unread]
  rw [View.ld_unit_zero zero2]
  refine out_canon i P x0 x1 x2 x3 hU hG _ _ _ _ (fun j k => ?_) (fun j k => ?_) (fun j k => ?_) (fun j k => ?_) r g q
  · exact load_first _ x0 P hU hZ 0 _ j k (col 0 k) rfl
  · exact load_first _ x0 P hU hZ 256 _ j k (col 1 k) rfl
  · exact load_first _ x0 P hU hZ 512 _ j k (col 2 k) rfl
  · exact load_first _ x0 P hU hZ 768 _ j k (col 3 k) rfl

/-- The rows a sequence's first point keeps for the next. -/
theorem kept_A (hc0 : cond0_0 i) (hc1 : ¬cond0_1 i) (j : Fin 528) (n : Fin 1024) (hj : j.val < 16) :
    sout0_A_0 (F := Ideal) c i a2 h2 a3 h3 a4 h4 a5 h5 a6 h6 a7 h7 a8 h8 hc0 hc1 x0 x1 x2 x3 (ix2 j n) = x0 (ix2 (⟨496 + j.val, by omega⟩ : Fin 512) n) := by
  unfold sout0_A_0
  rw [View.read_writes_eq_canon _ _ _ (scover0_A_0 c i a2 h2 a3 h3 a4 h4 a5 h5 a6 h6 a7 h7 a8 h8 hc0 hc1 x0 x1 x2 x3)]
  unfold kernelRun0_A
  dsimp only
  sl_unfold_words
  simp only [View.readAt_eq_ld a2.view, h2.read_unread]
  rw [View.ld_unit_zero zero2]
  exact kept_canon a8.view x0 _ _ j n hj

/-- The tile a point inside a sequence leaves. -/
theorem out_B (hc0 : ¬cond0_0 i) (hc1 : ¬cond0_1 i) (hU : ∀ (r : Fin 512) (n : Fin 1024), x0 (ix2 r n) = P n (16 + r.val)) (hS : ∀ (j : Fin 528) (n : Fin 1024), j.val < 16 → xs (ix2 j n) = P n j.val)
    (hG : ∀ (r : Fin 512) (n : Fin 1024), ∃ z : ℝ, x1 (ix2 r n) = (z : EReal)) (r : Fin 512) (g : Fin 4) (q : Fin 256) :
    out0_B_4 (F := Ideal) c i a2 h2 a3 h3 a4 h4 a5 h5 a6 h6 a7 h7 a8 h8 hc0 hc1 x0 x1 x2 x3 xs (ix2 r (col g q)) = tileEnt (i 1).val P x1 x2 x3 r g q := by
  unfold out0_B_4
  rw [View.read_writes_eq_canon _ _ _ (cover0_B_4 c i a2 h2 a3 h3 a4 h4 a5 h5 a6 h6 a7 h7 a8 h8 hc0 hc1 x0 x1 x2 x3 xs)]
  unfold kernelRun0_B
  dsimp only
  sl_unfold_words
  simp only [View.readAt_eq_ld a2.view, View.readAt_eq_ld a3.view, View.readAt_eq_ld a4.view, View.readAt_eq_ld a5.view,
    h2.read_unread, h3.read_unread, h4.read_unread, h5.read_unread]
  rw [View.ld_unit_zero zero2]
  refine out_canon i P x0 x1 x2 x3 hU hG _ _ _ _ (fun j k => ?_) (fun j k => ?_) (fun j k => ?_) (fun j k => ?_) r g q
  · exact load_later a8 h8 x0 xs P hU hS 0 _ j k (col 0 k) rfl
  · exact load_later a8 h8 x0 xs P hU hS 256 _ j k (col 1 k) rfl
  · exact load_later a8 h8 x0 xs P hU hS 512 _ j k (col 2 k) rfl
  · exact load_later a8 h8 x0 xs P hU hS 768 _ j k (col 3 k) rfl

/-- The rows a point inside a sequence keeps for the next. -/
theorem kept_B (hc0 : ¬cond0_0 i) (hc1 : ¬cond0_1 i) (j : Fin 528) (n : Fin 1024) (hj : j.val < 16) :
    sout0_B_0 (F := Ideal) c i a2 h2 a3 h3 a4 h4 a5 h5 a6 h6 a7 h7 a8 h8 hc0 hc1 x0 x1 x2 x3 xs (ix2 j n) = x0 (ix2 (⟨496 + j.val, by omega⟩ : Fin 512) n) := by
  unfold sout0_B_0
  rw [View.read_writes_eq_canon _ _ _ (scover0_B_0 c i a2 h2 a3 h3 a4 h4 a5 h5 a6 h6 a7 h7 a8 h8 hc0 hc1 x0 x1 x2 x3 xs)]
  unfold kernelRun0_B
  dsimp only
  sl_unfold_words
  simp only [View.readAt_eq_ld a2.view, h2.read_unread]
  rw [View.ld_unit_zero zero2]
  exact kept_canon a8.view x0 _ _ j n hj

/-- The tile a sequence's last point leaves. -/
theorem out_C (hc0 : ¬cond0_0 i) (hc1 : cond0_1 i) (hU : ∀ (r : Fin 512) (n : Fin 1024), x0 (ix2 r n) = P n (16 + r.val)) (hS : ∀ (j : Fin 528) (n : Fin 1024), j.val < 16 → xs (ix2 j n) = P n j.val)
    (hG : ∀ (r : Fin 512) (n : Fin 1024), ∃ z : ℝ, x1 (ix2 r n) = (z : EReal)) (r : Fin 512) (g : Fin 4) (q : Fin 256) :
    out0_C_4 (F := Ideal) c i a2 h2 a3 h3 a4 h4 a5 h5 a6 h6 a7 h7 a8 h8 hc0 hc1 x0 x1 x2 x3 xs (ix2 r (col g q)) = tileEnt (i 1).val P x1 x2 x3 r g q := by
  unfold out0_C_4
  rw [View.read_writes_eq_canon _ _ _ (cover0_C_4 c i a2 h2 a3 h3 a4 h4 a5 h5 a6 h6 a7 h7 a8 h8 hc0 hc1 x0 x1 x2 x3 xs)]
  unfold kernelRun0_C
  dsimp only
  sl_unfold_words
  simp only [View.readAt_eq_ld a2.view, View.readAt_eq_ld a3.view, View.readAt_eq_ld a4.view, View.readAt_eq_ld a5.view,
    h2.read_unread, h3.read_unread, h4.read_unread, h5.read_unread]
  rw [View.ld_unit_zero zero2]
  refine out_canon i P x0 x1 x2 x3 hU hG _ _ _ _ (fun j k => ?_) (fun j k => ?_) (fun j k => ?_) (fun j k => ?_) r g q
  · exact load_later a8 h8 x0 xs P hU hS 0 _ j k (col 0 k) rfl
  · exact load_later a8 h8 x0 xs P hU hS 256 _ j k (col 1 k) rfl
  · exact load_later a8 h8 x0 xs P hU hS 512 _ j k (col 2 k) rfl
  · exact load_later a8 h8 x0 xs P hU hS 768 _ j k (col 3 k) rfl

/-- The rows a sequence's last point keeps for the next. -/
theorem kept_C (hc0 : ¬cond0_0 i) (hc1 : cond0_1 i) (j : Fin 528) (n : Fin 1024) (hj : j.val < 16) :
    sout0_C_0 (F := Ideal) c i a2 h2 a3 h3 a4 h4 a5 h5 a6 h6 a7 h7 a8 h8 hc0 hc1 x0 x1 x2 x3 xs (ix2 j n) = x0 (ix2 (⟨496 + j.val, by omega⟩ : Fin 512) n) := by
  unfold sout0_C_0
  rw [View.read_writes_eq_canon _ _ _ (scover0_C_0 c i a2 h2 a3 h3 a4 h4 a5 h5 a6 h6 a7 h7 a8 h8 hc0 hc1 x0 x1 x2 x3 xs)]
  unfold kernelRun0_C
  dsimp only
  sl_unfold_words
  simp only [View.readAt_eq_ld a2.view, h2.read_unread]
  rw [View.ld_unit_zero zero2]
  exact kept_canon a8.view x0 _ _ j n hj

/-- The fifteen rows a sequence's last point hands on. -/
theorem new_C (hc0 : ¬cond0_0 i) (hc1 : cond0_1 i) (j : Fin 15) (n : Fin 1024) :
    out0_C_5 (F := Ideal) c i a2 h2 a3 h3 a4 h4 a5 h5 a6 h6 a7 h7 a8 h8 hc0 hc1 x0 x1 x2 x3 xs (ix3 0 j n) = x0 (ix2 (⟨497 + j.val, by omega⟩ : Fin 512) n) := by
  unfold out0_C_5
  rw [View.read_writes_eq_canon _ _ _ (cover0_C_5 c i a2 h2 a3 h3 a4 h4 a5 h5 a6 h6 a7 h7 a8 h8 hc0 hc1 x0 x1 x2 x3 xs)]
  unfold kernelRun0_C
  dsimp only
  sl_unfold_words
  simp only [View.readAt_eq_ld a2.view, h2.read_unread]
  rw [View.ld_unit_zero zero2]
  have hj := j.isLt
  refine (canon_mem _ _ _ _ _ _ (ix3 0 j n) (fun d => by
      match d with
      | ⟨0, _⟩ => rfl
      | ⟨1, _⟩ => show j.val = 0 + j.val; omega
      | ⟨2, _⟩ => show n.val = 0 + n.val; omega)).trans ?_
  unfold k0_pay2
  rw [shapeCast_apply _ _ (ix3 0 j n) (ix2 j n) (by
    rewrite [Shape.rowMajor_val_three, Shape.rowMajor_val_two]
    show j.val * 1024 + n.val = (0 * 15 + j.val) * 1024 + n.val
    omega)]
  rw [View.readCov_eq_canon']
  show View.canon _ ((Rect.unit (s := S528x1024) ![513, 0] S15x1024.size inb_S528x1024_S15x1024_513_0).toLoadRect.idx (ix2 j n)) = _
  rw [canon_skip _ _ _ _ _ _ 0 (.inr (show 0 + 16 ≤ 513 + 1 * j.val by omega)), canon_mem _ _ _ _ _ _ (ix2 (⟨497 + j.val, by omega⟩ : Fin 512) n) (fun d => by
      match d with
      | ⟨0, _⟩ => show 513 + 1 * j.val = 16 + (497 + j.val); omega
      | ⟨1, _⟩ => show 0 + 1 * n.val = 0 + n.val; omega), pay5_apply]

end Cases

end Cert.PoolValue
end
-- ==== Proof.OutSTile.lean ====
/-
  The sample's output projection on the kernel's side: one grid point's eight column groups of the gated norm, as its scratch
  holds them, and the block it stores.
-/
module

public import proofs.«01_k».proof.Proof.OutSValue
public import proofs.«01_k».proof.Proof.PoolMath
public import proofs.«01_k».proof.Proof.PoolOut
public import proofs.«01_k».proof.Proof.Gen.KernelOutSIdeal.Value
public import Idealize.ShloMosaic.Lib.MatmulPlain
public import Idealize.ShloMosaic.Lib.WritesUnit
public import Idealize.ShloMosaic.Lib.Pipeline.Value

@[expose] public section

set_option maxRecDepth 16384

noncomputable section

open Idealize.ShloMosaic Idealize.ShloMosaic.TcCoe Idealize.SL.Sem Idealize.ShloMosaic.ValueIdx
open scoped BigOperators

namespace Cert.OutSValue
open Cert.KernelOutSIdeal Cert.KernelOutSIdeal.Gen
open Cert.PoolValue (canon_mem canon_skip zero2)

/-- The literal 384. -/
theorem c384 : Ideal.ofBits .f32 0x43C00000#32 = ((384 : ℝ) : EReal) := by
  simp [Ideal.ofBits, Ideal.ieee, -EReal.coe_mul]; norm_num

/-- Times the named `1 / 384` is division by 384. -/
theorem mean_eq (s : EReal) : s * ((1 / 384 : ℝ) : EReal) = Ideal.div s (Ideal.ofBits .f32 0x43C00000#32) := by
  rw [c384]
  unfold Ideal.div
  rw [if_neg (by norm_num), ← EReal.coe_inv, one_div]

section Pays
variable (d e yo : Vec Ideal S256x384 .f32) (z : Vec Ideal S256x384 .bf16) (n : Vec Ideal S1x384 .f32)

theorem pay3_eq : k0_pay3 (F := Ideal) (k0_pay2 d e yo) z n = k0_pay1 d e yo z n := rfl
theorem pay6_eq : k0_pay6 (F := Ideal) (k0_pay4 d e yo z) (k0_pay5 d e yo z) n = k0_pay1 d e yo z n := rfl
theorem pay8_eq : k0_pay8 (F := Ideal) (k0_pay7 d e yo z) n = k0_pay1 d e yo z n := rfl
theorem pay9_eq : k0_pay9 (F := Ideal) d e yo z n = k0_pay1 d e yo z n := rfl
theorem pay10_eq : k0_pay10 (F := Ideal) d e yo z n = k0_pay1 d e yo z n := rfl
theorem pay14_eq : k0_pay14 (F := Ideal) (k0_pay11 d e yo) (k0_pay12 z) k0_pay13 n = k0_pay1 d e yo z n := rfl
theorem pay17_eq : k0_pay17 (F := Ideal) (k0_pay15 d e yo z) (k0_pay16 d e yo z) (FloatOps.ofBits .f32 0x3727C5AC#32) n
    = k0_pay1 d e yo z n := rfl

/-- A group's gated entries. -/
theorem yz_apply (hz : ∀ r k, ∃ c : ℝ, z (ix2 r k) = (c : EReal)) (r : Fin 256) (k : Fin 384) :
    k0_pay4 (F := Ideal) d e yo z (ix2 r k) = cell (yo (ix2 r k)) (e (ix2 r k)) (d (ix2 r k)) (z (ix2 r k)) := by
  obtain ⟨c, hc⟩ := hz r k
  unfold cell
  rw [hc, ← PoolMath.gate, ← PoolMath.half, ← hc]
  rfl

/-- A group's stored value at an entry. -/
theorem pay1_apply (hz : ∀ r k, ∃ c : ℝ, z (ix2 r k) = (c : EReal)) (r : Fin 256) (k : Fin 384) :
    k0_pay1 (F := Ideal) d e yo z n (ix2 r k)
      = grouped (fun i => cell (yo (ix2 r i)) (e (ix2 r i)) (d (ix2 r i)) (z (ix2 r i))) k * n (ix2 0 k) := by
  rw [← pay6_eq]
  unfold k0_pay6 k0_pay5
  dsimp only
  have eH := yz_apply d e yo z hz
  generalize k0_pay4 (F := Ideal) d e yo z = H at eH ⊢
  rw [shapeCast_self]
  refine congrArg₂ (fun a b : EReal => a * b) (congrArg₂ (fun a b : EReal => a * b) (eH r k) ?_) ?_
  · refine (broadcastTo_apply _ _ (ix2 r k) (ix2 r 0) (fun d => by match d with | ⟨0, _⟩ => rfl | ⟨1, _⟩ => rfl)).trans ?_
    show Ideal.rsqrt (_ * ((1 / 384 : ℝ) : EReal) + _) = _
    rw [mean_eq]
    refine congrArg Ideal.rsqrt (congrArg₂ (fun a b : EReal => a + b) (congrArg₂ Ideal.div ?_ rfl) rfl)
    refine (shapeCast_apply _ _ (ix2 r 0) (ix1 r) ?_).trans ?_
    · rfl
    refine (Ideal.multiReduction_add_single _ _ _ _ _ _).trans ?_
    refine Finset.sum_congr rfl fun k _ => ?_
    rw [mulf_apply]
    rw [show (reduces_S256x384_S256 : S256x384.Reduces [1] S256).lift (ix1 r) k = ix2 r k from
      funext fun d => by match d with | ⟨0, _⟩ => rfl | ⟨1, _⟩ => rfl]
    exact congrArg₂ (fun a b : EReal => a * b) (eH r k) (eH r k)
  · exact broadcastTo_apply _ _ (ix2 r k) (ix2 0 k) (fun d => by match d with | ⟨0, _⟩ => rfl | ⟨1, _⟩ => rfl)

end Pays

section Tile
variable (x1 x2 x3 : Vec Ideal S256x3072 .f32) (x4 : Vec Ideal S256x3072 .bf16) (x5 : Vec Ideal S1x3072 .f32)

/-- Row `r` of the tile's gated norm. -/
def tRow (r : Fin 256) : Fin 3072 → EReal :=
  gated (fun j => x1 (ix2 r j)) (fun j => x2 (ix2 r j)) (fun j => x3 (ix2 r j)) (fun j => x4 (ix2 r j)) (fun j => x5 (ix2 0 j))

variable (hz : ∀ (r : Fin 256) (j : Fin 3072), ∃ c : ℝ, x4 (ix2 r j) = (c : EReal))

theorem ld_tile {e : EltTy} (x : Vec Ideal S256x3072 e) (o : ℕ) (inb : ∀ a, (![0, o] : Fin 2 → ℕ) a + S256x384.size a ≤ S256x3072.size a)
    (r : Fin 256) (g : Fin 8) (k : Fin 384) (ho : o = 384 * g.val) :
    View.ld x (Rect.unit ![0, o] S256x384.size inb) (ix2 r k) = x (ix2 r (scol g k)) :=
  View.ld_unit_apply_of x ![0, o] S256x384.size _ (ix2 r k) (ix2 r (scol g k)) (fun d => by
    match d with
    | ⟨0, _⟩ => show r.val = 0 + r.val; omega
    | ⟨1, _⟩ => show 384 * g.val + k.val = o + k.val; omega)

include hz in
/-- One group's stored value, from the blocks. -/
theorem piece_apply (o : ℕ) (inb : ∀ a, (![0, o] : Fin 2 → ℕ) a + S256x384.size a ≤ S256x3072.size a)
    (inb1 : ∀ a, (![0, o] : Fin 2 → ℕ) a + S1x384.size a ≤ S1x3072.size a) (r : Fin 256) (g : Fin 8) (k : Fin 384) (ho : o = 384 * g.val) :
    k0_pay1 (F := Ideal) (View.ld x3 (Rect.unit ![0, o] S256x384.size inb)) (View.ld x2 (Rect.unit ![0, o] S256x384.size inb))
        (View.ld x1 (Rect.unit ![0, o] S256x384.size inb)) (View.ld x4 (Rect.unit ![0, o] S256x384.size inb))
        (View.ld x5 (Rect.unit ![0, o] S1x384.size inb1)) (ix2 r k)
      = tRow x1 x2 x3 x4 x5 r (scol g k) := by
  refine (pay1_apply _ _ _ _ _ (fun r k => ?_) r k).trans ?_
  · obtain ⟨c, hc⟩ := hz r (scol g k)
    exact ⟨c, (ld_tile x4 o inb r g k ho).trans hc⟩
  unfold tRow
  rw [gated_scol]
  unfold gnorm
  refine congrArg₂ (fun a b : EReal => a * b) (congrArg (fun f => grouped f k) (funext fun i => ?_)) ?_
  · rw [ld_tile x1 o inb r g i ho, ld_tile x2 o inb r g i ho, ld_tile x3 o inb r g i ho, ld_tile x4 o inb r g i ho]
  · exact View.ld_unit_apply_of x5 ![0, o] S1x384.size _ (ix2 0 k) (ix2 0 (scol g k)) (fun d => by
      match d with
      | ⟨0, _⟩ => rfl
      | ⟨1, _⟩ => show 384 * g.val + k.val = o + k.val; omega)

include hz in
/-- The eight stores of a tile, read back. -/
theorem scratch_canon (r : Fin 256) (g : Fin 8) (k : Fin 384) :
    View.canon
      [(⟨Rect.unit ![0, 2688] S256x384.size inb_S256x3072_S256x384_0_2688, k0_pay17 (k0_pay15 (View.ld x3 (Rect.unit ![0, 2688] S256x384.size inb_S256x3072_S256x384_0_2688)) (View.ld x2 (Rect.unit ![0, 2688] S256x384.size inb_S256x3072_S256x384_0_2688)) (View.ld x1 (Rect.unit ![0, 2688] S256x384.size inb_S256x3072_S256x384_0_2688)) (View.ld x4 (Rect.unit ![0, 2688] S256x384.size inb_S256x3072_S256x384_0_2688))) (k0_pay16 (View.ld x3 (Rect.unit ![0, 2688] S256x384.size inb_S256x3072_S256x384_0_2688)) (View.ld x2 (Rect.unit ![0, 2688] S256x384.size inb_S256x3072_S256x384_0_2688)) (View.ld x1 (Rect.unit ![0, 2688] S256x384.size inb_S256x3072_S256x384_0_2688)) (View.ld x4 (Rect.unit ![0, 2688] S256x384.size inb_S256x3072_S256x384_0_2688))) (FloatOps.ofBits .f32 925353388#32) (View.ld x5 (Rect.unit ![0, 2688] S1x384.size inb_S1x3072_S1x384_0_2688))⟩ : View.Piece (Elt Ideal) S256x3072 .bf16),
       ⟨Rect.unit ![0, 2304] S256x384.size inb_S256x3072_S256x384_0_2304, k0_pay14 (k0_pay11 (View.ld x3 (Rect.unit ![0, 2304] S256x384.size inb_S256x3072_S256x384_0_2304)) (View.ld x2 (Rect.unit ![0, 2304] S256x384.size inb_S256x3072_S256x384_0_2304)) (View.ld x1 (Rect.unit ![0, 2304] S256x384.size inb_S256x3072_S256x384_0_2304))) (k0_pay12 (View.ld x4 (Rect.unit ![0, 2304] S256x384.size inb_S256x3072_S256x384_0_2304))) k0_pay13 (View.ld x5 (Rect.unit ![0, 2304] S1x384.size inb_S1x3072_S1x384_0_2304))⟩,
       ⟨Rect.unit ![0, 1920] S256x384.size inb_S256x3072_S256x384_0_1920, k0_pay10 (View.ld x3 (Rect.unit ![0, 1920] S256x384.size inb_S256x3072_S256x384_0_1920)) (View.ld x2 (Rect.unit ![0, 1920] S256x384.size inb_S256x3072_S256x384_0_1920)) (View.ld x1 (Rect.unit ![0, 1920] S256x384.size inb_S256x3072_S256x384_0_1920)) (View.ld x4 (Rect.unit ![0, 1920] S256x384.size inb_S256x3072_S256x384_0_1920)) (View.ld x5 (Rect.unit ![0, 1920] S1x384.size inb_S1x3072_S1x384_0_1920))⟩,
       ⟨Rect.unit ![0, 1536] S256x384.size inb_S256x3072_S256x384_0_1536, k0_pay9 (View.ld x3 (Rect.unit ![0, 1536] S256x384.size inb_S256x3072_S256x384_0_1536)) (View.ld x2 (Rect.unit ![0, 1536] S256x384.size inb_S256x3072_S256x384_0_1536)) (View.ld x1 (Rect.unit ![0, 1536] S256x384.size inb_S256x3072_S256x384_0_1536)) (View.ld x4 (Rect.unit ![0, 1536] S256x384.size inb_S256x3072_S256x384_0_1536)) (View.ld x5 (Rect.unit ![0, 1536] S1x384.size inb_S1x3072_S1x384_0_1536))⟩,
       ⟨Rect.unit ![0, 1152] S256x384.size inb_S256x3072_S256x384_0_1152, k0_pay8 (k0_pay7 (View.ld x3 (Rect.unit ![0, 1152] S256x384.size inb_S256x3072_S256x384_0_1152)) (View.ld x2 (Rect.unit ![0, 1152] S256x384.size inb_S256x3072_S256x384_0_1152)) (View.ld x1 (Rect.unit ![0, 1152] S256x384.size inb_S256x3072_S256x384_0_1152)) (View.ld x4 (Rect.unit ![0, 1152] S256x384.size inb_S256x3072_S256x384_0_1152))) (View.ld x5 (Rect.unit ![0, 1152] S1x384.size inb_S1x3072_S1x384_0_1152))⟩,
       ⟨Rect.unit ![0, 768] S256x384.size inb_S256x3072_S256x384_0_768, k0_pay6 (k0_pay4 (View.ld x3 (Rect.unit ![0, 768] S256x384.size inb_S256x3072_S256x384_0_768)) (View.ld x2 (Rect.unit ![0, 768] S256x384.size inb_S256x3072_S256x384_0_768)) (View.ld x1 (Rect.unit ![0, 768] S256x384.size inb_S256x3072_S256x384_0_768)) (View.ld x4 (Rect.unit ![0, 768] S256x384.size inb_S256x3072_S256x384_0_768))) (k0_pay5 (View.ld x3 (Rect.unit ![0, 768] S256x384.size inb_S256x3072_S256x384_0_768)) (View.ld x2 (Rect.unit ![0, 768] S256x384.size inb_S256x3072_S256x384_0_768)) (View.ld x1 (Rect.unit ![0, 768] S256x384.size inb_S256x3072_S256x384_0_768)) (View.ld x4 (Rect.unit ![0, 768] S256x384.size inb_S256x3072_S256x384_0_768))) (View.ld x5 (Rect.unit ![0, 768] S1x384.size inb_S1x3072_S1x384_0_768))⟩,
       ⟨Rect.unit ![0, 384] S256x384.size inb_S256x3072_S256x384_0_384, k0_pay3 (k0_pay2 (View.ld x3 (Rect.unit ![0, 384] S256x384.size inb_S256x3072_S256x384_0_384)) (View.ld x2 (Rect.unit ![0, 384] S256x384.size inb_S256x3072_S256x384_0_384)) (View.ld x1 (Rect.unit ![0, 384] S256x384.size inb_S256x3072_S256x384_0_384))) (View.ld x4 (Rect.unit ![0, 384] S256x384.size inb_S256x3072_S256x384_0_384)) (View.ld x5 (Rect.unit ![0, 384] S1x384.size inb_S1x3072_S1x384_0_384))⟩,
       ⟨Rect.unit ![0, 0] S256x384.size inb_S256x3072_S256x384_0_0, k0_pay1 (View.ld x3 (Rect.unit ![0, 0] S256x384.size inb_S256x3072_S256x384_0_0)) (View.ld x2 (Rect.unit ![0, 0] S256x384.size inb_S256x3072_S256x384_0_0)) (View.ld x1 (Rect.unit ![0, 0] S256x384.size inb_S256x3072_S256x384_0_0)) (View.ld x4 (Rect.unit ![0, 0] S256x384.size inb_S256x3072_S256x384_0_0)) (View.ld x5 (Rect.unit ![0, 0] S1x384.size inb_S1x3072_S1x384_0_0))⟩] (ix2 r (scol g k))
      = tRow x1 x2 x3 x4 x5 r (scol g k) := by
  have hr := r.isLt
  have hk := k.isLt
  match g with
  | ⟨0, _⟩ =>
    rw [canon_skip _ _ _ _ _ _ 1 (.inl (show 384 * 0 + k.val < 2688 by omega))]
    rw [canon_skip _ _ _ _ _ _ 1 (.inl (show 384 * 0 + k.val < 2304 by omega))]
    rw [canon_skip _ _ _ _ _ _ 1 (.inl (show 384 * 0 + k.val < 1920 by omega))]
    rw [canon_skip _ _ _ _ _ _ 1 (.inl (show 384 * 0 + k.val < 1536 by omega))]
    rw [canon_skip _ _ _ _ _ _ 1 (.inl (show 384 * 0 + k.val < 1152 by omega))]
    rw [canon_skip _ _ _ _ _ _ 1 (.inl (show 384 * 0 + k.val < 768 by omega))]
    rw [canon_skip _ _ _ _ _ _ 1 (.inl (show 384 * 0 + k.val < 384 by omega))]
    rw [canon_mem _ _ _ _ _ _ (ix2 r k) (fun d => by
      match d with
      | ⟨0, _⟩ => show r.val = 0 + r.val; omega
      | ⟨1, _⟩ => show 384 * 0 + k.val = 0 + k.val; omega)]
    exact (congrFun (rfl) (ix2 r k)).trans (piece_apply x1 x2 x3 x4 x5 hz 0 _ _ r 0 k rfl)
  | ⟨1, _⟩ =>
    rw [canon_skip _ _ _ _ _ _ 1 (.inl (show 384 * 1 + k.val < 2688 by omega))]
    rw [canon_skip _ _ _ _ _ _ 1 (.inl (show 384 * 1 + k.val < 2304 by omega))]
    rw [canon_skip _ _ _ _ _ _ 1 (.inl (show 384 * 1 + k.val < 1920 by omega))]
    rw [canon_skip _ _ _ _ _ _ 1 (.inl (show 384 * 1 + k.val < 1536 by omega))]
    rw [canon_skip _ _ _ _ _ _ 1 (.inl (show 384 * 1 + k.val < 1152 by omega))]
    rw [canon_skip _ _ _ _ _ _ 1 (.inl (show 384 * 1 + k.val < 768 by omega))]
    rw [canon_mem _ _ _ _ _ _ (ix2 r k) (fun d => by
      match d with
      | ⟨0, _⟩ => show r.val = 0 + r.val; omega
      | ⟨1, _⟩ => show 384 * 1 + k.val = 384 + k.val; omega)]
    exact (congrFun (pay3_eq _ _ _ _ _) (ix2 r k)).trans (piece_apply x1 x2 x3 x4 x5 hz 384 _ _ r 1 k rfl)
  | ⟨2, _⟩ =>
    rw [canon_skip _ _ _ _ _ _ 1 (.inl (show 384 * 2 + k.val < 2688 by omega))]
    rw [canon_skip _ _ _ _ _ _ 1 (.inl (show 384 * 2 + k.val < 2304 by omega))]
    rw [canon_skip _ _ _ _ _ _ 1 (.inl (show 384 * 2 + k.val < 1920 by omega))]
    rw [canon_skip _ _ _ _ _ _ 1 (.inl (show 384 * 2 + k.val < 1536 by omega))]
    rw [canon_skip _ _ _ _ _ _ 1 (.inl (show 384 * 2 + k.val < 1152 by omega))]
    rw [canon_mem _ _ _ _ _ _ (ix2 r k) (fun d => by
      match d with
      | ⟨0, _⟩ => show r.val = 0 + r.val; omega
      | ⟨1, _⟩ => show 384 * 2 + k.val = 768 + k.val; omega)]
    exact (congrFun (pay6_eq _ _ _ _ _) (ix2 r k)).trans (piece_apply x1 x2 x3 x4 x5 hz 768 _ _ r 2 k rfl)
  | ⟨3, _⟩ =>
    rw [canon_skip _ _ _ _ _ _ 1 (.inl (show 384 * 3 + k.val < 2688 by omega))]
    rw [canon_skip _ _ _ _ _ _ 1 (.inl (show 384 * 3 + k.val < 2304 by omega))]
    rw [canon_skip _ _ _ _ _ _ 1 (.inl (show 384 * 3 + k.val < 1920 by omega))]
    rw [canon_skip _ _ _ _ _ _ 1 (.inl (show 384 * 3 + k.val < 1536 by omega))]
    rw [canon_mem _ _ _ _ _ _ (ix2 r k) (fun d => by
      match d with
      | ⟨0, _⟩ => show r.val = 0 + r.val; omega
      | ⟨1, _⟩ => show 384 * 3 + k.val = 1152 + k.val; omega)]
    exact (congrFun (pay8_eq _ _ _ _ _) (ix2 r k)).trans (piece_apply x1 x2 x3 x4 x5 hz 1152 _ _ r 3 k rfl)
  | ⟨4, _⟩ =>
    rw [canon_skip _ _ _ _ _ _ 1 (.inl (show 384 * 4 + k.val < 2688 by omega))]
    rw [canon_skip _ _ _ _ _ _ 1 (.inl (show 384 * 4 + k.val < 2304 by omega))]
    rw [canon_skip _ _ _ _ _ _ 1 (.inl (show 384 * 4 + k.val < 1920 by omega))]
    rw [canon_mem _ _ _ _ _ _ (ix2 r k) (fun d => by
      match d with
      | ⟨0, _⟩ => show r.val = 0 + r.val; omega
      | ⟨1, _⟩ => show 384 * 4 + k.val = 1536 + k.val; omega)]
    exact (congrFun (pay9_eq _ _ _ _ _) (ix2 r k)).trans (piece_apply x1 x2 x3 x4 x5 hz 1536 _ _ r 4 k rfl)
  | ⟨5, _⟩ =>
    rw [canon_skip _ _ _ _ _ _ 1 (.inl (show 384 * 5 + k.val < 2688 by omega))]
    rw [canon_skip _ _ _ _ _ _ 1 (.inl (show 384 * 5 + k.val < 2304 by omega))]
    rw [canon_mem _ _ _ _ _ _ (ix2 r k) (fun d => by
      match d with
      | ⟨0, _⟩ => show r.val = 0 + r.val; omega
      | ⟨1, _⟩ => show 384 * 5 + k.val = 1920 + k.val; omega)]
    exact (congrFun (pay10_eq _ _ _ _ _) (ix2 r k)).trans (piece_apply x1 x2 x3 x4 x5 hz 1920 _ _ r 5 k rfl)
  | ⟨6, _⟩ =>
    rw [canon_skip _ _ _ _ _ _ 1 (.inl (show 384 * 6 + k.val < 2688 by omega))]
    rw [canon_mem _ _ _ _ _ _ (ix2 r k) (fun d => by
      match d with
      | ⟨0, _⟩ => show r.val = 0 + r.val; omega
      | ⟨1, _⟩ => show 384 * 6 + k.val = 2304 + k.val; omega)]
    exact (congrFun (pay14_eq _ _ _ _ _) (ix2 r k)).trans (piece_apply x1 x2 x3 x4 x5 hz 2304 _ _ r 6 k rfl)
  | ⟨7, _⟩ =>
    rw [canon_mem _ _ _ _ _ _ (ix2 r k) (fun d => by
      match d with
      | ⟨0, _⟩ => show r.val = 0 + r.val; omega
      | ⟨1, _⟩ => show 384 * 7 + k.val = 2688 + k.val; omega)]
    exact (congrFun (pay17_eq _ _ _ _ _) (ix2 r k)).trans (piece_apply x1 x2 x3 x4 x5 hz 2688 _ _ r 7 k rfl)

end Tile

/-- The residual row a grid point computes from what it loaded. -/
def tileRow (v0 : S256x1024.Idx → EReal) (v1 : S1024x2048.Idx → EReal) (v3 : S256x3072.Idx → EReal) (v4 : S3072x2048.Idx → EReal)
    (v7 : S256x2048.Idx → EReal) (r : Fin 256) (q : Fin 2048) : EReal :=
  v7 (ix2 r q) + ((∑ k : Fin 1024, v0 (ix2 r k) * v1 (ix2 k q)) + ∑ k : Fin 3072, v3 (ix2 r k) * v4 (ix2 k q))

/-- The point's stored block at an entry. -/
theorem pay18_apply (v0 : Vec Ideal S256x1024 .bf16) (v1 : Vec Ideal S1024x2048 .bf16) (v3 : Vec Ideal S256x3072 .bf16)
    (v4 : Vec Ideal S3072x2048 .bf16) (v7 : Vec Ideal S256x2048 .f32) (v19 : Vec Ideal S1x2048 .f32) (r : Fin 256) (q : Fin 2048) :
    k0_pay18 (F := Ideal) v0 v1 v3 v4 v7 v19 (ix2 r q) = OutValue.normed (tileRow v0 v1 v3 v4 v7 r) (v19 (ix2 0 q)) q := by
  have e1 : ∀ (r : Fin 256) (q : Fin 2048), matmul (F := Ideal) dot_S256x1024_S1024x2048_S256x2048_1_0_0_1_n_n none v0 v1
      (constant S256x2048 .f32 0x00000000#32) (ix2 r q) = ∑ k : Fin 1024, v0 (ix2 r k) * v1 (ix2 k q) := fun r q => by
    refine (Ideal.matmul_plain_apply (M := 256) (K := 1024) (N := 2048) none v0 v1 _ r q).trans ?_
    rw [constant_apply, Ideal.ofBits_zero_f32, zero_add]
  have e2 : ∀ (r : Fin 256) (q : Fin 2048), matmul (F := Ideal) dot_S256x3072_S3072x2048_S256x2048_1_0_0_1_n_n none v3 v4
      (constant S256x2048 .f32 0x00000000#32) (ix2 r q) = ∑ k : Fin 3072, v3 (ix2 r k) * v4 (ix2 k q) := fun r q => by
    refine (Ideal.matmul_plain_apply (M := 256) (K := 3072) (N := 2048) none v3 v4 _ r q).trans ?_
    rw [constant_apply, Ideal.ofBits_zero_f32, zero_add]
  unfold k0_pay18
  dsimp only
  have eH : ∀ (r : Fin 256) (q : Fin 2048), addf (F := Ideal) v7 (addf
      (matmul (F := Ideal) dot_S256x1024_S1024x2048_S256x2048_1_0_0_1_n_n none v0 v1 (constant S256x2048 .f32 0x00000000#32))
      (matmul (F := Ideal) dot_S256x3072_S3072x2048_S256x2048_1_0_0_1_n_n none v3 v4 (constant S256x2048 .f32 0x00000000#32))) (ix2 r q)
      = tileRow v0 v1 v3 v4 v7 r q := fun r q => by
    rw [addf_apply, addf_apply, e1, e2]; rfl
  generalize addf (F := Ideal) v7 (addf
      (matmul (F := Ideal) dot_S256x1024_S1024x2048_S256x2048_1_0_0_1_n_n none v0 v1 (constant S256x2048 .f32 0x00000000#32))
      (matmul (F := Ideal) dot_S256x3072_S3072x2048_S256x2048_1_0_0_1_n_n none v3 v4 (constant S256x2048 .f32 0x00000000#32))) = H at eH ⊢
  rw [mulf_apply, mulf_apply, eH]
  unfold OutValue.normed
  refine congrArg₂ (· * ·) (congrArg (tileRow v0 v1 v3 v4 v7 r q * ·) ?_) ?_
  · refine (broadcastTo_apply _ _ (ix2 r q) (ix2 r 0) (fun d => by match d with | ⟨0, _⟩ => rfl | ⟨1, _⟩ => rfl)).trans ?_
    show Ideal.rsqrt (Ideal.div _ _ + _) = _
    refine congrArg Ideal.rsqrt (congrArg₂ (· + ·) (congrArg₂ Ideal.div ?_ rfl) rfl)
    refine (shapeCast_apply _ _ (ix2 r 0) (ix1 r) ?_).trans ?_
    · rfl
    refine (Ideal.multiReduction_add_single _ _ _ _ _ _).trans ?_
    refine Finset.sum_congr rfl fun k _ => ?_
    rw [mulf_apply]
    rw [show (reduces_S256x2048_S256 : S256x2048.Reduces [1] S256).lift (ix1 r) k = ix2 r k from
      funext fun d => by match d with | ⟨0, _⟩ => rfl | ⟨1, _⟩ => rfl]
    exact congrArg₂ (· * ·) (eH r k) (eH r k)
  · exact broadcastTo_apply _ _ (ix2 r q) (ix2 0 q) (fun d => by match d with | ⟨0, _⟩ => rfl | ⟨1, _⟩ => rfl)

section Run
variable (c : Dev nD) (i : grid0.Coords) (a1 : Memref sig .tc .vmem S256x1024 .bf16) (h1 : a1.IsWhole)
  (a2 : Memref sig .tc .vmem S256x3072 .f32) (h2 : a2.IsWhole) (a3 : Memref sig .tc .vmem S256x3072 .f32) (h3 : a3.IsWhole)
  (a4 : Memref sig .tc .vmem S256x3072 .f32) (h4 : a4.IsWhole) (a5 : Memref sig .tc .vmem S256x3072 .bf16) (h5 : a5.IsWhole)
  (a6 : Memref sig .tc .vmem S1x3072 .f32) (h6 : a6.IsWhole) (a7 : Memref sig .tc .vmem S4096x2048 .bf16) (h7 : a7.IsWhole)
  (a8 : Memref sig .tc .vmem S256x2048 .f32) (h8 : a8.IsWhole) (a9 : Memref sig .tc .vmem S1x2048 .f32) (h9 : a9.IsWhole)
  (a10 : Memref sig .tc .vmem S256x2048 .f32) (h10 : a10.IsWhole) (a11 : Memref sig .tc .vmem S256x3072 .bf16) (h11 : a11.IsWhole)
  (x0 : Vec Ideal S256x1024 .bf16) (x1 x2 x3 : Vec Ideal S256x3072 .f32) (x4 : Vec Ideal S256x3072 .bf16) (x5 : Vec Ideal S1x3072 .f32)
  (x6 : Vec Ideal S4096x2048 .bf16) (x7 : Vec Ideal S256x2048 .f32) (x8 : Vec Ideal S1x2048 .f32)

/-- What a grid point leaves in its output block, entry by entry. -/
theorem out_A (hz : ∀ (r : Fin 256) (j : Fin 3072), ∃ c : ℝ, x4 (ix2 r j) = (c : EReal)) (r : Fin 256) (q : Fin 2048) :
    out0_A_9 (F := Ideal) c i a1 h1 a2 h2 a3 h3 a4 h4 a5 h5 a6 h6 a7 h7 a8 h8 a9 h9 a10 h10 a11 h11 x0 x1 x2 x3 x4 x5 x6 x7 x8 (ix2 r q)
      = OutValue.normed (resid (fun q => x7 (ix2 r q)) (fun k => x0 (ix2 r k)) (tRow x1 x2 x3 x4 x5 r) x6) (x8 (ix2 0 q)) q := by
  unfold out0_A_9
  rw [View.read_writes_eq_canon _ _ _ (cover0_A_9 c i a1 h1 a2 h2 a3 h3 a4 h4 a5 h5 a6 h6 a7 h7 a8 h8 a9 h9 a10 h10 a11 h11 x0 x1 x2 x3 x4 x5 x6 x7 x8)]
  unfold kernelRun0_A
  dsimp only
  sl_unfold_words
  simp only [View.readAt_eq_ld a1.view, View.readAt_eq_ld a2.view, View.readAt_eq_ld a3.view, View.readAt_eq_ld a4.view, View.readAt_eq_ld a5.view,
    View.readAt_eq_ld a6.view, View.readAt_eq_ld a7.view, View.readAt_eq_ld a8.view, View.readAt_eq_ld a9.view,
    h1.read_unread, h2.read_unread, h3.read_unread, h4.read_unread, h5.read_unread, h6.read_unread, h7.read_unread, h8.read_unread, h9.read_unread]
  rw [View.canon_unit_zero zero2, View.ld_unit_zero zero2, View.ld_unit_zero zero2, View.ld_unit_zero zero2]
  rw [pay18_apply]
  refine congrArg (fun f => OutValue.normed f (x8 (ix2 0 q)) q) (funext fun q' => ?_)
  unfold tileRow resid
  refine congrArg₂ (fun a b : EReal => a + b) rfl (congrArg₂ (fun a b : EReal => a + b) (Finset.sum_congr rfl fun k _ => ?_)
    (Finset.sum_congr rfl fun k _ => ?_))
  · refine congrArg (fun b : EReal => x0 (ix2 r k) * b) ?_
    exact View.ld_unit_apply_of x6 ![0, 0] S1024x2048.size _ (ix2 k q') (ix2 ⟨k.val, by omega⟩ q') (fun d => by
      match d with
      | ⟨0, _⟩ => show k.val = 0 + k.val; omega
      | ⟨1, _⟩ => show q'.val = 0 + q'.val; omega)
  · refine congrArg₂ (fun a b : EReal => a * b) ?_ ?_
    · obtain ⟨g, j, rfl⟩ := eq_scol k
      rw [View.readCov_eq_canon']
      refine Eq.trans (congrArg (View.canon _) (funext fun d => Fin.ext ?_)) (scratch_canon x1 x2 x3 x4 x5 hz r g j)
      match d with
      | ⟨0, _⟩ => show 0 + 1 * r.val = r.val; omega
      | ⟨1, _⟩ => show 0 + 1 * (scol g j).val = (scol g j).val; omega
    · exact View.ld_unit_apply_of x6 ![1024, 0] S3072x2048.size _ (ix2 k q') (ix2 ⟨1024 + k.val, by omega⟩ q') (fun d => by
        match d with
        | ⟨0, _⟩ => rfl
        | ⟨1, _⟩ => show q'.val = 0 + q'.val; omega)

end Run

end Cert.OutSValue
end
-- ==== Proof.OutSClaim.lean ====
/-
  The sample's output projection: each grid point writes its 256 rows of `G`, so both programs end holding the same
  function of the arguments.
-/
module

public import proofs.«01_k».proof.Proof.OutSTile
public import proofs.«01_k».proof.Proof.PoolMath
public import proofs.«01_k».proof.Proof.Gen.KernelOutSIdeal.Value
public import proofs.«01_k».proof.Proof.Gen.ReferenceOutSIdeal.Run
public import proofs.«01_k».proof.Proof.Gen.Pre_finite_z
public import Idealize.ShloMosaic.Lib.ReduceAll
public import proofs.«01_k».proof.Defs

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.OutSValue

section Claim
open Cert.KernelOutSIdeal Cert.KernelOutSIdeal.Gen

variable (m : (ℓ : Loc nD τ sig) → Buf (Elt Ideal) ℓ) (ρ : Dev nD → PrngReg)

/-- The arguments of device `c`, as plain functions. -/
abbrev mA (c : Dev nD) : (⟨2, ![512, 1024]⟩ : Shape).Idx → EReal := m ((c.tc : Thread nD τ).loc main_arg0)
abbrev mY (c : Dev nD) : (⟨2, ![512, 3072]⟩ : Shape).Idx → EReal := m ((c.tc : Thread nD τ).loc main_arg1)
abbrev mE (c : Dev nD) : (⟨2, ![512, 3072]⟩ : Shape).Idx → EReal := m ((c.tc : Thread nD τ).loc main_arg2)
abbrev mD (c : Dev nD) : (⟨2, ![512, 3072]⟩ : Shape).Idx → EReal := m ((c.tc : Thread nD τ).loc main_arg3)
abbrev mZ (c : Dev nD) : (⟨2, ![512, 10240]⟩ : Shape).Idx → EReal := m ((c.tc : Thread nD τ).loc main_arg4)
abbrev mN (c : Dev nD) : (⟨2, ![1, 3072]⟩ : Shape).Idx → EReal := m ((c.tc : Thread nD τ).loc main_arg5)
abbrev mW (c : Dev nD) : (⟨2, ![4096, 2048]⟩ : Shape).Idx → EReal := m ((c.tc : Thread nD τ).loc main_arg6)
abbrev mX (c : Dev nD) : (⟨2, ![512, 2048]⟩ : Shape).Idx → EReal := m ((c.tc : Thread nD τ).loc main_arg7)
abbrev mF (c : Dev nD) : (⟨2, ![1, 2048]⟩ : Shape).Idx → EReal := m ((c.tc : Thread nD τ).loc main_arg8)

/-- The result array both programs are shown to end with. -/
abbrev result (c : Dev nD) : (⟨2, ![512, 2048]⟩ : Shape).Idx → EReal :=
  G (mA m c) (mY m c) (mE m c) (mD m c) (mZ m c) (mN m c) (mW m c) (mX m c) (mF m c)

/-- The block indices of the ten windows at every grid point. -/
theorem idx_all : ∀ t : Fin cfg0.N,
    (win0_0.index t 0 = t.val ∧ win0_0.index t 1 = 0)
      ∧ (win0_1.index t 0 = t.val ∧ win0_1.index t 1 = 0)
      ∧ (win0_2.index t 0 = t.val ∧ win0_2.index t 1 = 0)
      ∧ (win0_3.index t 0 = t.val ∧ win0_3.index t 1 = 0)
      ∧ (win0_4.index t 0 = t.val ∧ win0_4.index t 1 = 0)
      ∧ (win0_5.index t 0 = 0 ∧ win0_5.index t 1 = 0)
      ∧ (win0_6.index t 0 = 0 ∧ win0_6.index t 1 = 0)
      ∧ (win0_7.index t 0 = t.val ∧ win0_7.index t 1 = 0)
      ∧ (win0_8.index t 0 = 0 ∧ win0_8.index t 1 = 0)
      ∧ (win0_9.index t 0 = t.val ∧ win0_9.index t 1 = 0) :=
  (by decide +kernel : ∀ t : Fin grid0.N, _)

/-- Row `r` of point `t`'s blocks is row `256·t + r` of the arrays. -/
abbrev trow (t : Fin cfg0.N) (r : Fin 256) : Fin 512 :=
  ⟨256 * t.val + r.val, by have h : t.val < 2 := t.isLt; have := r.isLt; omega⟩

theorem blk0 (c : Dev nD) (t : Fin cfg0.N) (r : Fin 256) (k : Fin 1024) :
    (iblk m c 0 t : S256x1024.Idx → EReal) (ix2 r k) = mA m c (ix2 (trow t r) k) := by
  obtain ⟨⟨h0, h1⟩, -⟩ := idx_all t
  unfold iblk
  rw [View.read_apply]
  show m _ _ = m _ _
  refine congrArg (m ((c.tc : Thread nD τ).loc main_arg0)) (funext fun a => Fin.ext ?_)
  match a with
  | ⟨0, _⟩ => show win0_0.index t 0 * 256 + 1 * r.val = 256 * t.val + r.val; rw [h0]; omega
  | ⟨1, _⟩ => show win0_0.index t 1 * 1024 + 1 * k.val = k.val; rw [h1]; omega

theorem blk1 (c : Dev nD) (t : Fin cfg0.N) (r : Fin 256) (k : Fin 3072) :
    (iblk m c 1 t : S256x3072.Idx → EReal) (ix2 r k) = mY m c (ix2 (trow t r) k) := by
  obtain ⟨-, ⟨h0, h1⟩, -⟩ := idx_all t
  unfold iblk
  rw [View.read_apply]
  show m _ _ = m _ _
  refine congrArg (m ((c.tc : Thread nD τ).loc main_arg1)) (funext fun a => Fin.ext ?_)
  match a with
  | ⟨0, _⟩ => show win0_1.index t 0 * 256 + 1 * r.val = 256 * t.val + r.val; rw [h0]; omega
  | ⟨1, _⟩ => show win0_1.index t 1 * 3072 + 1 * k.val = k.val; rw [h1]; omega

theorem blk2 (c : Dev nD) (t : Fin cfg0.N) (r : Fin 256) (k : Fin 3072) :
    (iblk m c 2 t : S256x3072.Idx → EReal) (ix2 r k) = mE m c (ix2 (trow t r) k) := by
  obtain ⟨-, -, ⟨h0, h1⟩, -⟩ := idx_all t
  unfold iblk
  rw [View.read_apply]
  show m _ _ = m _ _
  refine congrArg (m ((c.tc : Thread nD τ).loc main_arg2)) (funext fun a => Fin.ext ?_)
  match a with
  | ⟨0, _⟩ => show win0_2.index t 0 * 256 + 1 * r.val = 256 * t.val + r.val; rw [h0]; omega
  | ⟨1, _⟩ => show win0_2.index t 1 * 3072 + 1 * k.val = k.val; rw [h1]; omega

theorem blk3 (c : Dev nD) (t : Fin cfg0.N) (r : Fin 256) (k : Fin 3072) :
    (iblk m c 3 t : S256x3072.Idx → EReal) (ix2 r k) = mD m c (ix2 (trow t r) k) := by
  obtain ⟨-, -, -, ⟨h0, h1⟩, -⟩ := idx_all t
  unfold iblk
  rw [View.read_apply]
  show m _ _ = m _ _
  refine congrArg (m ((c.tc : Thread nD τ).loc main_arg3)) (funext fun a => Fin.ext ?_)
  match a with
  | ⟨0, _⟩ => show win0_3.index t 0 * 256 + 1 * r.val = 256 * t.val + r.val; rw [h0]; omega
  | ⟨1, _⟩ => show win0_3.index t 1 * 3072 + 1 * k.val = k.val; rw [h1]; omega

theorem blk4 (c : Dev nD) (t : Fin cfg0.N) (r : Fin 256) (k : Fin 3072) :
    (X0_4 m c t : S256x3072.Idx → EReal) (ix2 r k) = mZ m c (ix2 (trow t r) (⟨k.val, by omega⟩ : Fin 10240)) := by
  obtain ⟨-, -, -, -, ⟨h0, h1⟩, -⟩ := idx_all t
  unfold X0_4 Pipeline.Window.fill
  rw [dif_pos (moved0_4 t (ix2 r k))]
  unfold iblk
  rw [View.read_apply]
  show m _ _ = m _ _
  refine congrArg (m ((c.tc : Thread nD τ).loc main_arg4)) (funext fun a => Fin.ext ?_)
  match a with
  | ⟨0, _⟩ => show win0_4.index t 0 * 256 + 1 * r.val = 256 * t.val + r.val; rw [h0]; omega
  | ⟨1, _⟩ => show win0_4.index t 1 * 3072 + 1 * k.val = k.val; rw [h1]; omega

theorem blk5 (c : Dev nD) (t : Fin cfg0.N) (k : Fin 3072) :
    (iblk m c 5 t : S1x3072.Idx → EReal) (ix2 0 k) = mN m c (ix2 0 k) := by
  obtain ⟨-, -, -, -, -, ⟨h0, h1⟩, -⟩ := idx_all t
  unfold iblk
  rw [View.read_apply]
  show m _ _ = m _ _
  refine congrArg (m ((c.tc : Thread nD τ).loc main_arg5)) (funext fun a => Fin.ext ?_)
  match a with
  | ⟨0, _⟩ => show win0_5.index t 0 * 1 + 1 * 0 = 0; rw [h0]
  | ⟨1, _⟩ => show win0_5.index t 1 * 3072 + 1 * k.val = k.val; rw [h1]; omega

theorem blk6 (c : Dev nD) (t : Fin cfg0.N) (r : Fin 4096) (k : Fin 2048) :
    (iblk m c 6 t : S4096x2048.Idx → EReal) (ix2 r k) = mW m c (ix2 r k) := by
  obtain ⟨-, -, -, -, -, -, ⟨h0, h1⟩, -⟩ := idx_all t
  unfold iblk
  rw [View.read_apply]
  show m _ _ = m _ _
  refine congrArg (m ((c.tc : Thread nD τ).loc main_arg6)) (funext fun a => Fin.ext ?_)
  match a with
  | ⟨0, _⟩ => show win0_6.index t 0 * 4096 + 1 * r.val = r.val; rw [h0]; omega
  | ⟨1, _⟩ => show win0_6.index t 1 * 2048 + 1 * k.val = k.val; rw [h1]; omega

theorem blk7 (c : Dev nD) (t : Fin cfg0.N) (r : Fin 256) (k : Fin 2048) :
    (iblk m c 7 t : S256x2048.Idx → EReal) (ix2 r k) = mX m c (ix2 (trow t r) k) := by
  obtain ⟨-, -, -, -, -, -, -, ⟨h0, h1⟩, -⟩ := idx_all t
  unfold iblk
  rw [View.read_apply]
  show m _ _ = m _ _
  refine congrArg (m ((c.tc : Thread nD τ).loc main_arg7)) (funext fun a => Fin.ext ?_)
  match a with
  | ⟨0, _⟩ => show win0_7.index t 0 * 256 + 1 * r.val = 256 * t.val + r.val; rw [h0]; omega
  | ⟨1, _⟩ => show win0_7.index t 1 * 2048 + 1 * k.val = k.val; rw [h1]; omega

theorem blk8 (c : Dev nD) (t : Fin cfg0.N) (k : Fin 2048) :
    (iblk m c 8 t : S1x2048.Idx → EReal) (ix2 0 k) = mF m c (ix2 0 k) := by
  obtain ⟨-, -, -, -, -, -, -, -, ⟨h0, h1⟩, -⟩ := idx_all t
  unfold iblk
  rw [View.read_apply]
  show m _ _ = m _ _
  refine congrArg (m ((c.tc : Thread nD τ).loc main_arg8)) (funext fun a => Fin.ext ?_)
  match a with
  | ⟨0, _⟩ => show win0_8.index t 0 * 1 + 1 * 0 = 0; rw [h0]
  | ⟨1, _⟩ => show win0_8.index t 1 * 2048 + 1 * k.val = k.val; rw [h1]; omega

/-- The gate's columns of the projection are real numbers. -/
def RealGate (z : (⟨2, ![512, 10240]⟩ : Shape).Idx → EReal) : Prop :=
  ∀ (R : Fin 512) (j : Fin 3072), ∃ c : ℝ, z (ix2 R (⟨j.val, by omega⟩ : Fin 10240)) = (c : EReal)

/-- A point's gated row is the array's. -/
theorem tRow_eq (c : Dev nD) (t : Fin cfg0.N) (r : Fin 256) :
    tRow (iblk m c 1 t) (iblk m c 2 t) (iblk m c 3 t) (X0_4 m c t) (iblk m c 5 t) r
      = gRow (mY m c) (mE m c) (mD m c) (mZ m c) (mN m c) (trow t r) := by
  unfold tRow gRow
  rw [show (fun j => (iblk m c 1 t : S256x3072.Idx → EReal) (ix2 r j)) = _ from funext (blk1 m c t r),
    show (fun j => (iblk m c 2 t : S256x3072.Idx → EReal) (ix2 r j)) = _ from funext (blk2 m c t r),
    show (fun j => (iblk m c 3 t : S256x3072.Idx → EReal) (ix2 r j)) = _ from funext (blk3 m c t r),
    show (fun j => (X0_4 m c t : S256x3072.Idx → EReal) (ix2 r j)) = _ from funext (blk4 m c t r),
    show (fun j => (iblk m c 5 t : S1x3072.Idx → EReal) (ix2 0 j)) = _ from funext (blk5 m c t)]

/-- A point's row of the residual sum is the array's. -/
theorem resid_eq (c : Dev nD) (t : Fin cfg0.N) (r : Fin 256) :
    resid (fun q => (iblk m c 7 t : S256x2048.Idx → EReal) (ix2 r q)) (fun k => (iblk m c 0 t : S256x1024.Idx → EReal) (ix2 r k))
        (tRow (iblk m c 1 t) (iblk m c 2 t) (iblk m c 3 t) (X0_4 m c t) (iblk m c 5 t) r) (iblk m c 6 t)
      = rRow (mA m c) (mY m c) (mE m c) (mD m c) (mZ m c) (mN m c) (mW m c) (mX m c) (trow t r) := by
  rw [tRow_eq]
  unfold rRow
  rw [show (fun q => (iblk m c 7 t : S256x2048.Idx → EReal) (ix2 r q)) = _ from funext (blk7 m c t r),
    show (fun k => (iblk m c 0 t : S256x1024.Idx → EReal) (ix2 r k)) = _ from funext (blk0 m c t r)]
  exact congrArg (resid _ _ _) (funext fun i => by
    obtain ⟨u, v, rfl⟩ : ∃ (u : Fin 4096) (v : Fin 2048), i = ix2 u v := ⟨i 0, i 1, eq_ix2 i⟩
    exact blk6 m c t u v)

/-- Each point writes back its block of the result. -/
theorem flushed_eq (c : Dev nD) (hZ : RealGate (mZ m c)) (t : Fin cfg0.N) :
    (dats m 0 c).flushed 9 t = ((cfg0.win 9).blk t).view.read (Elt Ideal) (result m c) := by
  rw [Value.flushed9_A]
  funext j
  obtain ⟨r, q, rfl⟩ : ∃ (r : Fin 256) (q : Fin 2048), j = ix2 r q := ⟨j 0, j 1, eq_ix2 j⟩
  rw [View.read_apply]
  refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk m c 0 t) (iblk m c 1 t) (iblk m c 2 t) (iblk m c 3 t) (X0_4 m c t) (iblk m c 5 t) (iblk m c 6 t) (iblk m c 7 t) (iblk m c 8 t)
    (fun r j => by rw [blk4]; exact hZ _ j) r q).trans ?_
  rw [resid_eq, blk8]
  obtain ⟨-, -, -, -, -, -, -, -, -, ⟨h0, h1⟩⟩ := idx_all t
  refine Eq.trans ?_ (congrArg (result m c) (show ix2 (trow t r) q = _ from funext fun a => Fin.ext (by
    match a with
    | ⟨0, _⟩ => show 256 * t.val + r.val = win0_9.index t 0 * 256 + 1 * r.val; rw [h0]; omega
    | ⟨1, _⟩ => show q.val = win0_9.index t 1 * 2048 + 1 * q.val; rw [h1]; omega)))
  rfl

/-- Every entry of the result array lies in the block of the point that owns its row. -/
theorem cover (i : S512x2048.Idx) : ∃ t : Fin cfg0.N, (cfg0.win 9).flush t = true ∧ i ∈ ((cfg0.win 9).blk t).view.set := by
  have h0 : (i 0 : Nat) < 512 := (i 0).isLt
  have h1 : (i 1 : Nat) < 2048 := (i 1).isLt
  have hN : cfg0.N = 2 := N_0
  refine ⟨⟨(i 0 : Nat) / 256, by omega⟩, flush0_9 _, ?_⟩
  generalize ht : (⟨(i 0 : Nat) / 256, by omega⟩ : Fin cfg0.N) = t
  have hv : t.val = (i 0 : Nat) / 256 := by rw [← ht]
  show i ∈ ((View.whole main_v0).slice (win0_9.rect t)).set
  rw [View.set_slice_whole, Rect.mem_set_unit]
  obtain ⟨-, -, -, -, -, -, -, -, -, ⟨e0, e1⟩⟩ := idx_all t
  intro a
  match a with
  | ⟨0, _⟩ => show win0_9.index t 0 * 256 ≤ (i 0 : Nat) ∧ (i 0 : Nat) < win0_9.index t 0 * 256 + 256
              rw [e0, hv]; omega
  | ⟨1, _⟩ => show win0_9.index t 1 * 2048 ≤ (i 1 : Nat) ∧ (i 1 : Nat) < win0_9.index t 1 * 2048 + 2048
              rw [e1]; omega

/-- The result array after the kernel's run. -/
theorem final (c : Dev nD) (hZ : RealGate (mZ m c)) : (dats m 0 c).arrAt 9 cfg0.N = result m c :=
  (dats m 0 c).arrAt_eq_of_cover 9 (result m c) (fun t _ => flushed_eq m c hZ t) cover

end Claim

/-- The predicate on the projection's array says that the gate's columns are real numbers. -/
theorem realGate_of_finite [Cert.Pre_finite_z.Facts] (a : (⟨2, ![512, 1024]⟩ : Shape).Idx → EReal)
    (yo e d : (⟨2, ![512, 3072]⟩ : Shape).Idx → EReal) (z : (⟨2, ![512, 10240]⟩ : Shape).Idx → EReal)
    (n : (⟨2, ![1, 3072]⟩ : Shape).Idx → EReal) (w : (⟨2, ![4096, 2048]⟩ : Shape).Idx → EReal)
    (x : (⟨2, ![512, 2048]⟩ : Shape).Idx → EReal) (g : (⟨2, ![1, 2048]⟩ : Shape).Idx → EReal)
    (h : Cert.Pre_finite_z.fn (F := Ideal) a yo e d z n w x g = fun _ => 1#1) : RealGate z := by
  intro R j
  haveI : Subsingleton Cert.Pre_finite_z.S_.Idx := ⟨fun a b => funext fun i => i.elim0⟩
  unfold Cert.Pre_finite_z.fn at h
  dsimp only at h
  have e := Host.reduce_andi_all _ _ _ _ (fun i => i.elim0) (congrFun h _) (ix2 R j)
  refine Cert.PoolMath.real_of_abs_lt _ (Eq.trans ?_ e)
  have htop : Ideal.ofBits .f32 0x7F800000#32 = (⊤ : EReal) := by simp [Ideal.ofBits, Ideal.ieee]
  have hx : extractStridedSlice Cert.Pre_finite_z.S512x3072 ![0, 0] z Cert.Pre_finite_z.Facts.slices_S512x10240_S512x3072_0_0 (ix2 R j)
      = z (ix2 R (⟨j.val, by omega⟩ : Fin 10240)) := extractStridedSlice_apply _ z _ _ _ (fun d => by
    match d with
    | ⟨0, _⟩ => show R.val = 0 + R.val; omega
    | ⟨1, _⟩ => show j.val = 0 + j.val; omega)
  rw [← hx, ← htop]
  rfl

/-- Both programs end with the same result array and their arguments unchanged. -/
theorem algebraic : Cert.algebraic_KernelOutSIdeal_ReferenceOutSIdeal_pre_finite_z (hKernelOutSIdeal := Cert.KernelOutSIdeal.Gen.facts)
    (hReferenceOutSIdeal := Cert.ReferenceOutSIdeal.Gen.facts) (hPre_finite_z := Cert.Pre_finite_z.Gen.facts) := fun m ρ m' ρ' hpre hag => by
  have hZ : ∀ c, RealGate (mZ m c) := fun c => @realGate_of_finite Cert.Pre_finite_z.Gen.facts _ _ _ _ _ _ _ _ _ (hpre c)
  refine ⟨fun c => result m c,
    (θ_run _ _ _).mono (fun _ h c => ⟨(h c).1.trans (final m c (hZ c)), (h c).2⟩) (Cert.KernelOutSIdeal.Value.run_blocks m ρ),
    (θ_run _ _ _).mono (fun _ h c => ⟨(h c).1.trans ?_, (h c).2⟩) (Cert.ReferenceOutSIdeal.Value.run m' ρ')⟩
  obtain ⟨h0, h1, h2, h3, h4, h5, h6, h7, h8⟩ := hag c
  rw [Cert.ReferenceOutSIdeal.Read.val_main_v36_eq, h0, h1, h2, h3, h4, h5, h6, h7, h8]
  exact ref_eq _ _ _ _ _ _ _ _ _

end Cert.OutSValue

end
-- ==== Proof.InSRun.lean ====
module

public import proofs.«01_k».proof.Proof.Gen.KernelInSIdeal.Frame
public import proofs.«01_k».proof.Proof.Gen.KernelInSIdeal.Skeleton
public import proofs.«01_k».proof.Proof.Gen.ReferenceInSIdeal.Read
public import Idealize.ShloMosaic.Lib.Pipeline.TableIdle
public import Idealize.ShloMosaic.Lib.Pipeline.Value
public import proofs.«01_k».proof.Proof.InRun

/-!
# The sample's input projection: the body at one grid point

The grid is one row block by ten column blocks. At the first column the body normalises the rows, keeps them in its
scratch buffer, rounds the `dt` weight with the rows past the array's end set to zero, and stores the 128 `dt` columns;
at every column it rounds one block of the weight, stores it and multiplies the kept rows by it. The `dt` weight's block
overhangs the array: what lies past the array's end in its staging buffer is unknown, and the mask removes it.
-/

@[expose] public section

set_option maxRecDepth 16384

noncomputable section

namespace Cert.InSRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx (select_apply)
open Cert.KernelInSIdeal Cert.KernelInSIdeal.Gen
open Cert.InRun (zeros)

variable {F : FTy → Type} [FloatOps F]

local notation "𝕄" => MT nD τ sig Unit (Elt F) ℕ (UR sig nD τ) ℕ

/-! ## The mask -/

/-- The comparison of a row number with the number of rows inside the array. -/
theorem row_lt : ∀ r : Fin 128, IntOp.cmpi .slt (BitVec.ofNat 32 r.val) (48#32) = if r.val < 48 then 1#1 else 0#1 := by
  decide +kernel

/-- The mask: one on the rows inside the array, zero past them. -/
theorem mask_apply (j : S128x2048.Idx) :
    cmpi .slt (iota .tc S128x2048 32 [0] iota_S128x2048_d0_w32) (broadcast S128x2048 48#32) j
      = if (j 0).val < 48 then 1#1 else 0#1 := by
  refine Eq.trans ?_ (row_lt ⟨(j 0).val, (j 0).isLt⟩)
  show IntOp.cmpi .slt (BitVec.ofNat 32 (0 * 128 + (j 0).val)) (48#32) = _
  rw [Nat.zero_mul, Nat.zero_add]

/-- The rounded `dt` weight reads only the rows inside the array. -/
theorem masked_congr (X Y : Vec F S128x2048 .f32) (h : ∀ j : S128x2048.Idx, (j 0).val < 48 → X j = Y j) :
    k0_pay3 X = k0_pay3 Y := by
  unfold k0_pay3
  dsimp only
  refine congrArg (fun v : FVec F S128x2048 .f32 => truncf .bf16 v bitsLt_bf16_f32) ?_
  rw [shapeCast_self, shapeCast_self]
  funext j
  rw [select_apply, select_apply, mask_apply]
  by_cases hj : (j 0).val < 48
  · rw [h j hj]
  · rw [if_neg hj]; rfl

/-- So do the `dt` columns. -/
theorem dt_congr (x : Vec F S512x2048 .f32) (g : Vec F S1x2048 .f32) (X Y : Vec F S128x2048 .f32)
    (h : ∀ j : S128x2048.Idx, (j 0).val < 48 → X j = Y j) : k0_pay4 x g X = k0_pay4 x g Y := by
  unfold k0_pay4
  rw [masked_congr X Y h]

/-! ## The body at one point -/

/-- A whole buffer stored once reads as what was stored. -/
theorem read_stored {s : Shape} {e : EltTy} (v : View sig .tc .vmem s e) (f : v.ty.Contents (Elt F))
    {off : Fin s.rank → Nat} (h : off = fun _ => 0) (inb : ∀ a, off a + s.size a ≤ s.size a) (w : s.Idx → Elt F e) :
    v.read (Elt F) (v.writes (Elt F) f [(⟨Rect.unit off s.size inb, w⟩ : View.Piece (Elt F) s e)]) = w := by
  rw [View.read_writes_eq_canon _ _ _ (fun y => ⟨_, List.mem_singleton_self _, ?_⟩), View.canon_unit_zero h]
  subst h
  show y ∈ (Rect.whole s).set
  rw [Rect.set_whole]; exact Finset.mem_univ y

section Body

variable (c : Dev nD) (i : grid0.Coords)
  (a2 : Memref sig .tc .vmem S512x2048 .f32) (w2 : a2.IsWhole) (a3 : Memref sig .tc .vmem S1x2048 .f32) (w3 : a3.IsWhole)
  (a4 : Memref sig .tc .vmem S1024x2048 .f32) (w4 : a4.IsWhole) (a5 : Memref sig .tc .vmem S128x2048 .f32) (w5 : a5.IsWhole)
  (a6 : Memref sig .tc .vmem S512x1024 .bf16) (w6 : a6.IsWhole) (a7 : Memref sig .tc .vmem S512x128 .f32) (w7 : a7.IsWhole)
  (a8 : Memref sig .tc .vmem S1024x2048 .bf16) (w8 : a8.IsWhole) (a9 : Memref sig .tc .vmem S128x2048 .bf16) (w9 : a9.IsWhole)
  (a10 : Memref sig .tc .vmem S512x2048 .bf16) (w10 : a10.IsWhole)
  (x : Vec F S512x2048 .f32) (g : Vec F S1x2048 .f32) (w : Vec F S1024x2048 .f32) (wd : Vec F S128x2048 .f32)

/-- The four input buffers, at their contents. -/
abbrev ins : sProp 𝕄 :=
  iprop(owns (c : Thread nD τ) a2 fullShare x ∗ owns (c : Thread nD τ) a3 fullShare g
    ∗ owns (c : Thread nD τ) a4 fullShare w ∗ owns (c : Thread nD τ) a5 fullShare wd)

set_option maxHeartbeats 1000000 in
/-- At the first column the body leaves the normalised rows in the scratch, their product with the masked `dt` weight in
    the `dt` buffer, the two rounded weight blocks in theirs, and the rows' product with the column block's weight in the
    output buffer. -/
theorem run_first (hc : k0_cond1 i = 1#1) (E : Set ℕ) (K : PUnit → sProp 𝕄) :
    iprop(ins c a2 a3 a4 a5 x g w wd ∗ (∃ d, owns (c : Thread nD τ) a6 fullShare d) ∗ (∃ d, owns (c : Thread nD τ) a7 fullShare d)
        ∗ (∃ d, owns (c : Thread nD τ) a8 fullShare d) ∗ (∃ d, owns (c : Thread nD τ) a9 fullShare d)
        ∗ (∃ d, owns (c : Thread nD τ) a10 fullShare d)
        ∗ (iprop(ins c a2 a3 a4 a5 x g w wd ∗ owns (c : Thread nD τ) a6 fullShare (k0_pay6 w (k0_pay2 x g))
            ∗ owns (c : Thread nD τ) a7 fullShare (k0_pay4 x g wd) ∗ owns (c : Thread nD τ) a8 fullShare (k0_pay5 w)
            ∗ owns (c : Thread nD τ) a9 fullShare (k0_pay3 wd) ∗ owns (c : Thread nD τ) a10 fullShare (k0_pay2 x g)) -∗ K ⟨⟩))
      ⊢ wp frame (wpE (defs₀ (F := F)) Variants.none c none) E
          (cc0_inproj i a2 w2 a3 w3 a4 w4 a5 w5 a6 w6 a7 w7 a8 w8 a9 w9 a10 w10) K := by
  simp only [cc0_inproj_eq_skeleton]; unfold cc0_inproj_skel
  unfold ins owns
  iintro ⟨⟨⟨%f2, %h2, H2⟩, ⟨%f3, %h3, H3⟩, ⟨%f4, %h4, H4⟩, ⟨%f5, %h5, H5⟩⟩, ⟨%d6, %f6, -, H6⟩, ⟨%d7, %f7, -, H7⟩, ⟨%d8, %f8, -, H8⟩,
    ⟨%d9, %f9, -, H9⟩, ⟨%d10, %f10, -, H10⟩, Hk⟩
  obtain rfl := w2.eq_unread h2; obtain rfl := w3.eq_unread h3; obtain rfl := w4.eq_unread h4; obtain rfl := w5.eq_unread h5
  sl_exec (disch := sl_exact hc)
  sl_step
  iapply Hk
  isplitl [H2 H3 H4 H5]
  · isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    iexists _; isplitr; · ipureintro; exact w5.read_unread _
    iexact H5
  isplitl [H6]
  · iexists _; isplitr; swap; · iexact H6
    ipureintro
    sl_unfold_words
    refine (read_stored (s := S512x1024) _ _ zeros _ _).trans ?_
    simp only [View.readCov_unit_zero (S := S512x2048) _ zeros, View.readAt_eq_ld, w2.read_unread, w3.read_unread, w4.read_unread, w5.read_unread,
      View.ld_unit_zero (S := S512x2048) zeros, View.ld_unit_zero (S := S1x2048) zeros, View.ld_unit_zero (S := S1024x2048) zeros,
      View.ld_unit_zero (S := S128x2048) zeros]
  isplitl [H7]
  · iexists _; isplitr; swap; · iexact H7
    ipureintro
    sl_unfold_words
    refine (read_stored (s := S512x128) _ _ zeros _ _).trans ?_
    simp only [View.readAt_eq_ld, w2.read_unread, w3.read_unread, w4.read_unread, w5.read_unread,
      View.ld_unit_zero (S := S512x2048) zeros, View.ld_unit_zero (S := S1x2048) zeros, View.ld_unit_zero (S := S1024x2048) zeros,
      View.ld_unit_zero (S := S128x2048) zeros]
  isplitl [H8]
  · iexists _; isplitr; swap; · iexact H8
    ipureintro
    sl_unfold_words
    refine (read_stored (s := S1024x2048) _ _ zeros _ _).trans ?_
    simp only [View.readAt_eq_ld, w2.read_unread, w3.read_unread, w4.read_unread, w5.read_unread,
      View.ld_unit_zero (S := S512x2048) zeros, View.ld_unit_zero (S := S1x2048) zeros, View.ld_unit_zero (S := S1024x2048) zeros,
      View.ld_unit_zero (S := S128x2048) zeros]
  isplitl [H9]
  · iexists _; isplitr; swap; · iexact H9
    ipureintro
    sl_unfold_words
    refine (read_stored (s := S128x2048) _ _ zeros _ _).trans ?_
    simp only [View.readAt_eq_ld, w2.read_unread, w3.read_unread, w4.read_unread, w5.read_unread,
      View.ld_unit_zero (S := S512x2048) zeros, View.ld_unit_zero (S := S1x2048) zeros, View.ld_unit_zero (S := S1024x2048) zeros,
      View.ld_unit_zero (S := S128x2048) zeros]
  iexists _; isplitr; swap; · iexact H10
  ipureintro
  sl_unfold_words
  refine (read_stored (s := S512x2048) _ _ zeros _ _).trans ?_
  simp only [View.readAt_eq_ld, w2.read_unread, w3.read_unread, w4.read_unread, w5.read_unread,
    View.ld_unit_zero (S := S512x2048) zeros, View.ld_unit_zero (S := S1x2048) zeros, View.ld_unit_zero (S := S1024x2048) zeros,
    View.ld_unit_zero (S := S128x2048) zeros]

set_option maxHeartbeats 1000000 in
/-- At a later column the body leaves the scratch `h`, the `dt` buffer `y` and the rounded `dt` weight `v` as they were,
    the rounded weight block in its buffer, and the product of `h` with it in the output buffer. -/
theorem run_later (hc : ¬k0_cond1 i = 1#1) (y : Vec F S512x128 .f32) (v : Vec F S128x2048 .bf16) (h : Vec F S512x2048 .bf16)
    (E : Set ℕ) (K : PUnit → sProp 𝕄) :
    iprop(ins c a2 a3 a4 a5 x g w wd ∗ (∃ d, owns (c : Thread nD τ) a6 fullShare d) ∗ owns (c : Thread nD τ) a7 fullShare y
        ∗ (∃ d, owns (c : Thread nD τ) a8 fullShare d) ∗ owns (c : Thread nD τ) a9 fullShare v
        ∗ owns (c : Thread nD τ) a10 fullShare h
        ∗ (iprop(ins c a2 a3 a4 a5 x g w wd ∗ owns (c : Thread nD τ) a6 fullShare (k0_pay6 w h)
            ∗ owns (c : Thread nD τ) a7 fullShare y ∗ owns (c : Thread nD τ) a8 fullShare (k0_pay5 w)
            ∗ owns (c : Thread nD τ) a9 fullShare v ∗ owns (c : Thread nD τ) a10 fullShare h) -∗ K ⟨⟩))
      ⊢ wp frame (wpE (defs₀ (F := F)) Variants.none c none) E
          (cc0_inproj i a2 w2 a3 w3 a4 w4 a5 w5 a6 w6 a7 w7 a8 w8 a9 w9 a10 w10) K := by
  simp only [cc0_inproj_eq_skeleton]; unfold cc0_inproj_skel
  unfold ins owns
  iintro ⟨⟨⟨%f2, %h2, H2⟩, ⟨%f3, %h3, H3⟩, ⟨%f4, %h4, H4⟩, ⟨%f5, %h5, H5⟩⟩, ⟨%d6, %f6, -, H6⟩, ⟨%f7, %h7, H7⟩, ⟨%d8, %f8, -, H8⟩,
    ⟨%f9, %h9, H9⟩, ⟨%f10, %h10, H10⟩, Hk⟩
  obtain rfl := w2.eq_unread h2; obtain rfl := w3.eq_unread h3; obtain rfl := w4.eq_unread h4; obtain rfl := w5.eq_unread h5
  obtain rfl := w7.eq_unread h7; obtain rfl := w9.eq_unread h9; obtain rfl := w10.eq_unread h10
  sl_exec (disch := sl_exact hc)
  sl_step
  iapply Hk
  isplitl [H2 H3 H4 H5]
  · isplitl [H2]
    · iexists _; isplitr; · ipureintro; exact w2.read_unread _
      iexact H2
    isplitl [H3]
    · iexists _; isplitr; · ipureintro; exact w3.read_unread _
      iexact H3
    isplitl [H4]
    · iexists _; isplitr; · ipureintro; exact w4.read_unread _
      iexact H4
    iexists _; isplitr; · ipureintro; exact w5.read_unread _
    iexact H5
  isplitl [H6]
  · iexists _; isplitr; swap; · iexact H6
    ipureintro
    sl_unfold_words
    refine (read_stored (s := S512x1024) _ _ zeros _ _).trans ?_
    simp only [View.readAt_eq_ld, w4.read_unread, w10.read_unread, View.ld_unit_zero (S := S512x2048) zeros,
      View.ld_unit_zero (S := S1024x2048) zeros]
  isplitl [H7]
  · iexists _; isplitr; · ipureintro; exact w7.read_unread _
    iexact H7
  isplitl [H8]
  · iexists _; isplitr; swap; · iexact H8
    ipureintro
    sl_unfold_words
    refine (read_stored (s := S1024x2048) _ _ zeros _ _).trans ?_
    simp only [View.readAt_eq_ld, w4.read_unread, w10.read_unread, View.ld_unit_zero (S := S512x2048) zeros,
      View.ld_unit_zero (S := S1024x2048) zeros]
  isplitl [H9]
  · iexists _; isplitr; · ipureintro; exact w9.read_unread _
    iexact H9
  iexists _; isplitr; · ipureintro; exact w10.read_unread _
  iexact H10

end Body

end Cert.InSRun
-- ==== Proof.InSValue.lean ====
/-
  The sample's input projection at the extended reals: what the tiled kernel computes at a grid point, and what the
  reference computes on the host, entry by entry, in the same words.
-/
module

public import proofs.«01_k».proof.Defs
public import proofs.«01_k».proof.Proof.InSRun
public import proofs.«01_k».proof.Proof.InValue
public import proofs.«01_k».proof.Proof.Gen.ReferenceInSIdeal.Run
public import Idealize.ShloMosaic.Lib.MatmulPlain
public import Idealize.ShloMosaic.Lib.KernelVsHost
public import Idealize.ShloMosaic.PureOps.Ideal.Laws

@[expose] public section

set_option maxRecDepth 16384

noncomputable section

open Idealize.ShloMosaic Idealize.ShloMosaic.TcCoe Idealize.SL.Sem Idealize.ShloMosaic.ValueIdx
open scoped BigOperators

namespace Cert.InSValue

open Cert.InValue (scaled)

/-! ## The results in plain words -/

section Plain

variable (x : (⟨2, ![512, 2048]⟩ : Shape).Idx → EReal) (g : (⟨2, ![1, 2048]⟩ : Shape).Idx → EReal)
  (w : (⟨2, ![2048, 10288]⟩ : Shape).Idx → EReal)

/-- One entry of the projection: the normalised row against a column of the weight. -/
def dot (R : Fin 512) (C : Fin 10288) : EReal :=
  ∑ k : Fin 2048, scaled (fun q => x (ix2 R q)) (fun q => g (ix2 0 q)) k * w (ix2 k C)

/-- The weight's column that stands at a column of the projection after the columns are put in the later calls' order. -/
def src (C : Fin 10240) : Fin 10288 :=
  ⟨if C.val < 6144 then C.val + 2048 else if C.val < 8192 then C.val - 6144 else C.val, by have := C.isLt; split <;> [omega; split <;> omega]⟩

/-- Column `q` of the `dt` columns, in the weight. -/
abbrev dtCol (q : Fin 128) (h : q.val < 48) : Fin 10288 := ⟨10240 + q.val, by omega⟩

/-- The projection in the later calls' order, -/
def main : (⟨2, ![512, 10240]⟩ : Shape).Idx → EReal := fun i => dot x g w (i 0) (src (i 1))

/-- its `dt` columns, zero past the 48 of them, -/
def dt : (⟨2, ![512, 128]⟩ : Shape).Idx → EReal := fun i => if h : (i 1).val < 48 then dot x g w (i 0) (dtCol (i 1) h) else 0

/-- the weight transposed in the same order, -/
def wm : (⟨2, ![10240, 2048]⟩ : Shape).Idx → EReal := fun i => w (ix2 (i 1) (src (i 0)))

/-- and its `dt` rows, zero past the 48 of them. -/
def wd : (⟨2, ![128, 2048]⟩ : Shape).Idx → EReal := fun i => if h : (i 0).val < 48 then w (ix2 (i 1) (dtCol (i 0) h)) else 0

end Plain

/-! ## The reference -/

section Ref
open Cert.ReferenceInSIdeal Cert.ReferenceInSIdeal.Gen Cert.ReferenceInSIdeal.Read

variable (x : (⟨2, ![512, 2048]⟩ : Shape).Idx → EReal) (g : (⟨2, ![1, 2048]⟩ : Shape).Idx → EReal)
  (w : (⟨2, ![2048, 10288]⟩ : Shape).Idx → EReal)

/-- The reference's normalised rows. -/
theorem ref_scaled (R : Fin 512) (q : Fin 2048) :
    val_main_v11 (F := Ideal) x g (ix2 R q) = scaled (fun q => x (ix2 R q)) (fun q => g (ix2 0 q)) q := by
  rw [val_main_v11_apply, val_main_v9_apply, val_main_v10_apply, val_main_v8_apply, val_main_v7_apply, val_main_v6_apply,
    val_main_v5_apply, val_main_v4_apply, val_main_v3_apply, val_main_v2_apply, val_main_v1_apply, val_main_cst_1_apply,
    val_main_cst_0_apply, val_main_cst_apply]
  simp only [Ideal.mulf_def, Ideal.addf_def, Ideal.hostDivf_def, Ideal.hostUnary_rsqrt_def, Ideal.ofBits_def, Ideal.ofBits_zero_f32,
    zero_add]
  have hs : ∀ k : Fin 2048, val_main_v0 (F := Ideal) x (idx_main_v1 (idx_main_v2 (idx_main_v8 (ix2 R q))) k)
      = x (ix2 R k) * x (ix2 R k) := fun k => by
    rw [show idx_main_v1 (idx_main_v2 (idx_main_v8 (ix2 R q))) k = ix2 R k from
      funext fun d => by match d with | ⟨0, _⟩ => rfl | ⟨1, _⟩ => rfl, val_main_v0_apply]
    rfl
  rw [Finset.sum_congr rfl fun k _ => hs k]
  exact congrArg _ (congrArg g (funext fun d => by match d with | ⟨0, _⟩ => rfl | ⟨1, _⟩ => rfl))

/-- The reference's projection before its columns are split. -/
theorem ref_dot (i : S512x10288.Idx) : val_main_v12 (F := Ideal) x g w i = dot x g w (i 0) (i 1) := by
  obtain ⟨R, C, rfl⟩ : ∃ (R : Fin 512) (C : Fin 10288), i = ix2 R C := ⟨i 0, i 1, eq_ix2 i⟩
  refine (val_main_v12_apply x g w (ix2 R C)).trans (Finset.sum_congr rfl fun k _ => ?_)
  rw [show lidx_main_v12 (ix2 R C) k = ix2 R k from funext fun d => by match d with | ⟨0, _⟩ => rfl | ⟨1, _⟩ => rfl, ref_scaled]
  exact congrArg (_ * ·) (congrArg w (funext fun d => by match d with | ⟨0, _⟩ => rfl | ⟨1, _⟩ => rfl))

/-- The reference's weight, transposed. -/
theorem ref_wt (i : S10288x2048.Idx) : val_main_v21 (F := Ideal) w i = w (ix2 (i 1) (i 0)) :=
  (val_main_v21_apply (F := Ideal) w i).trans (congrArg w (funext fun d => by match d with | ⟨0, _⟩ => rfl | ⟨1, _⟩ => rfl))

/-- The reference's five column blocks put together. -/
theorem ref_main : val_main_v26 (F := Ideal) x g w = main x g w := by
  funext i
  obtain ⟨R, C, rfl⟩ : ∃ (R : Fin 512) (C : Fin 10240), i = ix2 R C := ⟨i 0, i 1, eq_ix2 i⟩
  rw [val_main_v26_apply]
  show val_main_v20 (F := Ideal) x g w (ix2 R C) = dot x g w R (src C)
  have hC := C.isLt
  unfold val_main_v20
  by_cases h1 : C.val < 3072
  · refine (concatenate_apply_piece (t := S512x10240) 1 _ _ (ix2 R C) 0 (by simp only [List.length]; decide) S512x3072 _ rfl rfl 0 rfl (ix2 R ⟨C.val, by omega⟩)
      (fun b hb => by match b with | ⟨0, _⟩ => rfl | ⟨1, _⟩ => exact absurd rfl hb) (by show 0 + C.val = C.val; omega)).trans ?_
    rw [val_main_v15_apply, ref_dot]
    exact congrArg (dot x g w R) (Fin.ext (by show 2048 + C.val = if _ then _ else _; rw [if_pos (by omega)]; omega))
  by_cases h2 : C.val < 6144
  · refine (concatenate_apply_piece (t := S512x10240) 1 _ _ (ix2 R C) 1 (by simp only [List.length]; decide) S512x3072 _ rfl rfl 3072 rfl (ix2 R ⟨C.val - 3072, by omega⟩)
      (fun b hb => by match b with | ⟨0, _⟩ => rfl | ⟨1, _⟩ => exact absurd rfl hb) (by show 3072 + (C.val - 3072) = C.val; omega)).trans ?_
    rw [val_main_v18_apply, val_main_v16_apply, ref_dot]
    exact congrArg (dot x g w R) (Fin.ext (by show 5120 + (C.val - 3072) = if _ then _ else _; rw [if_pos (by omega)]; omega))
  by_cases h3 : C.val < 7168
  · refine (concatenate_apply_piece (t := S512x10240) 1 _ _ (ix2 R C) 2 (by simp only [List.length]; decide) S512x1024 _ rfl rfl 6144 rfl (ix2 R ⟨C.val - 6144, by omega⟩)
      (fun b hb => by match b with | ⟨0, _⟩ => rfl | ⟨1, _⟩ => exact absurd rfl hb) (by show 6144 + (C.val - 6144) = C.val; omega)).trans ?_
    rw [val_main_v13_apply, ref_dot]
    exact congrArg (dot x g w R) (Fin.ext (by
      show C.val - 6144 = if _ then _ else if _ then _ else _; rw [if_neg (by omega), if_pos (by omega)]))
  by_cases h4 : C.val < 8192
  · refine (concatenate_apply_piece (t := S512x10240) 1 _ _ (ix2 R C) 3 (by simp only [List.length]; decide) S512x1024 _ rfl rfl 7168 rfl (ix2 R ⟨C.val - 7168, by omega⟩)
      (fun b hb => by match b with | ⟨0, _⟩ => rfl | ⟨1, _⟩ => exact absurd rfl hb) (by show 7168 + (C.val - 7168) = C.val; omega)).trans ?_
    rw [val_main_v14_apply, ref_dot]
    exact congrArg (dot x g w R) (Fin.ext (by
      show 1024 + (C.val - 7168) = if _ then _ else if _ then _ else _; rw [if_neg (by omega), if_pos (by omega)]; omega))
  · refine (concatenate_apply_piece (t := S512x10240) 1 _ _ (ix2 R C) 4 (by simp only [List.length]; decide) S512x2048 _ rfl rfl 8192 rfl (ix2 R ⟨C.val - 8192, by omega⟩)
      (fun b hb => by match b with | ⟨0, _⟩ => rfl | ⟨1, _⟩ => exact absurd rfl hb) (by show 8192 + (C.val - 8192) = C.val; omega)).trans ?_
    rw [val_main_v19_apply, val_main_v16_apply, ref_dot]
    exact congrArg (dot x g w R) (Fin.ext (by
      show 5120 + (3072 + (C.val - 8192)) = if _ then _ else if _ then _ else _; rw [if_neg (by omega), if_neg (by omega)]; omega))

/-- The reference's three row blocks of the transposed weight put together. -/
theorem ref_wm : val_main_v28 (F := Ideal) w = wm w := by
  funext i
  obtain ⟨C, k, rfl⟩ : ∃ (C : Fin 10240) (k : Fin 2048), i = ix2 C k := ⟨i 0, i 1, eq_ix2 i⟩
  rw [val_main_v28_apply]
  show val_main_v25 (F := Ideal) w (ix2 C k) = w (ix2 k (src C))
  have hC := C.isLt
  unfold val_main_v25
  by_cases h1 : C.val < 6144
  · refine (concatenate_apply_piece (t := S10240x2048) 0 _ _ (ix2 C k) 0 (by simp only [List.length]; decide) S6144x2048 _ rfl rfl 0 rfl (ix2 ⟨C.val, by omega⟩ k)
      (fun b hb => by match b with | ⟨0, _⟩ => exact absurd rfl hb | ⟨1, _⟩ => rfl) (by show 0 + C.val = C.val; omega)).trans ?_
    rw [val_main_v22_apply, ref_wt]
    exact congrArg (fun c => w (ix2 k c)) (Fin.ext (by show 2048 + C.val = if _ then _ else _; rw [if_pos (by omega)]; omega))
  by_cases h2 : C.val < 8192
  · refine (concatenate_apply_piece (t := S10240x2048) 0 _ _ (ix2 C k) 1 (by simp only [List.length]; decide) S2048x2048 _ rfl rfl 6144 rfl (ix2 ⟨C.val - 6144, by omega⟩ k)
      (fun b hb => by match b with | ⟨0, _⟩ => exact absurd rfl hb | ⟨1, _⟩ => rfl) (by show 6144 + (C.val - 6144) = C.val; omega)).trans ?_
    rw [val_main_v23_apply, ref_wt]
    exact congrArg (fun c => w (ix2 k c)) (Fin.ext (by
      show C.val - 6144 = if _ then _ else if _ then _ else _; rw [if_neg (by omega), if_pos (by omega)]))
  · refine (concatenate_apply_piece (t := S10240x2048) 0 _ _ (ix2 C k) 2 (by simp only [List.length]; decide) S2048x2048 _ rfl rfl 8192 rfl (ix2 ⟨C.val - 8192, by omega⟩ k)
      (fun b hb => by match b with | ⟨0, _⟩ => exact absurd rfl hb | ⟨1, _⟩ => rfl) (by show 8192 + (C.val - 8192) = C.val; omega)).trans ?_
    rw [val_main_v24_apply, ref_wt]
    exact congrArg (fun c => w (ix2 k c)) (Fin.ext (by
      show 8192 + (C.val - 8192) = if _ then _ else if _ then _ else _; rw [if_neg (by omega), if_neg (by omega)]; omega))

/-- The padding value is zero. -/
theorem pad_zero (i : S_.Idx) : val_main_call0_v0 (F := Ideal) i = 0 := by
  show (((0#32 : BitVec 32).toInt : ℝ) : EReal) = 0
  rw [show (0#32 : BitVec 32).toInt = 0 from by decide]; simp

/-- The reference's `dt` columns, padded. -/
theorem ref_dt : val_main_v27 (F := Ideal) x g w = dt x g w := by
  funext i
  obtain ⟨R, q, rfl⟩ : ∃ (R : Fin 512) (q : Fin 128), i = ix2 R q := ⟨i 0, i 1, eq_ix2 i⟩
  unfold val_main_v27 dt
  by_cases h : q.val < 48
  · rw [dif_pos (show ((ix2 R q) 1).val < 48 from h)]
    refine (pad_apply_of_inside _ _ _ _ _ _ _ (ix2 R q) (ix2 R ⟨q.val, h⟩) (fun a => by
      match a with
      | ⟨0, _⟩ => show R.val = 0 + R.val * 1; omega
      | ⟨1, _⟩ => show q.val = 0 + q.val * 1; omega)).trans ?_
    rw [val_main_v17_apply, ref_dot]
    rfl
  · rw [dif_neg (show ¬((ix2 R q) 1).val < 48 from h)]
    refine (pad_apply_of_not_inside _ _ _ _ _ _ _ (ix2 R q) 1 (fun ⟨_, _, h3⟩ => h (by
      have h3' : (q.val - 0) / (0 + 1) < 48 := h3
      omega))).trans (pad_zero _)

/-- The reference's `dt` rows of the weight, padded. -/
theorem ref_wd : val_main_v31 (F := Ideal) w = wd w := by
  funext i
  obtain ⟨q, k, rfl⟩ : ∃ (q : Fin 128) (k : Fin 2048), i = ix2 q k := ⟨i 0, i 1, eq_ix2 i⟩
  rw [val_main_v31_apply]
  show val_main_v30 (F := Ideal) w (ix2 q k) = _
  unfold val_main_v30 wd
  by_cases h : q.val < 48
  · rw [dif_pos (show ((ix2 q k) 0).val < 48 from h)]
    refine (pad_apply_of_inside _ _ _ _ _ _ _ (ix2 q k) (ix2 ⟨q.val, h⟩ k) (fun a => by
      match a with
      | ⟨0, _⟩ => show q.val = 0 + q.val * 1; omega
      | ⟨1, _⟩ => show k.val = 0 + k.val * 1; omega)).trans ?_
    rw [val_main_v29_apply, ref_wt]
    rfl
  · rw [dif_neg (show ¬((ix2 q k) 0).val < 48 from h)]
    refine (pad_apply_of_not_inside _ _ _ _ _ _ _ (ix2 q k) 0 (fun ⟨_, _, h3⟩ => h (by
      have h3' : (q.val - 0) / (0 + 1) < 48 := h3
      omega))).trans (pad_zero _)

end Ref

/-! ## The kernel's payloads -/

section Ker
open Cert.KernelInSIdeal Cert.KernelInSIdeal.Gen

/-- The normalised block. -/
theorem norm_apply (x : Vec Ideal S512x2048 .f32) (g : Vec Ideal S1x2048 .f32) (r : Fin 512) (q : Fin 2048) :
    k0_pay1 (F := Ideal) x g (ix2 r q) = scaled (fun q => x (ix2 r q)) (fun q => g (ix2 0 q)) q := by
  unfold k0_pay1
  dsimp only
  show mulf (F := Ideal) (φ := .f32) _ _ (ix2 r q) = _
  rw [mulf_apply, mulf_apply]
  unfold scaled
  refine congrArg₂ (· * ·) (congrArg (x (ix2 r q) * ·) ?_) ?_
  · refine (broadcastTo_apply _ _ (ix2 r q) (ix2 r 0) (fun d => by match d with | ⟨0, _⟩ => rfl | ⟨1, _⟩ => rfl)).trans ?_
    show Ideal.rsqrt (Ideal.div _ _ + _) = _
    refine congrArg Ideal.rsqrt (congrArg₂ (· + ·) (congrArg₂ Ideal.div ?_ rfl) rfl)
    refine (shapeCast_apply _ _ (ix2 r 0) (ix1 r) ?_).trans ?_
    · rfl
    refine (Ideal.multiReduction_add_single _ _ _ _ _ _).trans ?_
    refine Finset.sum_congr rfl fun k _ => ?_
    rw [mulf_apply]
    rw [show (reduces_S512x2048_S512 : S512x2048.Reduces [1] S512).lift (ix1 r) k = ix2 r k from
      funext fun d => by match d with | ⟨0, _⟩ => rfl | ⟨1, _⟩ => rfl]
    rfl
  · exact broadcastTo_apply _ _ (ix2 r q) (ix2 0 q) (fun d => by match d with | ⟨0, _⟩ => rfl | ⟨1, _⟩ => rfl)

/-- The same block as kept in the scratch buffer. -/
theorem kept_apply (x : Vec Ideal S512x2048 .f32) (g : Vec Ideal S1x2048 .f32) (r : Fin 512) (q : Fin 2048) :
    k0_pay2 (F := Ideal) x g (ix2 r q) = scaled (fun q => x (ix2 r q)) (fun q => g (ix2 0 q)) q := by
  unfold k0_pay2
  rw [shapeCast_self]
  exact norm_apply x g r q

/-- The rounded weight block is the block. -/
theorem rounded_apply (w : Vec Ideal S1024x2048 .f32) (q : Fin 1024) (k : Fin 2048) :
    k0_pay5 (F := Ideal) w (ix2 q k) = w (ix2 q k) := by
  unfold k0_pay5
  rw [shapeCast_self]
  rfl

/-- The block of the projection, from the kept rows. -/
theorem block_apply (w : Vec Ideal S1024x2048 .f32) (h : Vec Ideal S512x2048 .bf16) (r : Fin 512) (q : Fin 1024) :
    k0_pay6 (F := Ideal) w h (ix2 r q) = ∑ k : Fin 2048, h (ix2 r k) * w (ix2 q k) := by
  unfold k0_pay6
  show matmul (F := Ideal) (φ₁ := .bf16) (φ₂ := .bf16) (DotDims.transposedRhs 512 2048 1024) none h (k0_pay5 (F := Ideal) w) (constant S512x1024 .f32 0x00000000#32) (ix2 r q) = _
  refine (Ideal.matmul_transposedRhs_apply (M := 512) (K := 2048) (N := 1024) (φ₁ := .bf16) (φ₂ := .bf16) none h (k0_pay5 (F := Ideal) w) _ r q).trans ?_
  rw [constant_apply, Ideal.ofBits_zero_f32, zero_add]
  exact Finset.sum_congr rfl fun k _ => congrArg (_ * ·) (rounded_apply w q k)

/-- The masked `dt` weight. -/
theorem masked_apply (wd : Vec Ideal S128x2048 .f32) (q : Fin 128) (k : Fin 2048) :
    k0_pay3 (F := Ideal) wd (ix2 q k) = if q.val < 48 then wd (ix2 q k) else 0 := by
  unfold k0_pay3
  dsimp only
  show select _ _ _ (ix2 q k) = _
  rw [shapeCast_self, select_apply, Cert.InSRun.mask_apply]
  by_cases h : q.val < 48
  · rw [if_pos h, if_pos (show ((ix2 q k) 0).val < 48 from h)]; rfl
  · rw [if_neg h, if_neg (show ¬((ix2 q k) 0).val < 48 from h)]
    exact Ideal.ofBits_zero_f32

/-- The `dt` block. -/
theorem dt_apply (x : Vec Ideal S512x2048 .f32) (g : Vec Ideal S1x2048 .f32) (wd : Vec Ideal S128x2048 .f32) (r : Fin 512)
    (q : Fin 128) : k0_pay4 (F := Ideal) x g wd (ix2 r q)
      = ∑ k : Fin 2048, scaled (fun q => x (ix2 r q)) (fun q => g (ix2 0 q)) k * (if q.val < 48 then wd (ix2 q k) else 0) := by
  unfold k0_pay4
  refine (Ideal.matmul_transposedRhs_apply (M := 512) (K := 2048) (N := 128) none (k0_pay1 (F := Ideal) x g) (k0_pay3 (F := Ideal) wd) _ r q).trans ?_
  rw [constant_apply, Ideal.ofBits_zero_f32, zero_add]
  exact Finset.sum_congr rfl fun k _ => congrArg₂ (fun a b : EReal => a * b) (norm_apply x g r k) (masked_apply wd q k)

end Ker

end Cert.InSValue
-- ==== Proof.InSLaunch.lean ====
/-
  The launch of the sample's input projection: what every buffer holds at every grid point, the body's triple at the
  point, and the run of the whole program, stated at any scalar values. The `dt` weight's staging buffer is described on
  the rows inside the array only; what the body stores does not read the others.
-/
module

public import proofs.«01_k».proof.Proof.InSRun
public import Idealize.ShloMosaic.Lib.Claim

@[expose] public section

set_option maxRecDepth 16384

noncomputable section

namespace Cert.InSRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)
open Cert.KernelInSIdeal Cert.KernelInSIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem points : cfg0.N = 10 := N_0

/-- The first grid point. -/
abbrev start : Fin cfg0.N := t0_0

/-- The body's branch is taken exactly there. -/
theorem taken : ∀ t : Fin cfg0.N, k0_cond1 (grid0.coords t) = 1#1 ↔ t.val = 0 :=
  (by decide +kernel : ∀ t : Fin grid0.N, k0_cond1 (grid0.coords t) = 1#1 ↔ t.val = 0)

/-- The two windows written at the first point only are live exactly there. -/
theorem live_dt : ∀ t : Fin cfg0.N, cfg0.idle 5 (grid0.coords t) = !decide (t.val = 0) :=
  (by decide +kernel : ∀ t : Fin grid0.N, idle0 5 (grid0.coords t) = !decide (t.val = 0))
theorem live_wd : ∀ t : Fin cfg0.N, cfg0.idle 7 (grid0.coords t) = !decide (t.val = 0) :=
  (by decide +kernel : ∀ t : Fin grid0.N, idle0 7 (grid0.coords t) = !decide (t.val = 0))

/-- A window live at the first point only and written back at the last one holds what was stored at every later point. -/
theorem stale (w : Fin cfg0.W) (hlive : ∀ t : Fin cfg0.N, cfg0.idle w (grid0.coords t) = !decide (t.val = 0))
    (hflush : ∀ t : Fin cfg0.N, (cfg0.win w).flush t = true ↔ t.val % 10 = 9) :
    ∀ t : Fin cfg0.N, ¬t.val = 0 → cfg0.fresh w t.val = false := by
  have key : ∀ n : ℕ, ∀ hn : n < cfg0.N, ¬n = 0 → cfg0.fresh w n = false := by
    intro n
    induction n with
    | zero => intro _ h; exact absurd rfl h
    | succ n ih =>
      intro hn h
      have hN := points
      have hn' : n < cfg0.N := by omega
      rw [Pipeline.Cfg.fresh_succ cfg0 w n hn']
      have hfl : (cfg0.win w).flush ⟨n, hn'⟩ = false := by
        rw [Bool.eq_false_iff]; intro hf; have := (hflush ⟨n, hn'⟩).mp hf; simp only at this; omega
      rw [hfl]
      by_cases h0 : n = 0
      · have := hlive ⟨n, hn'⟩
        simp only [h0, decide_true, Bool.not_true] at this
        subst h0
        rw [show cfg0.idle w (cfg0.grid.coords ⟨0, hn'⟩) = false from this]; rfl
      · rw [ih hn' h0]; simp
  exact fun t h => key t.val t.isLt h

/-! ## The `dt` weight's window -/

/-- What stands for the rows past the array's end. -/
def unknown : (cfg0.win 3).block.Idx → Elt F (cfg0.win 3).elt := fun _ => Classical.choice inferInstance

/-- Its staging buffer, over anything on the rows past the array's end. -/
def wdOver (c : Dev nD) (t : Fin cfg0.N) (d : (cfg0.win 3).block.Idx → Elt F (cfg0.win 3).elt) : Vec F S128x2048 .f32 :=
  (cfg0.win 3).fill (cfg0.grid.coords t) d (iblk m c 3 t)

/-- A transfer moves the 48 rows inside the array, whole. -/
theorem moved_rows : ∀ t : Fin cfg0.N, ∀ a, (cfg0.win 3).xsize (cfg0.grid.coords t) a = (![48, 2048] : Fin 2 → ℕ) a :=
  (by decide +kernel : ∀ t : Fin grid0.N, ∀ a, win0_3.xsize (grid0.coords t) a = (![48, 2048] : Fin 2 → ℕ) a)

theorem moved_in (t : Fin cfg0.N) (j : S128x2048.Idx) (h : (j 0).val < 48) : (cfg0.win 3).moved (cfg0.grid.coords t) j = true :=
  ((cfg0.win 3).moved_iff _ j).mpr fun a => by
    rw [moved_rows t a]
    match a with
    | ⟨0, _⟩ => exact h
    | ⟨1, _⟩ => exact (j 1).isLt

/-- Those rows do not depend on what fills the others. -/
theorem wdOver_in (c : Dev nD) (t : Fin cfg0.N) (d d' : (cfg0.win 3).block.Idx → Elt F (cfg0.win 3).elt) (j : S128x2048.Idx)
    (h : (j 0).val < 48) : wdOver m c t d j = wdOver m c t d' j := by
  unfold wdOver Pipeline.Window.fill; rw [dif_pos (moved_in t j h), dif_pos (moved_in t j h)]

/-! ## What the buffers hold -/

/-- The normalised rows. -/
def rows (c : Dev nD) : Vec F S512x2048 .bf16 := k0_pay2 (iblk m c 0 start) (iblk m c 1 start)

/-- Their `dt` block. -/
def dtBlock (c : Dev nD) : Vec F S512x128 .f32 := k0_pay4 (iblk m c 0 start) (iblk m c 1 start) (wdOver m c start unknown)

/-- The rounded `dt` weight. -/
def wdBlock (c : Dev nD) : Vec F S128x2048 .bf16 := k0_pay3 (wdOver m c start unknown)

/-- The rounded block of the weight at point `t`. -/
def wBlock (c : Dev nD) (t : Fin cfg0.N) : Vec F S1024x2048 .bf16 := k0_pay5 (X0_2 m c t)

/-- The block of the projection at point `t`. -/
def block (c : Dev nD) (t : Fin cfg0.N) : Vec F S512x1024 .bf16 := k0_pay6 (X0_2 m c t) (rows m c)

/-- The scratch buffer of the normalised rows. -/
abbrev scratch : Memref sig .tc .vmem S512x2048 .bf16 := Memref.whole cc0_scratch0

/-- The invariant before position `n`: the scratch at anything before the first point, then at the normalised rows. -/
def Inv (c : Dev nD) : ℕ → sProp 𝕄
  | 0 => Pipeline.ΦA spec0 c
  | _ + 1 => iprop(owns (c : Thread nD τ) scratch fullShare (rows m c) ∗ (∃ r, prngReg c r))

/-- The launch's invariant, its scratch as a buffer at some contents. -/
theorem inv_open (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

/-- At a later position the scratch holds the rows. -/
theorem inv_later (c : Dev nD) (n : ℕ) (h : ¬n = 0) :
    Inv m c n = iprop(owns (c : Thread nD τ) scratch fullShare (rows m c) ∗ (∃ r, prngReg c r)) := by
  cases n with
  | zero => exact absurd rfl h
  | succ n => rfl

/-- Whatever the position, the scratch is a buffer at some contents. -/
theorem inv_some (c : Dev nD) (n : ℕ) :
    Inv m c n ⊢ iprop((∃ d, owns (c : Thread nD τ) scratch fullShare d) ∗ (∃ r, prngReg c r)) := by
  cases n with
  | zero => rw [← inv_open]; exact Idealize.SL.BI.Entails.refl _
  | succ n =>
    rw [inv_later m c _ (Nat.succ_ne_zero n)]
    iintro ⟨H, Hg⟩
    isplitl [H]; · iexists _; iexact H
    iexact Hg

/-- The proof data of the call: inputs left at their blocks, the outputs at what the body stores, each input's share the
    one dealt to it (the weight and the `dt` weight are two windows on one array). -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => wdOver m c t unknown
    | ⟨4, _⟩ => block m c t
    | ⟨5, _⟩ => dtBlock m c
    | ⟨6, _⟩ => wBlock m c t
    | ⟨7, _⟩ => wdBlock m c
  Φ t := Inv m c t.val
  q w := Pipeline.shareOf spec0 w
  owed _ := 0

theorem data_A (c : Dev nD) (w : Fin cfg0.W) : (data m 0 c).A w = V m c (Pipeline.arrRef spec0 w) := by dsimp only [data]

theorem data_inv (c : Dev nD) (t : Fin cfg0.N) : (data m 0 c).Φ t.castSucc = Inv m c t.val := by
  dsimp only [data]; exact congrArg (Inv m c) (Fin.val_castSucc t)

theorem after_x (c : Dev nD) (t : Fin cfg0.N) : (data m 0 c).after 0 t = iblk m c 0 t := by dsimp only [data]
theorem after_g (c : Dev nD) (t : Fin cfg0.N) : (data m 0 c).after 1 t = iblk m c 1 t := by dsimp only [data]
theorem after_w (c : Dev nD) (t : Fin cfg0.N) : (data m 0 c).after 2 t = X0_2 m c t := by dsimp only [data]
theorem after_wd (c : Dev nD) (t : Fin cfg0.N) : (data m 0 c).after 3 t = wdOver m c t unknown := by dsimp only [data]
theorem after_o (c : Dev nD) (t : Fin cfg0.N) : (data m 0 c).after 4 t = block m c t := by dsimp only [data]
theorem after_dt (c : Dev nD) (t : Fin cfg0.N) : (data m 0 c).after 5 t = dtBlock m c := by dsimp only [data]
theorem after_wb (c : Dev nD) (t : Fin cfg0.N) : (data m 0 c).after 6 t = wBlock m c t := by dsimp only [data]
theorem after_wdb (c : Dev nD) (t : Fin cfg0.N) : (data m 0 c).after 7 t = wdBlock m c := by dsimp only [data]

/-- The body finds the `dt` weight's rows inside the array in their staging buffer, fetched at the point or kept. -/
theorem before_wd (c : Dev nD) (t : Fin cfg0.N) (d) : (data m 0 c).before 3 t d = wdOver m c t d :=
  ((data m 0 c).before_in_eq_fetched 3 rfl (fun _ => rfl)
      (fun t t' h => funext fun a => congrArg (fun n => Pipeline.Clip.of n ((cfg0.win 3).size a) (S10288x2048.size a)) (congrFun h a))
      (fun t => by rw [after_wd]; unfold wdOver; rw [Pipeline.Window.cut_fill]; unfold Dat.blockOf iblk; rw [data_A]) t d).trans
    (by unfold Dat.fetched wdOver Dat.blockOf iblk; rw [data_A])

/-- Leaving that buffer as found is all that is asked of it. -/
theorem leaves_wd (c : Dev nD) (t : Fin cfg0.N) (d) :
    owns (c : Thread nD τ) (st0_3 t) fullShare (wdOver m c t d) ⊢ ((data m 0 c).leaves 3 t : sProp 𝕄) := by
  rw [show (data m 0 c).leaves 3 t = iprop(∃ d, owns (c : Thread nD τ) (st0_3 t) fullShare
      ((cfg0.win 3).fill (cfg0.grid.coords t) d ((cfg0.win 3).cut (cfg0.grid.coords t) ((data m 0 c).after 3 t)))) from rfl, after_wd]
  iintro H
  iexists d
  unfold wdOver
  rw [Pipeline.Window.cut_fill]
  iexact H

/-- At a later point the body finds the `dt` block in the `dt` buffer, -/
theorem before_dt (c : Dev nD) (t : Fin cfg0.N) (h : ¬t.val = 0) (d) : (data m 0 c).before 5 t d = dtBlock m c := by
  rw [(data m 0 c).before_out_traj 5 rfl (fun _ _ => rfl) (fun t ht hi _ => by rw [after_dt, after_dt]) t.val t rfl d,
    stale 5 live_dt flush0_5 t h, if_neg Bool.false_ne_true, after_dt]

/-- and the rounded `dt` weight in its buffer. -/
theorem before_wdb (c : Dev nD) (t : Fin cfg0.N) (h : ¬t.val = 0) (d) : (data m 0 c).before 7 t d = wdBlock m c := by
  rw [(data m 0 c).before_out_traj 7 rfl (fun _ _ => rfl) (fun t ht hi _ => by rw [after_wdb, after_wdb]) t.val t rfl d,
    stale 7 live_wd flush0_7 t h, if_neg Bool.false_ne_true, after_wdb]

/-- A `dt` buffer at the `dt` block is what the point leaves, stored or not, written back or not; -/
theorem leaves_dt (c : Dev nD) (t : Fin cfg0.N) :
    owns (c : Thread nD τ) (st0_5 t) fullShare (dtBlock m c) ⊢ ((data m 0 c).leaves 5 t : sProp 𝕄) := by
  refine BIBase.Entails.trans ?_ (Pipeline.Dat.leaves_intro (data m 0 c) 5 t)
  by_cases h0 : t.val = 0
  · have hi : cfg0.idle 5 (cfg0.grid.coords t) = false := (live_dt t).trans (by simp [h0])
    unfold Dat.leavesExact
    rw [hi, after_dt]
  · have hi : cfg0.idle 5 (cfg0.grid.coords t) = true := (live_dt t).trans (by simp [h0])
    cases hf : (cfg0.win 5).flush t with
    | false =>
      rw [Dat.leavesExact_idle _ 5 t hi hf]
      iintro H
      iexists (dtBlock m c)
      rw [before_dt m c t h0]
      iexact H
    | true =>
      unfold Dat.leavesExact
      rw [hi, hf, after_dt]

/-- so is its own buffer at the rounded `dt` weight. -/
theorem leaves_wdb (c : Dev nD) (t : Fin cfg0.N) :
    owns (c : Thread nD τ) (st0_7 t) fullShare (wdBlock m c) ⊢ ((data m 0 c).leaves 7 t : sProp 𝕄) := by
  refine BIBase.Entails.trans ?_ (Pipeline.Dat.leaves_intro (data m 0 c) 7 t)
  by_cases h0 : t.val = 0
  · have hi : cfg0.idle 7 (cfg0.grid.coords t) = false := (live_wd t).trans (by simp [h0])
    unfold Dat.leavesExact
    rw [hi, after_wdb]
  · have hi : cfg0.idle 7 (cfg0.grid.coords t) = true := (live_wd t).trans (by simp [h0])
    cases hf : (cfg0.win 7).flush t with
    | false =>
      rw [Dat.leavesExact_idle _ 7 t hi hf]
      iintro H
      iexists (wdBlock m c)
      rw [before_wdb m c t h0]
      iexact H
    | true =>
      unfold Dat.leavesExact
      rw [hi, hf, after_wdb]

/-! ## The body's triple at a point -/

/-- What the body is run on at point `t`, -/
def pre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d)))

/-- and what it leaves. -/
def post (c : Dev nD) (t : Fin cfg0.N) : sProp 𝕄 :=
  iprop((data m 0 c).Φ t.succ ∗ (data m 0 c).owesAt () t.succ
    ∗ (data m 0 c).leaves 0 t ∗ (data m 0 c).leaves 1 t ∗ (data m 0 c).leaves 2 t ∗ (data m 0 c).leaves 3 t
    ∗ (data m 0 c).leaves 4 t ∗ (data m 0 c).leaves 5 t ∗ (data m 0 c).leaves 6 t ∗ (data m 0 c).leaves 7 t)

/-- The weight's buffer is left as found too. -/
theorem leaves_w (c : Dev nD) (t : Fin cfg0.N) :
    owns (c : Thread nD τ) (st0_2 t) fullShare (X0_2 m c t) ⊢ ((data m 0 c).leaves 2 t : sProp 𝕄) := by
  refine BIBase.Entails.trans ?_ (Pipeline.Dat.leaves_intro (data m 0 c) 2 t)
  rw [show (data m 0 c).leavesExact 2 t = owns (c : Thread nD τ) (st0_2 t) fullShare ((data m 0 c).after 2 t) from rfl, after_w]

set_option maxHeartbeats 2000000 in
/-- The body at any point, by the two runs. -/
theorem at_point (c : Dev nD) (t : Fin cfg0.N) :
    pre m c t ⊢ wp frame (wpE (defs₀ (F := F)) Variants.none c none) Set.univ (bodyAt0 t) (fun _ => post m c t) := by
  unfold pre post bodyAt0
  have b0 : ∀ d, (data m 0 c).before 0 t d = iblk m c 0 t := before0_0_of m _ (data_A m c 0) (after_x m c) t
  have b1 : ∀ d, (data m 0 c).before 1 t d = iblk m c 1 t := before0_1_of m _ (data_A m c 1) (after_g m c) t
  have b2 : ∀ d, (data m 0 c).before 2 t d = X0_2 m c t := before0_2_of m _ (data_A m c 2) (after_w m c) t
  simp only [b0, b1, b2, before_wd m c t]
  rw [show (data m 0 c).owesAt () t.succ = (data m 0 c).owesAt () t.castSucc from rfl,
    show (data m 0 c).Φ t.succ = Inv m c (t.val + 1) from rfl, inv_later m c _ (Nat.succ_ne_zero t.val), data_inv]
  rw [show (data m 0 c).leaves 0 t = owns (c : Thread nD τ) (st0_0 t) fullShare (iblk m c 0 t) from rfl,
    show (data m 0 c).leaves 1 t = owns (c : Thread nD τ) (st0_1 t) fullShare (iblk m c 1 t) from rfl,
    show (data m 0 c).leaves 4 t = owns (c : Thread nD τ) (st0_4 t) fullShare (block m c t) from rfl,
    show (data m 0 c).leaves 6 t = owns (c : Thread nD τ) (st0_6 t) fullShare (wBlock m c t) from rfl]
  by_cases h0 : t.val = 0
  · obtain rfl : t = start := Fin.ext h0
    iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HI := inv_some m c _ $$ HI
    icases HI with ⟨HS, Hg⟩
    iapply (run_first c (grid0.coords start) _ _ _ _ _ _ _ _ _ _ _ _ _ _ _ _ _ _ (iblk m c 0 start) (iblk m c 1 start) (X0_2 m c start)
      (wdOver m c start d3) ((taken start).mpr h0) Set.univ _)
    isplitl [H0 H1 H2 H3]
    · unfold ins
      isplitl [H0]; · iexact H0
      isplitl [H1]; · iexact H1
      isplitl [H2]; · iexact H2
      iexact H3
    isplitl [H4]; · iexists _; iexact H4
    isplitl [H5]; · iexists _; iexact H5
    isplitl [H6]; · iexists _; iexact H6
    isplitl [H7]; · iexists _; iexact H7
    isplitl [HS]; · iexact HS
    unfold ins
    iintro ⟨⟨H0, H1, H2, H3⟩, H4, H5, H6, H7, HS⟩
    isplitl [HS Hg]
    · isplitl [HS]; · unfold rows; iexact HS
      iexact Hg
    isplitl [Ho]; · iexact Ho
    isplitl [H0]; · iexact H0
    isplitl [H1]; · iexact H1
    isplitl [H2]; · iapply (leaves_w m c start); iexact H2
    isplitl [H3]; · iapply (leaves_wd m c start d3); iexact H3
    isplitl [H4]; · unfold block rows; iexact H4
    isplitl [H5]
    · iapply (leaves_dt m c start)
      rw [show dtBlock m c = k0_pay4 (iblk m c 0 start) (iblk m c 1 start) (wdOver m c start d3) from
        dt_congr _ _ _ _ (wdOver_in m c start unknown d3)]
      iexact H5
    isplitl [H6]; · unfold wBlock; iexact H6
    iapply (leaves_wdb m c start)
    rw [show wdBlock m c = k0_pay3 (wdOver m c start d3) from masked_congr _ _ (wdOver_in m c start unknown d3)]
    iexact H7
  · rw [inv_later m c _ h0]
    simp only [before_dt m c t h0, before_wdb m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (iblk m c 0 t) (iblk m c 1 t) (X0_2 m c t)
      (wdOver m c t d3) (fun h => h0 ((taken t).mp h)) (dtBlock m c) (wdBlock m c) (rows m c) Set.univ _)
    isplitl [H0 H1 H2 H3]
    · unfold ins
      isplitl [H0]; · iexact H0
      isplitl [H1]; · iexact H1
      isplitl [H2]; · iexact H2
      iexact H3
    isplitl [H4]; · iexists _; iexact H4
    isplitl [H5]; · iexact H5
    isplitl [H6]; · iexists _; iexact H6
    isplitl [H7]; · iexact H7
    isplitl [HS]; · iexact HS
    unfold ins
    iintro ⟨⟨H0, H1, H2, H3⟩, H4, H5, H6, H7, HS⟩
    isplitl [HS Hg]
    · isplitl [HS]; · iexact HS
      iexact Hg
    isplitl [Ho]; · iexact Ho
    isplitl [H0]; · iexact H0
    isplitl [H1]; · iexact H1
    isplitl [H2]; · iapply (leaves_w m c t); iexact H2
    isplitl [H3]; · iapply (leaves_wd m c t d3); iexact H3
    isplitl [H4]; · unfold block; iexact H4
    isplitl [H5]; · iapply (leaves_dt m c t); iexact H5
    isplitl [H6]; · unfold wBlock; iexact H6
    iapply (leaves_wdb m c t); iexact H7

/-! ## The run -/

theorem body (c : Dev nD) : BodyObligationLoose (data (F := F) m 0 c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  exact triple_restated (at_point m c t) rfl .rfl fun _ => .rfl

theorem enter (c : Dev nD) : Pipeline.ΦA spec0 c ⊢ (data m 0 c).Φ 0 := by
  rw [show (data m 0 c).Φ 0 = Pipeline.ΦA spec0 c from rfl]

theorem leave (c : Dev nD) : (data m 0 c).Φ (Fin.last cfg0.N) ⊢ Pipeline.ΦA spec0 c := by
  rw [inv_open, show (data m 0 c).Φ (Fin.last cfg0.N) = Inv m c cfg0.N from rfl]; exact inv_some m c _

-- the launch theorem's implicit arguments are found by unifying its conclusion with this one
set_option backward.isDefEq.respectTransparency.types false in
/-- Every execution terminates with the arrays at what the proof data says and every semaphore at zero. -/
theorem launch : θ_run defs (onTc (τ := τ) (main (F := F))) (s₀ m ρ)
    (fun r => Pipeline.FramePost cfgs (data m) 0 (V m) r ∧ r.2.sem = fun _ => 0) :=
  Pipeline.θ_run_frame_track_shared (Q' := _) cfgs (data m) (0 : Fin 1) launch₀0 defs₀ Variants.none m ρ main
    (hbody := body m) (hq := fun _ _ _ => rfl)
    (howed := fun _ _ => rfl) (V := V m) (hmain := hmain m Variants.none) (hA := data_A m) (hin := enter m) (hout := leave m)

/-- The run without the semaphores. -/
theorem run : θ_run defs (onTc (τ := τ) (main (F := F))) (s₀ m ρ) (Pipeline.FramePost cfgs (data m) 0 (V m)) :=
  (θ_run defs _ _).mono (fun _ h => h.1) (launch m ρ)

/-- The program ends, its arguments as they were and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) (run m ρ)) ((θ_run defs _ _).mono (fun _ h => h.2) (launch m ρ))

end Cert.InSRun
-- ==== Proof.InSClaim.lean ====
/-
  The sample's input projection's claims: the frame of both readings of the kernel by the one run, and the result
  arrays — each grid point writes its block of the projection and of the rounded weight, the first one the `dt` columns
  and their weight, and the blocks tile the arrays.
-/
module

public import proofs.«01_k».proof.Proof.InSValue
public import proofs.«01_k».proof.Proof.InSLaunch
public import proofs.«01_k».proof.Proof.Gen.KernelInS

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.InSValue

open Cert.InValue (scaled)

/-! ## One run for both readings -/

section Bits
variable {F : FTy → Type} [FloatOps F]

/-- The two printed kernels have one table of bodies, -/
theorem bodies_eq : Cert.KernelInS.defs₀ (F := F) = Cert.KernelInSIdeal.defs₀ (F := F) := by
  unfold Cert.KernelInS.defs₀ Cert.KernelInSIdeal.defs₀
  refine congrArg (Defs.onTc (nD := Cert.KernelInS.nD) (τ := Cert.KernelInS.τ) (sig := Cert.KernelInS.sig) (Λ := Cert.KernelInS.Λ₀)) ?_
  funext l p
  match l, p with
  | 0, (t, s) => rfl
  | ⟨_ + 1, h⟩, _ => exact absurd h (Nat.not_lt.2 (Nat.le_add_left _ _))

/-- so one table of definitions. -/
theorem defs_eq : Cert.KernelInS.defs (F := F) = Cert.KernelInSIdeal.defs (F := F) :=
  congrArg (Pipeline.defs Cert.KernelInS.pcfgs) bodies_eq

end Bits

/-- The kernel ends with its arguments as they were and its semaphores at zero, at bit patterns. -/
theorem frame_bits : Cert.quiescent_KernelInS (hKernelInS := Cert.KernelInS.Gen.facts) := fun m ρ _ => by
  rw [defs_eq]
  exact Cert.InSRun.frame (F := Bits) m ρ

section Ker
open Cert.KernelInSIdeal Cert.KernelInSIdeal.Gen Cert.InSRun

variable (m : (ℓ : Loc nD τ sig) → Buf (Elt Ideal) ℓ) (ρ : Dev nD → PrngReg)

/-- The arguments of device `c`, as plain functions. -/
abbrev mX (c : Dev nD) : (⟨2, ![512, 2048]⟩ : Shape).Idx → EReal := m ((c.tc : Thread nD τ).loc main_arg0)
abbrev mG (c : Dev nD) : (⟨2, ![1, 2048]⟩ : Shape).Idx → EReal := m ((c.tc : Thread nD τ).loc main_arg1)
abbrev mW (c : Dev nD) : (⟨2, ![2048, 10288]⟩ : Shape).Idx → EReal := m ((c.tc : Thread nD τ).loc main_arg2)

/-- The region reads the weight transposed. -/
theorem V_main_v0 (c : Dev nD) (i : S10288x2048.Idx) : (V m c main_v0 : S10288x2048.Idx → EReal) i = mW m c (ix2 (i 1) (i 0)) := by
  have e : (V m c main_v0 : S10288x2048.Idx → EReal)
      = transpose S10288x2048 [1, 0] (mW m c) transposes_S2048x10288_S10288x2048_1_0 := by
    unfold V hostOps0
    simp only [StableHlo.after_cons, StableHlo.after_nil]
    exact StableHlo.unary_result _ _ _ _ _ _
  rw [e]
  show mW m c _ = mW m c _
  refine congrArg (mW m c) (funext fun a => ?_)
  match a with
  | ⟨0, _⟩ => rfl
  | ⟨1, _⟩ => rfl

/-- The block indices of the eight windows at every grid point. -/
theorem idx_all : ∀ t : Fin cfg0.N, (win0_0.index t 0 = 0 ∧ win0_0.index t 1 = 0) ∧ (win0_1.index t 0 = 0 ∧ win0_1.index t 1 = 0)
    ∧ (win0_2.index t 0 = (if t.val < 6 then t.val + 2 else if t.val < 8 then t.val - 6 else t.val) ∧ win0_2.index t 1 = 0)
    ∧ (win0_3.index t 0 = 80 ∧ win0_3.index t 1 = 0) ∧ (win0_4.index t 0 = 0 ∧ win0_4.index t 1 = t.val)
    ∧ (win0_5.index t 0 = 0 ∧ win0_5.index t 1 = 0) ∧ (win0_6.index t 0 = t.val ∧ win0_6.index t 1 = 0)
    ∧ (win0_7.index t 0 = 0 ∧ win0_7.index t 1 = 0) :=
  (by decide +kernel : ∀ t : Fin grid0.N, _)

/-- Column `q` of point `t`'s column block is column `1024·t + q` of the projection. -/
abbrev col (t : Fin cfg0.N) (q : Fin 1024) : Fin 10240 :=
  ⟨1024 * t.val + q.val, by have h : t.val < 10 := t.isLt; have := q.isLt; omega⟩

theorem blk0 (c : Dev nD) (t : Fin cfg0.N) (r : Fin 512) (k : Fin 2048) :
    (iblk m c 0 t : S512x2048.Idx → EReal) (ix2 r k) = mX m c (ix2 r k) := by
  obtain ⟨⟨h0, h1⟩, -⟩ := idx_all t
  unfold iblk
  rw [View.read_apply]
  show m _ _ = m _ _
  refine congrArg (m ((c.tc : Thread nD τ).loc main_arg0)) (funext fun a => Fin.ext ?_)
  match a with
  | ⟨0, _⟩ => show win0_0.index t 0 * 512 + 1 * r.val = r.val; rw [h0]; omega
  | ⟨1, _⟩ => show win0_0.index t 1 * 2048 + 1 * k.val = k.val; rw [h1]; omega

theorem blk1 (c : Dev nD) (t : Fin cfg0.N) (k : Fin 2048) :
    (iblk m c 1 t : S1x2048.Idx → EReal) (ix2 0 k) = mG m c (ix2 0 k) := by
  obtain ⟨-, ⟨h0, h1⟩, -⟩ := idx_all t
  unfold iblk
  rw [View.read_apply]
  show m _ _ = m _ _
  refine congrArg (m ((c.tc : Thread nD τ).loc main_arg1)) (funext fun a => Fin.ext ?_)
  match a with
  | ⟨0, _⟩ => show win0_1.index t 0 * 1 + 1 * 0 = 0; rw [h0]
  | ⟨1, _⟩ => show win0_1.index t 1 * 2048 + 1 * k.val = k.val; rw [h1]; omega

/-- The block of the weight that point `t` reads is the one its columns of the projection come from. -/
theorem blk2 (c : Dev nD) (t : Fin cfg0.N) (q : Fin 1024) (k : Fin 2048) :
    (X0_2 m c t : S1024x2048.Idx → EReal) (ix2 q k) = mW m c (ix2 k (src (col t q))) := by
  obtain ⟨-, -, ⟨h0, h1⟩, -⟩ := idx_all t
  unfold X0_2 Pipeline.Window.fill
  rw [dif_pos (moved0_2 t (ix2 q k))]
  unfold iblk
  rw [View.read_apply]
  refine (V_main_v0 m c _).trans (congrArg (mW m c) (funext fun a => Fin.ext ?_))
  have ht : t.val < 10 := t.isLt
  have hq := q.isLt
  match a with
  | ⟨0, _⟩ => show win0_2.index t 1 * 2048 + 1 * k.val = k.val; rw [h1]; omega
  | ⟨1, _⟩ =>
    show win0_2.index t 0 * 1024 + 1 * q.val = if 1024 * t.val + q.val < 6144 then 1024 * t.val + q.val + 2048
      else if 1024 * t.val + q.val < 8192 then 1024 * t.val + q.val - 6144 else 1024 * t.val + q.val
    rw [h0]
    split_ifs <;> omega

/-- The rows of the `dt` weight's block that are inside the array. -/
theorem blk3 (c : Dev nD) (t : Fin cfg0.N) (d : (cfg0.win 3).block.Idx → Elt Ideal (cfg0.win 3).elt) (q : Fin 128) (h : q.val < 48)
    (k : Fin 2048) : (wdOver m c t d : S128x2048.Idx → EReal) (ix2 q k) = mW m c (ix2 k (dtCol q h)) := by
  obtain ⟨-, -, -, ⟨h0, h1⟩, -⟩ := idx_all t
  unfold wdOver Pipeline.Window.fill
  rw [dif_pos (moved_in t (ix2 q k) h)]
  unfold iblk
  rw [View.read_apply]
  refine (V_main_v0 m c _).trans (congrArg (mW m c) (funext fun a => Fin.ext ?_))
  match a with
  | ⟨0, _⟩ => show win0_3.index t 1 * 2048 + 1 * k.val = k.val; rw [h1]; omega
  | ⟨1, _⟩ => show win0_3.index t 0 * 128 + 1 * q.val = 10240 + q.val; rw [h0]; omega

/-- The first point's normalised row is the array's. -/
theorem scaled_start (c : Dev nD) (r : Fin 512) (k : Fin 2048) :
    scaled (fun q => (iblk m c 0 start : S512x2048.Idx → EReal) (ix2 r q)) (fun q => (iblk m c 1 start : S1x2048.Idx → EReal) (ix2 0 q)) k
      = scaled (fun q => mX m c (ix2 r q)) (fun q => mG m c (ix2 0 q)) k :=
  congrArg₂ (fun f g => scaled f g k) (funext fun q => blk0 m c start r q) (funext fun q => blk1 m c start q)

/-- What a point leaves in the projection's buffer, entry by entry, -/
theorem block_entry (c : Dev nD) (t : Fin cfg0.N) (r : Fin 512) (q : Fin 1024) :
    (block m c t : S512x1024.Idx → EReal) (ix2 r q) = main (mX m c) (mG m c) (mW m c) (ix2 r (col t q)) := by
  unfold block
  refine (block_apply _ _ r q).trans (Finset.sum_congr rfl fun k _ => congrArg₂ (fun a b : EReal => a * b) ?_ (blk2 m c t q k))
  unfold rows
  exact (kept_apply _ _ r k).trans (scaled_start m c r k)

/-- in the `dt` buffer, -/
theorem dt_entry (c : Dev nD) (r : Fin 512) (q : Fin 128) :
    (dtBlock m c : S512x128.Idx → EReal) (ix2 r q) = dt (mX m c) (mG m c) (mW m c) (ix2 r q) := by
  unfold dtBlock
  refine (dt_apply _ _ _ r q).trans ?_
  unfold dt
  by_cases h : q.val < 48
  · rw [dif_pos (show ((ix2 r q) 1).val < 48 from h)]
    refine Finset.sum_congr rfl fun k _ => congrArg₂ (fun a b : EReal => a * b) (scaled_start m c r k) ?_
    rw [if_pos h]
    exact blk3 m c start unknown q h k
  · rw [dif_neg (show ¬((ix2 r q) 1).val < 48 from h)]
    refine Finset.sum_eq_zero fun k _ => ?_
    rw [if_neg h, mul_zero]

/-- in the rounded weight's buffer, -/
theorem w_entry (c : Dev nD) (t : Fin cfg0.N) (q : Fin 1024) (k : Fin 2048) :
    (wBlock m c t : S1024x2048.Idx → EReal) (ix2 q k) = wm (mW m c) (ix2 (col t q) k) := by
  unfold wBlock
  exact (rounded_apply _ q k).trans (blk2 m c t q k)

/-- and in the rounded `dt` weight's. -/
theorem wd_entry (c : Dev nD) (q : Fin 128) (k : Fin 2048) :
    (wdBlock m c : S128x2048.Idx → EReal) (ix2 q k) = wd (mW m c) (ix2 q k) := by
  unfold wdBlock
  refine (masked_apply _ q k).trans ?_
  unfold wd
  by_cases h : q.val < 48
  · rw [if_pos h, dif_pos (show ((ix2 q k) 0).val < 48 from h)]
    exact blk3 m c start unknown q h k
  · rw [if_neg h, dif_neg (show ¬((ix2 q k) 0).val < 48 from h)]

/-- Each point writes back its block of the projection, -/
theorem flushed_o (c : Dev nD) (t : Fin cfg0.N) :
    (data m 0 c).flushed 4 t = ((cfg0.win 4).blk t).view.read (Elt Ideal) (main (mX m c) (mG m c) (mW m c)) := by
  show (cfg0.win 4).cut (grid0.coords t) ((data m 0 c).after 4 t) = _
  rw [after_o]
  funext j
  obtain ⟨r, q, rfl⟩ : ∃ (r : Fin 512) (q : Fin 1024), j = ix2 r q := ⟨j 0, j 1, eq_ix2 j⟩
  rw [View.read_apply]
  refine (block_entry m c t r q).trans (congrArg (main (mX m c) (mG m c) (mW m c)) (funext fun a => Fin.ext ?_))
  obtain ⟨-, -, -, -, ⟨h0, h1⟩, -⟩ := idx_all t
  match a with
  | ⟨0, _⟩ => show r.val = win0_4.index t 0 * 512 + 1 * r.val; rw [h0]; omega
  | ⟨1, _⟩ => show 1024 * t.val + q.val = win0_4.index t 1 * 1024 + 1 * q.val; rw [h1]; omega

/-- the last one the `dt` columns, -/
theorem flushed_dt (c : Dev nD) (t : Fin cfg0.N) :
    (data m 0 c).flushed 5 t = ((cfg0.win 5).blk t).view.read (Elt Ideal) (dt (mX m c) (mG m c) (mW m c)) := by
  show (cfg0.win 5).cut (grid0.coords t) ((data m 0 c).after 5 t) = _
  rw [after_dt]
  funext j
  obtain ⟨r, q, rfl⟩ : ∃ (r : Fin 512) (q : Fin 128), j = ix2 r q := ⟨j 0, j 1, eq_ix2 j⟩
  rw [View.read_apply]
  refine (dt_entry m c r q).trans (congrArg (dt (mX m c) (mG m c) (mW m c)) (funext fun a => Fin.ext ?_))
  obtain ⟨-, -, -, -, -, ⟨h0, h1⟩, -⟩ := idx_all t
  match a with
  | ⟨0, _⟩ => show r.val = win0_5.index t 0 * 512 + 1 * r.val; rw [h0]; omega
  | ⟨1, _⟩ => show q.val = win0_5.index t 1 * 128 + 1 * q.val; rw [h1]; omega

/-- each point its block of the weight, -/
theorem flushed_w (c : Dev nD) (t : Fin cfg0.N) :
    (data m 0 c).flushed 6 t = ((cfg0.win 6).blk t).view.read (Elt Ideal) (wm (mW m c)) := by
  show (cfg0.win 6).cut (grid0.coords t) ((data m 0 c).after 6 t) = _
  rw [after_wb]
  funext j
  obtain ⟨q, k, rfl⟩ : ∃ (q : Fin 1024) (k : Fin 2048), j = ix2 q k := ⟨j 0, j 1, eq_ix2 j⟩
  rw [View.read_apply]
  refine (w_entry m c t q k).trans (congrArg (wm (mW m c)) (funext fun a => Fin.ext ?_))
  obtain ⟨-, -, -, -, -, -, ⟨h0, h1⟩, -⟩ := idx_all t
  match a with
  | ⟨0, _⟩ => show 1024 * t.val + q.val = win0_6.index t 0 * 1024 + 1 * q.val; rw [h0]; omega
  | ⟨1, _⟩ => show k.val = win0_6.index t 1 * 2048 + 1 * k.val; rw [h1]; omega

/-- and the last one the `dt` weight. -/
theorem flushed_wd (c : Dev nD) (t : Fin cfg0.N) :
    (data m 0 c).flushed 7 t = ((cfg0.win 7).blk t).view.read (Elt Ideal) (wd (mW m c)) := by
  show (cfg0.win 7).cut (grid0.coords t) ((data m 0 c).after 7 t) = _
  rw [after_wdb]
  funext j
  obtain ⟨q, k, rfl⟩ : ∃ (q : Fin 128) (k : Fin 2048), j = ix2 q k := ⟨j 0, j 1, eq_ix2 j⟩
  rw [View.read_apply]
  refine (wd_entry m c q k).trans (congrArg (wd (mW m c)) (funext fun a => Fin.ext ?_))
  obtain ⟨-, -, -, -, -, -, -, ⟨h0, h1⟩⟩ := idx_all t
  match a with
  | ⟨0, _⟩ => show q.val = win0_7.index t 0 * 128 + 1 * q.val; rw [h0]; omega
  | ⟨1, _⟩ => show k.val = win0_7.index t 1 * 2048 + 1 * k.val; rw [h1]; omega

/-- The points' column blocks tile the projection, -/
theorem cover_o (i : S512x10240.Idx) : ∃ t : Fin cfg0.N, (cfg0.win 4).flush t = true ∧ i ∈ ((cfg0.win 4).blk t).view.set := by
  have h0 : (i 0 : Nat) < 512 := (i 0).isLt
  have h1 : (i 1 : Nat) < 10240 := (i 1).isLt
  have hN : cfg0.N = 10 := points
  refine ⟨⟨(i 1 : Nat) / 1024, by omega⟩, flush0_4 _, ?_⟩
  generalize ht : (⟨(i 1 : Nat) / 1024, by omega⟩ : Fin cfg0.N) = t
  have hv : t.val = (i 1 : Nat) / 1024 := by rw [← ht]
  show i ∈ ((View.whole main_v1_0).slice (win0_4.rect t)).set
  rw [View.set_slice_whole, Rect.mem_set_unit]
  obtain ⟨-, -, -, -, ⟨e0, e1⟩, -⟩ := idx_all t
  intro a
  match a with
  | ⟨0, _⟩ => show win0_4.index t 0 * 512 ≤ (i 0 : Nat) ∧ (i 0 : Nat) < win0_4.index t 0 * 512 + 512
              rw [e0]; omega
  | ⟨1, _⟩ => show win0_4.index t 1 * 1024 ≤ (i 1 : Nat) ∧ (i 1 : Nat) < win0_4.index t 1 * 1024 + 1024
              rw [e1, hv]; omega

/-- the one block is the `dt` array, -/
theorem cover_dt (i : S512x128.Idx) : ∃ t : Fin cfg0.N, (cfg0.win 5).flush t = true ∧ i ∈ ((cfg0.win 5).blk t).view.set := by
  have h0 : (i 0 : Nat) < 512 := (i 0).isLt
  have h1 : (i 1 : Nat) < 128 := (i 1).isLt
  have hN : cfg0.N = 10 := points
  refine ⟨⟨9, by omega⟩, (flush0_5 _).mpr rfl, ?_⟩
  generalize (⟨9, by omega⟩ : Fin cfg0.N) = t
  show i ∈ ((View.whole main_v1_1).slice (win0_5.rect t)).set
  rw [View.set_slice_whole, Rect.mem_set_unit]
  obtain ⟨-, -, -, -, -, ⟨e0, e1⟩, -⟩ := idx_all t
  intro a
  match a with
  | ⟨0, _⟩ => show win0_5.index t 0 * 512 ≤ (i 0 : Nat) ∧ (i 0 : Nat) < win0_5.index t 0 * 512 + 512
              rw [e0]; omega
  | ⟨1, _⟩ => show win0_5.index t 1 * 128 ≤ (i 1 : Nat) ∧ (i 1 : Nat) < win0_5.index t 1 * 128 + 128
              rw [e1]; omega

/-- the points' row blocks tile the rounded weight, -/
theorem cover_w (i : S10240x2048.Idx) : ∃ t : Fin cfg0.N, (cfg0.win 6).flush t = true ∧ i ∈ ((cfg0.win 6).blk t).view.set := by
  have h0 : (i 0 : Nat) < 10240 := (i 0).isLt
  have h1 : (i 1 : Nat) < 2048 := (i 1).isLt
  have hN : cfg0.N = 10 := points
  refine ⟨⟨(i 0 : Nat) / 1024, by omega⟩, flush0_6 _, ?_⟩
  generalize ht : (⟨(i 0 : Nat) / 1024, by omega⟩ : Fin cfg0.N) = t
  have hv : t.val = (i 0 : Nat) / 1024 := by rw [← ht]
  show i ∈ ((View.whole main_v1_2).slice (win0_6.rect t)).set
  rw [View.set_slice_whole, Rect.mem_set_unit]
  obtain ⟨-, -, -, -, -, -, ⟨e0, e1⟩, -⟩ := idx_all t
  intro a
  match a with
  | ⟨0, _⟩ => show win0_6.index t 0 * 1024 ≤ (i 0 : Nat) ∧ (i 0 : Nat) < win0_6.index t 0 * 1024 + 1024
              rw [e0, hv]; omega
  | ⟨1, _⟩ => show win0_6.index t 1 * 2048 ≤ (i 1 : Nat) ∧ (i 1 : Nat) < win0_6.index t 1 * 2048 + 2048
              rw [e1]; omega

/-- and the one block is the rounded `dt` weight. -/
theorem cover_wd (i : S128x2048.Idx) : ∃ t : Fin cfg0.N, (cfg0.win 7).flush t = true ∧ i ∈ ((cfg0.win 7).blk t).view.set := by
  have h0 : (i 0 : Nat) < 128 := (i 0).isLt
  have h1 : (i 1 : Nat) < 2048 := (i 1).isLt
  have hN : cfg0.N = 10 := points
  refine ⟨⟨9, by omega⟩, (flush0_7 _).mpr rfl, ?_⟩
  generalize (⟨9, by omega⟩ : Fin cfg0.N) = t
  show i ∈ ((View.whole main_v1_3).slice (win0_7.rect t)).set
  rw [View.set_slice_whole, Rect.mem_set_unit]
  obtain ⟨-, -, -, -, -, -, -, ⟨e0, e1⟩⟩ := idx_all t
  intro a
  match a with
  | ⟨0, _⟩ => show win0_7.index t 0 * 128 ≤ (i 0 : Nat) ∧ (i 0 : Nat) < win0_7.index t 0 * 128 + 128
              rw [e0]; omega
  | ⟨1, _⟩ => show win0_7.index t 1 * 2048 ≤ (i 1 : Nat) ∧ (i 1 : Nat) < win0_7.index t 1 * 2048 + 2048
              rw [e1]; omega

/-- The four result arrays after the run. -/
theorem final_o (c : Dev nD) : (data m 0 c).arrAt 4 cfg0.N = main (mX m c) (mG m c) (mW m c) :=
  (data m 0 c).arrAt_eq_of_cover 4 (main (mX m c) (mG m c) (mW m c)) (fun t _ => flushed_o m c t) cover_o
theorem final_dt (c : Dev nD) : (data m 0 c).arrAt 5 cfg0.N = dt (mX m c) (mG m c) (mW m c) :=
  (data m 0 c).arrAt_eq_of_cover 5 (dt (mX m c) (mG m c) (mW m c)) (fun t _ => flushed_dt m c t) cover_dt
theorem final_w (c : Dev nD) : (data m 0 c).arrAt 6 cfg0.N = wm (mW m c) :=
  (data m 0 c).arrAt_eq_of_cover 6 (wm (mW m c)) (fun t _ => flushed_w m c t) cover_w
theorem final_wd (c : Dev nD) : (data m 0 c).arrAt 7 cfg0.N = wd (mW m c) :=
  (data m 0 c).arrAt_eq_of_cover 7 (wd (mW m c)) (fun t _ => flushed_wd m c t) cover_wd

end Ker

/-- Both programs end with the same four result arrays and their arguments unchanged. -/
theorem algebraic : Cert.algebraic_KernelInSIdeal_ReferenceInSIdeal (hKernelInSIdeal := Cert.KernelInSIdeal.Gen.facts)
    (hReferenceInSIdeal := Cert.ReferenceInSIdeal.Gen.facts) := fun m ρ m' ρ' _ hag =>
  ⟨fun c => main (mX m c) (mG m c) (mW m c), fun c => dt (mX m c) (mG m c) (mW m c), fun c => wm (mW m c), fun c => wd (mW m c),
    (θ_run _ _ _).mono (fun _ h c => ⟨((h.1 c).1 4).trans (final_o m c), ((h.1 c).1 5).trans (final_dt m c),
        ((h.1 c).1 6).trans (final_w m c), ((h.1 c).1 7).trans (final_wd m c), h.2 c⟩)
      (θ_run_and (Cert.InSRun.run m ρ) (Cert.KernelInSIdeal.Gen.frame_of m ρ (Cert.InSRun.data m) (Cert.InSRun.data_A m) (Cert.InSRun.run m ρ))),
    (θ_run _ _ _).mono (fun _ h c => ⟨(h c).1.trans (by
      obtain ⟨h0, h1, h2⟩ := hag c
      rw [Cert.ReferenceInSIdeal.Read.val_main_v26_eq, h0, h1, h2]
      exact ref_main _ _ _), (h c).2.1.trans (by
      obtain ⟨h0, h1, h2⟩ := hag c
      rw [h0, h1, h2]
      exact ref_dt _ _ _), (h c).2.2.1.trans (by
      obtain ⟨h0, h1, h2⟩ := hag c
      rw [h2]
      exact ref_wm _), (h c).2.2.2.1.trans (by
      obtain ⟨h0, h1, h2⟩ := hag c
      rw [h2]
      exact ref_wd _), (h c).2.2.2.2⟩) (Cert.ReferenceInSIdeal.Value.run m' ρ')⟩

end Cert.InSValue
-- ==== Proof.PoolRefOut.lean ====
/-
  The pool mixer's reference, from the four groups' pooled rows to the result: the groups laid side by side, each
  multiplied by its own matrix, scaled and gated.
-/
module

public import proofs.«01_k».proof.Proof.PoolRef

@[expose] public section

set_option maxRecDepth 16384

noncomputable section

open Idealize.ShloMosaic Idealize.ShloMosaic.ValueIdx
open scoped BigOperators

namespace Cert.PoolValue
open Cert.ReferenceIdeal Cert.ReferenceIdeal.Gen Cert.ReferenceIdeal.Read

variable (X : (⟨S8192x10240, .bf16⟩ : BufTy).Contents (Elt Ideal)) (W : (⟨S4x256x256, .f32⟩ : BufTy).Contents (Elt Ideal))
  (S : (⟨S1x1024, .f32⟩ : BufTy).Contents (Elt Ideal))

/-- Group 0's pooled rows: means over 2 rows less the row. -/
theorem v21_at (hX : RealCols X) (b : Fin 4) (p : Fin 2048) (k : Fin 256) :
    val_main_v21 (F := Ideal) X (ix3 b p k) = pooled X b 2 2#32 (col 0 k) p.val := by
  have hp := p.isLt
  have hk := k.isLt
  rw [val_main_v21_apply, val_main_v19_apply, val_main_v17_apply, val_main_v9_apply, val_main_v10_apply, val_main_v18_apply,
    val_main_v16_apply, val_main_v15_apply, val_main_v14_apply, val_main_v13_apply, val_main_v12_apply, val_main_v8_apply,
    val_main_v11_apply, val_main_c_1_apply, val_main_c_0_apply, val_main_v20_apply]
  have e1 : idx_main_v9 (ix3 b p k) = ix3 b (⟨16 + p.val, by omega⟩ : Fin 2064) (col 0 k) := funext fun a => Fin.ext (by
    match a with
    | ⟨0, _⟩ => rfl
    | ⟨1, _⟩ => rfl
    | ⟨2, _⟩ => show k.val = 256 * 0 + k.val; omega)
  have e2 : idx_main_v10 (ix3 b p k) = ix3 b (⟨16 - 2 + p.val, by omega⟩ : Fin 2064) (col 0 k) := funext fun a => Fin.ext (by
    match a with
    | ⟨0, _⟩ => rfl
    | ⟨1, _⟩ => show 14 + p.val = 16 - 2 + p.val; omega
    | ⟨2, _⟩ => show k.val = 256 * 0 + k.val; omega)
  have e3 : idx_main_v20 (ix3 b p k) = ix3 b p (col 0 k) := funext fun a => Fin.ext (by
    match a with
    | ⟨0, _⟩ => rfl
    | ⟨1, _⟩ => rfl
    | ⟨2, _⟩ => show k.val = 256 * 0 + k.val; omega)
  rw [e1, e2, e3, v2_at, Ideal.subf_def, Ideal.subf_def, Ideal.hostDivf_def,
    diff_at X hX 2 (by omega) b p (col 0 k) _ _ rfl rfl]
  rfl

/-- Group 1's pooled rows: means over 4 rows less the row. -/
theorem v34_at (hX : RealCols X) (b : Fin 4) (p : Fin 2048) (k : Fin 256) :
    val_main_v34 (F := Ideal) X (ix3 b p k) = pooled X b 4 4#32 (col 1 k) p.val := by
  have hp := p.isLt
  have hk := k.isLt
  rw [val_main_v34_apply, val_main_v32_apply, val_main_v30_apply, val_main_v22_apply, val_main_v23_apply, val_main_v31_apply,
    val_main_v29_apply, val_main_v28_apply, val_main_v27_apply, val_main_v26_apply, val_main_v25_apply, val_main_v8_apply,
    val_main_v24_apply, val_main_c_3_apply, val_main_c_2_apply, val_main_v33_apply]
  have e1 : idx_main_v22 (ix3 b p k) = ix3 b (⟨16 + p.val, by omega⟩ : Fin 2064) (col 1 k) := funext fun a => Fin.ext (by
    match a with
    | ⟨0, _⟩ => rfl
    | ⟨1, _⟩ => rfl
    | ⟨2, _⟩ => show 256 + k.val = 256 * 1 + k.val; omega)
  have e2 : idx_main_v23 (ix3 b p k) = ix3 b (⟨16 - 4 + p.val, by omega⟩ : Fin 2064) (col 1 k) := funext fun a => Fin.ext (by
    match a with
    | ⟨0, _⟩ => rfl
    | ⟨1, _⟩ => show 12 + p.val = 16 - 4 + p.val; omega
    | ⟨2, _⟩ => show 256 + k.val = 256 * 1 + k.val; omega)
  have e3 : idx_main_v33 (ix3 b p k) = ix3 b p (col 1 k) := funext fun a => Fin.ext (by
    match a with
    | ⟨0, _⟩ => rfl
    | ⟨1, _⟩ => rfl
    | ⟨2, _⟩ => show 256 + k.val = 256 * 1 + k.val; omega)
  rw [e1, e2, e3, v2_at, Ideal.subf_def, Ideal.subf_def, Ideal.hostDivf_def,
    diff_at X hX 4 (by omega) b p (col 1 k) _ _ rfl rfl]
  rfl

/-- Group 2's pooled rows: means over 8 rows less the row. -/
theorem v47_at (hX : RealCols X) (b : Fin 4) (p : Fin 2048) (k : Fin 256) :
    val_main_v47 (F := Ideal) X (ix3 b p k) = pooled X b 8 8#32 (col 2 k) p.val := by
  have hp := p.isLt
  have hk := k.isLt
  rw [val_main_v47_apply, val_main_v45_apply, val_main_v43_apply, val_main_v35_apply, val_main_v36_apply, val_main_v44_apply,
    val_main_v42_apply, val_main_v41_apply, val_main_v40_apply, val_main_v39_apply, val_main_v38_apply, val_main_v8_apply,
    val_main_v37_apply, val_main_c_5_apply, val_main_c_4_apply, val_main_v46_apply]
  have e1 : idx_main_v35 (ix3 b p k) = ix3 b (⟨16 + p.val, by omega⟩ : Fin 2064) (col 2 k) := funext fun a => Fin.ext (by
    match a with
    | ⟨0, _⟩ => rfl
    | ⟨1, _⟩ => rfl
    | ⟨2, _⟩ => show 512 + k.val = 256 * 2 + k.val; omega)
  have e2 : idx_main_v36 (ix3 b p k) = ix3 b (⟨16 - 8 + p.val, by omega⟩ : Fin 2064) (col 2 k) := funext fun a => Fin.ext (by
    match a with
    | ⟨0, _⟩ => rfl
    | ⟨1, _⟩ => show 8 + p.val = 16 - 8 + p.val; omega
    | ⟨2, _⟩ => show 512 + k.val = 256 * 2 + k.val; omega)
  have e3 : idx_main_v46 (ix3 b p k) = ix3 b p (col 2 k) := funext fun a => Fin.ext (by
    match a with
    | ⟨0, _⟩ => rfl
    | ⟨1, _⟩ => rfl
    | ⟨2, _⟩ => show 512 + k.val = 256 * 2 + k.val; omega)
  rw [e1, e2, e3, v2_at, Ideal.subf_def, Ideal.subf_def, Ideal.hostDivf_def,
    diff_at X hX 8 (by omega) b p (col 2 k) _ _ rfl rfl]
  rfl

/-- Group 3's pooled rows: means over 16 rows less the row. -/
theorem v60_at (hX : RealCols X) (b : Fin 4) (p : Fin 2048) (k : Fin 256) :
    val_main_v60 (F := Ideal) X (ix3 b p k) = pooled X b 16 16#32 (col 3 k) p.val := by
  have hp := p.isLt
  have hk := k.isLt
  rw [val_main_v60_apply, val_main_v58_apply, val_main_v56_apply, val_main_v48_apply, val_main_v49_apply, val_main_v57_apply,
    val_main_v55_apply, val_main_v54_apply, val_main_v53_apply, val_main_v52_apply, val_main_v51_apply, val_main_v8_apply,
    val_main_v50_apply, val_main_c_7_apply, val_main_c_6_apply, val_main_v59_apply]
  have e1 : idx_main_v48 (ix3 b p k) = ix3 b (⟨16 + p.val, by omega⟩ : Fin 2064) (col 3 k) := funext fun a => Fin.ext (by
    match a with
    | ⟨0, _⟩ => rfl
    | ⟨1, _⟩ => rfl
    | ⟨2, _⟩ => show 768 + k.val = 256 * 3 + k.val; omega)
  have e2 : idx_main_v49 (ix3 b p k) = ix3 b (⟨16 - 16 + p.val, by omega⟩ : Fin 2064) (col 3 k) := funext fun a => Fin.ext (by
    match a with
    | ⟨0, _⟩ => rfl
    | ⟨1, _⟩ => show p.val = 16 - 16 + p.val; omega
    | ⟨2, _⟩ => show 768 + k.val = 256 * 3 + k.val; omega)
  have e3 : idx_main_v59 (ix3 b p k) = ix3 b p (col 3 k) := funext fun a => Fin.ext (by
    match a with
    | ⟨0, _⟩ => rfl
    | ⟨1, _⟩ => rfl
    | ⟨2, _⟩ => show 768 + k.val = 256 * 3 + k.val; omega)
  rw [e1, e2, e3, v2_at, Ideal.subf_def, Ideal.subf_def, Ideal.hostDivf_def,
    diff_at X hX 16 (by omega) b p (col 3 k) _ _ rfl rfl]
  rfl

/-- The four groups side by side. -/
theorem v65_at (hX : RealCols X) (b : Fin 4) (p : Fin 2048) (g : Fin 4) (k : Fin 256) :
    val_main_v65 (F := Ideal) X (ix4 b p g k) = pooled X b (win g) (BitVec.ofNat 32 (win g)) (col g k) p.val := by
  unfold val_main_v65
  refine concatenate_unit_eq _ _ _ _ _ rfl ⟨?_, ?_, ?_, ?_, trivial⟩
  · intro e hr i h0 hb
    have hg : g = 0 := Fin.ext e
    subst hg
    refine (val_main_v61_apply X i).trans (Eq.trans (congrArg _ (funext fun a => Fin.ext ?_)) (v21_at X hX b p k))
    match a with
    | ⟨0, _⟩ => exact hb 0 (by decide)
    | ⟨1, _⟩ => exact hb 1 (by decide)
    | ⟨2, _⟩ => exact hb 3 (by decide)
  · intro e hr i h0 hb
    have hg : g = 1 := Fin.ext e
    subst hg
    refine (val_main_v62_apply X i).trans (Eq.trans (congrArg _ (funext fun a => Fin.ext ?_)) (v34_at X hX b p k))
    match a with
    | ⟨0, _⟩ => exact hb 0 (by decide)
    | ⟨1, _⟩ => exact hb 1 (by decide)
    | ⟨2, _⟩ => exact hb 3 (by decide)
  · intro e hr i h0 hb
    have hg : g = 2 := Fin.ext e
    subst hg
    refine (val_main_v63_apply X i).trans (Eq.trans (congrArg _ (funext fun a => Fin.ext ?_)) (v47_at X hX b p k))
    match a with
    | ⟨0, _⟩ => exact hb 0 (by decide)
    | ⟨1, _⟩ => exact hb 1 (by decide)
    | ⟨2, _⟩ => exact hb 3 (by decide)
  · intro e hr i h0 hb
    have hg : g = 3 := Fin.ext e
    subst hg
    refine (val_main_v64_apply X i).trans (Eq.trans (congrArg _ (funext fun a => Fin.ext ?_)) (v60_at X hX b p k))
    match a with
    | ⟨0, _⟩ => exact hb 0 (by decide)
    | ⟨1, _⟩ => exact hb 1 (by decide)
    | ⟨2, _⟩ => exact hb 3 (by decide)

/-- Each group's rows times its matrix, at position `p` and column `256 g + q`. -/
theorem v68_at (hX : RealCols X) (b : Fin 4) (p : Fin 2048) (g : Fin 4) (q : Fin 256) :
    val_main_v68 (F := Ideal) X W (ix3 b p (col g q))
      = ∑ k : Fin 256, pooled X b (win g) (BitVec.ofNat 32 (win g)) (col g k) p.val * W (ix3 g k q) := by
  have := b.isLt; have := p.isLt; have := g.isLt; have := q.isLt
  rw [val_main_v68_apply, val_main_v67_apply]
  have e : idx_main_v67 (idx_main_v68 (ix3 b p (col g q))) = ix4 g q b p := funext fun a => Fin.ext (by
    match a with
    | ⟨0, _⟩ => show ((b.val * 2048 + p.val) * 1024 + (256 * g.val + q.val)) / 256 % 4 = g.val; omega
    | ⟨1, _⟩ => show ((b.val * 2048 + p.val) * 1024 + (256 * g.val + q.val)) % 256 = q.val; omega
    | ⟨2, _⟩ => show ((b.val * 2048 + p.val) * 1024 + (256 * g.val + q.val)) / 2097152 = b.val; omega
    | ⟨3, _⟩ => show ((b.val * 2048 + p.val) * 1024 + (256 * g.val + q.val)) / 1024 % 2048 = p.val; omega)
  rw [e, val_main_v66_apply]
  refine Finset.sum_congr rfl fun k _ => ?_
  have el : lidx_main_v66 (ix4 g q b p) k = ix3 g k q := funext fun a => Fin.ext (by
    match a with | ⟨0, _⟩ => rfl | ⟨1, _⟩ => rfl | ⟨2, _⟩ => rfl)
  have er : ridx_main_v66 (ix4 g q b p) k = ix4 b p g k := funext fun a => Fin.ext (by
    match a with | ⟨0, _⟩ => rfl | ⟨1, _⟩ => rfl | ⟨2, _⟩ => rfl | ⟨3, _⟩ => rfl)
  rw [el, er, v65_at X hX, mul_comm]

/-- The scale of a column. -/
theorem v71_at (b : Fin 4) (p : Fin 2048) (c : Fin 1024) : val_main_v71 (F := Ideal) S (ix3 b p c) = S (ix2 0 c) := by
  have := c.isLt
  rw [val_main_v71_apply, val_main_v70_apply, val_main_v69_apply]
  refine congrArg S (funext fun a => Fin.ext ?_)
  match a with
  | ⟨0, _⟩ => rfl
  | ⟨1, _⟩ => show c.val % 1024 = c.val; omega

/-- The gate `x * sigmoid x`. -/
theorem v73_at (b : Fin 4) (p : Fin 2048) (c : Fin 1024) :
    val_main_v73 (F := Ideal) X (ix3 b p c)
      = gateAt X (row b p) c * Ideal.div 1 (1 + Ideal.exp (-(gateAt X (row b p) c))) := by
  rw [val_main_v73_apply, val_main_call2_v5_apply, val_main_call2_v4_apply, val_main_call2_cst_0_apply, val_main_call2_v3_apply,
    val_main_call2_v2_apply, val_main_call2_cst_apply, val_main_call2_v1_apply, val_main_call2_v0_apply, v3_at]
  show _ * Ideal.div (Ideal.ofBits .f32 0x3F800000#32) (Ideal.ofBits .f32 0x3F800000#32 + Ideal.exp (-(gateAt X (row b p) c))) = _
  rw [Ideal.ofBits_one_f32]

/-- The reference's first result is the closed form. -/
theorem ref_out (hX : RealCols X) : val_main_v76 (F := Ideal) X W S = G X W S := by
  funext i
  obtain ⟨R, C, rfl⟩ : ∃ (R : Fin 8192) (C : Fin 1024), i = ix2 R C := ⟨i 0, i 1, eq_ix2 i⟩
  have hR := R.isLt
  have hC := C.isLt
  obtain ⟨b, p, rfl⟩ : ∃ (b : Fin 4) (p : Fin 2048), R = row b p :=
    ⟨⟨R.val / 2048, by omega⟩, ⟨R.val % 2048, by omega⟩, Fin.ext (show R.val = 2048 * (R.val / 2048) + R.val % 2048 by omega)⟩
  obtain ⟨g, q, rfl⟩ : ∃ (g : Fin 4) (q : Fin 256), C = col g q :=
    ⟨⟨C.val / 256, by omega⟩, ⟨C.val % 256, by omega⟩, Fin.ext (show C.val = 256 * (C.val / 256) + C.val % 256 by omega)⟩
  have := b.isLt; have := p.isLt; have := g.isLt; have := q.isLt
  rw [G_at, val_main_v76_apply, val_main_v75_apply]
  have e : idx_main_v75 (ix2 (row b p) (col g q)) = ix3 b p (col g q) := funext fun a => Fin.ext (by
    match a with
    | ⟨0, _⟩ => show ((2048 * b.val + p.val) * 1024 + (256 * g.val + q.val)) / 2097152 = b.val; omega
    | ⟨1, _⟩ => show ((2048 * b.val + p.val) * 1024 + (256 * g.val + q.val)) / 1024 % 2048 = p.val; omega
    | ⟨2, _⟩ => show ((2048 * b.val + p.val) * 1024 + (256 * g.val + q.val)) % 1024 = 256 * g.val + q.val; omega)
  rw [e, val_main_v74_apply, val_main_v72_apply, v68_at X W hX, v71_at, v73_at]
  rfl

/-- The reference's second result is the rows to carry. -/
theorem ref_new : val_main_v77 (F := Ideal) X = H X := by
  funext i
  obtain ⟨b, j, c, rfl⟩ : ∃ (b : Fin 4) (j : Fin 15) (c : Fin 1024), i = ix3 b j c := ⟨i 0, i 1, i 2, eq_ix3 i⟩
  have := j.isLt
  rw [val_main_v77_apply]
  have e : idx_main_v77 (ix3 b j c) = ix3 b (⟨2048 + j.val, by omega⟩ : Fin 2063) c := funext fun a => Fin.ext (by
    match a with | ⟨0, _⟩ => rfl | ⟨1, _⟩ => rfl | ⟨2, _⟩ => rfl)
  rw [e, v5_at]
  exact congrArg (pad X b c) (show 2048 + j.val + 1 = 2049 + j.val by omega)

end Cert.PoolValue
end
-- ==== Proof.PoolClaim.lean ====
/-
  The pool mixer's claim: each grid point writes its 512 rows of `G`, a sequence's last point the fifteen rows handed on, so
  both programs end holding the same two functions of the arguments.
-/
module

public import proofs.«01_k».proof.Proof.PoolOut
public import proofs.«01_k».proof.Proof.PoolRefOut
public import proofs.«01_k».proof.Proof.Gen.ReferenceIdeal.Run
public import proofs.«01_k».proof.Proof.Gen.Pre_finite
public import Idealize.ShloMosaic.Lib.ReduceAll
public import proofs.«01_k».proof.Defs

@[expose] public section

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.PoolValue

section Ker
open Cert.KernelIdeal Cert.KernelIdeal.Gen

variable (m : (ℓ : Loc nD τ sig) → Buf (Elt Ideal) ℓ) (ρ : Dev nD → PrngReg)

/-- The arguments of device `c`, as plain functions. -/
abbrev mX (c : Dev nD) : (⟨2, ![8192, 10240]⟩ : Shape).Idx → EReal := m ((c.tc : Thread nD τ).loc main_arg0)
abbrev mW (c : Dev nD) : (⟨3, ![4, 256, 256]⟩ : Shape).Idx → EReal := m ((c.tc : Thread nD τ).loc main_arg1)
abbrev mS (c : Dev nD) : (⟨2, ![1, 1024]⟩ : Shape).Idx → EReal := m ((c.tc : Thread nD τ).loc main_arg2)

/-- The two result arrays both programs are shown to end with. -/
abbrev result (c : Dev nD) : (⟨2, ![8192, 1024]⟩ : Shape).Idx → EReal := G (mX m c) (mW m c) (mS m c)
abbrev handed (c : Dev nD) : (⟨3, ![4, 15, 1024]⟩ : Shape).Idx → EReal := H (mX m c)

/-- The block indices of the six windows at every grid point, and the point's coordinate within its sequence. -/
theorem idx_all : ∀ t : Fin cfg0.N, win0_0.index t 0 = t.val ∧ win0_0.index t 1 = 6 ∧ win0_1.index t 0 = t.val ∧ win0_1.index t 1 = 7
    ∧ win0_2.index t 0 = 0 ∧ win0_2.index t 1 = 0 ∧ win0_2.index t 2 = 0 ∧ win0_3.index t 0 = 0 ∧ win0_3.index t 1 = 0
    ∧ win0_4.index t 0 = t.val ∧ win0_4.index t 1 = 0
    ∧ win0_5.index t 0 = t.val / 4 ∧ win0_5.index t 1 = 0 ∧ win0_5.index t 2 = 0 ∧ (grid0.coords t 1).val = t.val % 4 :=
  (by decide +kernel : ∀ t : Fin grid0.N, _)

/-- Row `r` of point `t`'s blocks is row `512·t + r` of the arrays. -/
abbrev trow (t : Fin cfg0.N) (r : Fin 512) : Fin 8192 :=
  ⟨512 * t.val + r.val, by have h : t.val < 16 := t.isLt; have := r.isLt; omega⟩

theorem blk0 (c : Dev nD) (t : Fin cfg0.N) (r : Fin 512) (k : Fin 1024) :
    (iblk m c 0 t : S512x1024.Idx → EReal) (ix2 r k) = mX m c (ix2 (trow t r) ⟨6144 + k.val, by have := k.isLt; omega⟩) := by
  obtain ⟨h0, h1, -⟩ := idx_all t
  unfold iblk
  rw [View.read_apply]
  show m _ _ = m _ _
  refine congrArg (m ((c.tc : Thread nD τ).loc main_arg0)) (funext fun a => Fin.ext ?_)
  match a with
  | ⟨0, _⟩ => show win0_0.index t 0 * 512 + 1 * r.val = 512 * t.val + r.val; rw [h0]; omega
  | ⟨1, _⟩ => show win0_0.index t 1 * 1024 + 1 * k.val = 6144 + k.val; rw [h1]; omega

theorem blk1 (c : Dev nD) (t : Fin cfg0.N) (r : Fin 512) (k : Fin 1024) :
    (iblk m c 1 t : S512x1024.Idx → EReal) (ix2 r k) = gateAt (mX m c) (trow t r) k := by
  obtain ⟨-, -, h0, h1, -⟩ := idx_all t
  unfold iblk
  rw [View.read_apply]
  show m _ _ = m _ _
  refine congrArg (m ((c.tc : Thread nD τ).loc main_arg0)) (funext fun a => Fin.ext ?_)
  match a with
  | ⟨0, _⟩ => show win0_1.index t 0 * 512 + 1 * r.val = 512 * t.val + r.val; rw [h0]; omega
  | ⟨1, _⟩ => show win0_1.index t 1 * 1024 + 1 * k.val = 7168 + k.val; rw [h1]; omega

theorem blk2 (c : Dev nD) (t : Fin cfg0.N) (g : Fin 4) (k q : Fin 256) :
    (iblk m c 2 t : S4x256x256.Idx → EReal) (ix3 g k q) = mW m c (ix3 g k q) := by
  obtain ⟨-, -, -, -, h0, h1, h2, -⟩ := idx_all t
  unfold iblk
  rw [View.read_apply]
  show m _ _ = m _ _
  refine congrArg (m ((c.tc : Thread nD τ).loc main_arg1)) (funext fun a => Fin.ext ?_)
  match a with
  | ⟨0, _⟩ => show win0_2.index t 0 * 4 + 1 * g.val = g.val; rw [h0]; omega
  | ⟨1, _⟩ => show win0_2.index t 1 * 256 + 1 * k.val = k.val; rw [h1]; omega
  | ⟨2, _⟩ => show win0_2.index t 2 * 256 + 1 * q.val = q.val; rw [h2]; omega

theorem blk3 (c : Dev nD) (t : Fin cfg0.N) (q : Fin 1024) :
    (iblk m c 3 t : S1x1024.Idx → EReal) (ix2 0 q) = mS m c (ix2 0 q) := by
  obtain ⟨-, -, -, -, -, -, -, h0, h1, -⟩ := idx_all t
  unfold iblk
  rw [View.read_apply]
  show m _ _ = m _ _
  refine congrArg (m ((c.tc : Thread nD τ).loc main_arg2)) (funext fun a => Fin.ext ?_)
  match a with
  | ⟨0, _⟩ => show win0_3.index t 0 * 1 + 1 * 0 = 0; rw [h0]
  | ⟨1, _⟩ => show win0_3.index t 1 * 1024 + 1 * q.val = q.val; rw [h1]; omega

/-- The sequence a point works on, and the rows of its padded pool input the point's scratch holds. -/
abbrev seq (t : Fin cfg0.N) : Fin 4 := ⟨t.val / 4, by have h : t.val < 16 := t.isLt; omega⟩
def held (c : Dev nD) (t : Fin cfg0.N) (n : Fin 1024) (j : ℕ) : EReal := pad (mX m c) (seq t) n (512 * (t.val % 4) + j)

/-- The point's own rows are held from the sixteenth on. -/
theorem held_own (c : Dev nD) (t : Fin cfg0.N) (r : Fin 512) (n : Fin 1024) :
    (iblk m c 0 t : S512x1024.Idx → EReal) (ix2 r n) = held m c t n (16 + r.val) := by
  have ht : t.val < 16 := t.isLt
  have hr := r.isLt
  rw [blk0]
  unfold held pad
  rw [dif_pos (by omega)]
  refine congrArg (mX m c) (funext fun a => Fin.ext ?_)
  match a with
  | ⟨0, _⟩ => show 512 * t.val + r.val = 2048 * (t.val / 4) + (512 * (t.val % 4) + (16 + r.val) - 16); omega
  | ⟨1, _⟩ => rfl

/-- Before a sequence's first row the padded input is zero. -/
theorem held_first (c : Dev nD) (t : Fin cfg0.N) (h0 : t.val % 4 = 0) (n : Fin 1024) (j : ℕ) (hj : j < 16) : held m c t n j = 0 := by
  unfold held pad
  rw [dif_neg (by omega)]

/-- Every point keeps its last sixteen rows in the scratch. -/
theorem kept (c : Dev nD) (t : Fin cfg0.N) (j : Fin 528) (n : Fin 1024) (hj : j.val < 16) :
    ((outsAt0 m c t.val t.isLt).2.2 : S528x1024.Idx → EReal) (ix2 j n)
      = (iblk m c 0 t : S512x1024.Idx → EReal) (ix2 (⟨496 + j.val, by omega⟩ : Fin 512) n) := by
  by_cases h0 : t.val % 4 = 0
  · have h1 : ¬ t.val % 4 = 3 := by omega
    rw [outsAt0_A m c t h0 h1]
    dsimp only
    exact (kept_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t)
      ((hcond0_0 t).mpr h0) (fun h => h1 ((hcond0_1 t).mp h)) j n hj)
  · by_cases h1 : t.val % 4 = 3
    · rw [outsAt0_C m c t h0 h1]
      dsimp only
      exact (kept_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.2
      (fun h => h0 ((hcond0_0 t).mp h)) ((hcond0_1 t).mpr h1) j n hj)
    · rw [outsAt0_B m c t h0 h1]
      dsimp only
      exact (kept_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.2
      (fun h => h0 ((hcond0_0 t).mp h)) (fun h => h1 ((hcond0_1 t).mp h)) j n hj)

/-- So a later point finds the sixteen rows before its own. -/
theorem held_later (c : Dev nD) (t : Fin cfg0.N) (h0 : ¬ t.val % 4 = 0) (j : Fin 528) (n : Fin 1024) (hj : j.val < 16) :
    ((outsAt0 m c (t.val - 1) (Nat.lt_of_le_of_lt (Nat.sub_le _ _) t.isLt)).2.2 : S528x1024.Idx → EReal) (ix2 j n) = held m c t n j.val := by
  have ht : t.val < 16 := t.isLt
  refine (kept m c ⟨t.val - 1, Nat.lt_of_le_of_lt (Nat.sub_le _ _) t.isLt⟩ j n hj).trans ?_
  rw [blk0]
  unfold held pad
  rw [dif_pos (by omega)]
  refine congrArg (mX m c) (funext fun a => Fin.ext ?_)
  match a with
  | ⟨0, _⟩ => show 512 * (t.val - 1) + (496 + j.val) = 2048 * (t.val / 4) + (512 * (t.val % 4) + j.val - 16); omega
  | ⟨1, _⟩ => rfl

/-- The tile's entry, over the rows held, is the mixer's. -/
theorem tileEnt_eq (c : Dev nD) (t : Fin cfg0.N) (r : Fin 512) (g : Fin 4) (q : Fin 256) :
    tileEnt (grid0.coords t 1).val (held m c t) (iblk m c 1 t) (iblk m c 2 t) (iblk m c 3 t) r g q
      = result m c (ix2 (trow t r) (col g q)) := by
  have ht : t.val < 16 := t.isLt
  have hr := r.isLt
  have hp : 512 * (t.val % 4) + r.val < 2048 := by omega
  have hR : trow t r = row (seq t) ⟨512 * (t.val % 4) + r.val, hp⟩ := Fin.ext (by
    show 512 * t.val + r.val = 2048 * (t.val / 4) + (512 * (t.val % 4) + r.val); omega)
  have hw : win g ≤ 16 := by
    match g with
    | ⟨0, _⟩ => show 2 ^ 1 ≤ 16; norm_num
    | ⟨1, _⟩ => show 2 ^ 2 ≤ 16; norm_num
    | ⟨2, _⟩ => show 2 ^ 3 ≤ 16; norm_num
    | ⟨3, _⟩ => show 2 ^ 4 ≤ 16; norm_num
  obtain ⟨-, -, -, -, -, -, -, -, -, -, -, -, -, -, hi⟩ := idx_all t
  unfold tileEnt
  rw [hi, blk1, blk3, hR, result, G_at]
  unfold ent pooled
  refine congrArg (fun a : EReal => a * mS m c (ix2 0 (col g q)) * _) (Finset.sum_congr rfl fun k _ => ?_)
  rw [blk2]
  refine congrArg₂ (fun a b : EReal => (Ideal.div a _ - b) * mW m c (ix3 g k q)) (Finset.sum_congr rfl fun i hi' => ?_) ?_
  · have := Finset.mem_range.1 hi'
    exact congrArg (pad (mX m c) (seq t) (col g k)) (show 512 * (t.val % 4) + (16 + r.val - i) = 16 + (512 * (t.val % 4) + r.val) - i by omega)
  · exact congrArg (pad (mX m c) (seq t) (col g k)) (show 512 * (t.val % 4) + (16 + r.val) = 16 + (512 * (t.val % 4) + r.val) by omega)

/-- What a point leaves in the output's buffer, entry by entry: rows `512·t …` of the result. -/
theorem out_apply (c : Dev nD) (hX : RealCols (mX m c)) (t : Fin cfg0.N) (r : Fin 512) (g : Fin 4) (q : Fin 256) :
    ((outsAt0 m c t.val t.isLt).1 : S512x1024.Idx → EReal) (ix2 r (col g q)) = result m c (ix2 (trow t r) (col g q)) := by
  have hU := held_own m c t
  have hG : ∀ (r : Fin 512) (n : Fin 1024), ∃ z : ℝ, (iblk m c 1 t : S512x1024.Idx → EReal) (ix2 r n) = (z : EReal) := fun r n => by
    rw [blk1]; exact gate_real (mX m c) hX _ n
  refine Eq.trans ?_ (tileEnt_eq m c t r g q)
  by_cases h0 : t.val % 4 = 0
  · have h1 : ¬ t.val % 4 = 3 := by omega
    rw [outsAt0_A m c t h0 h1]
    dsimp only
    exact (out_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t)
      (held m c t) ((hcond0_0 t).mpr h0) (fun h => h1 ((hcond0_1 t).mp h)) hU (held_first m c t h0) hG r g q)
  · have hS := held_later m c t h0
    by_cases h1 : t.val % 4 = 3
    · rw [outsAt0_C m c t h0 h1]
      dsimp only
      exact (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.2
      (held m c t) (fun h => h0 ((hcond0_0 t).mp h)) ((hcond0_1 t).mpr h1) hU hS hG r g q)
    · rw [outsAt0_B m c t h0 h1]
      dsimp only
      exact (out_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.2
      (held m c t) (fun h => h0 ((hcond0_0 t).mp h)) (fun h => h1 ((hcond0_1 t).mp h)) hU hS hG r g q)

/-- Each point writes back its block of the result. -/
theorem flushed_out (c : Dev nD) (hX : RealCols (mX m c)) (t : Fin cfg0.N) :
    (dats m 0 c).flushed 4 t = ((cfg0.win 4).blk t).view.read (Elt Ideal) (result m c) := by
  rw [Value.flushed4]
  funext j
  obtain ⟨r, n, rfl⟩ : ∃ (r : Fin 512) (n : Fin 1024), j = ix2 r n := ⟨j 0, j 1, eq_ix2 j⟩
  obtain ⟨g, q, rfl⟩ : ∃ (g : Fin 4) (q : Fin 256), n = col g q :=
    ⟨⟨n.val / 256, by have := n.isLt; omega⟩, ⟨n.val % 256, Nat.mod_lt _ (by norm_num)⟩,
      Fin.ext (show n.val = 256 * (n.val / 256) + n.val % 256 by omega)⟩
  rw [View.read_apply]
  refine (out_apply m c hX t r g q).trans (congrArg (result m c) (funext fun a => Fin.ext ?_))
  obtain ⟨-, -, -, -, -, -, -, -, -, h0, h1, -⟩ := idx_all t
  match a with
  | ⟨0, _⟩ => show 512 * t.val + r.val = win0_4.index t 0 * 512 + 1 * r.val; rw [h0]; omega
  | ⟨1, _⟩ => show 256 * g.val + q.val = win0_4.index t 1 * 1024 + 1 * (256 * g.val + q.val); rw [h1]; omega

/-- Every entry of the result array lies in the block of the point that owns its row. -/
theorem cover_out (i : S8192x1024.Idx) : ∃ t : Fin cfg0.N, (cfg0.win 4).flush t = true ∧ i ∈ ((cfg0.win 4).blk t).view.set := by
  have h0 : (i 0 : Nat) < 8192 := (i 0).isLt
  have h1 : (i 1 : Nat) < 1024 := (i 1).isLt
  have hN : cfg0.N = 16 := N_0
  refine ⟨⟨(i 0 : Nat) / 512, by omega⟩, flush0_4 _, ?_⟩
  generalize ht : (⟨(i 0 : Nat) / 512, by omega⟩ : Fin cfg0.N) = t
  have hv : t.val = (i 0 : Nat) / 512 := by rw [← ht]
  show i ∈ ((View.whole main_v0_0).slice (win0_4.rect t)).set
  rw [View.set_slice_whole, Rect.mem_set_unit]
  obtain ⟨-, -, -, -, -, -, -, -, -, e0, e1, -⟩ := idx_all t
  intro a
  match a with
  | ⟨0, _⟩ => show win0_4.index t 0 * 512 ≤ (i 0 : Nat) ∧ (i 0 : Nat) < win0_4.index t 0 * 512 + 512
              rw [e0, hv]; omega
  | ⟨1, _⟩ => show win0_4.index t 1 * 1024 ≤ (i 1 : Nat) ∧ (i 1 : Nat) < win0_4.index t 1 * 1024 + 1024
              rw [e1]; omega

/-- The mixer's output array after the kernel's run. -/
theorem final_out (c : Dev nD) (hX : RealCols (mX m c)) : (dats m 0 c).arrAt 4 cfg0.N = result m c :=
  (dats m 0 c).arrAt_eq_of_cover 4 (result m c) (fun t _ => flushed_out m c hX t) cover_out

/-- A sequence's last point writes back the rows handed on. -/
theorem flushed_new (c : Dev nD) (t : Fin cfg0.N) (hf : (cfg0.win 5).flush t = true) :
    (dats m 0 c).flushed 5 t = ((cfg0.win 5).blk t).view.read (Elt Ideal) (handed m c) := by
  have ht : t.val < 16 := t.isLt
  have h1 : t.val % 4 = 3 := (flush0_5 t).1 hf
  have h0 : ¬ t.val % 4 = 0 := by omega
  rw [Value.flushed5_C m c t h0 h1]
  funext j
  obtain ⟨z, r, n, rfl⟩ : ∃ (z : Fin 1) (r : Fin 15) (n : Fin 1024), j = ix3 z r n := ⟨j 0, j 1, j 2, eq_ix3 j⟩
  obtain rfl : z = 0 := Subsingleton.elim _ _
  have hr := r.isLt
  rw [View.read_apply]
  refine (new_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (outsAt0 m c (t.val - 1) (Nat.lt_of_le_of_lt (Nat.sub_le _ _) t.isLt)).2.2
      (fun h => h0 ((hcond0_0 t).mp h)) ((hcond0_1 t).mpr h1) r n).trans ?_
  rw [held_own]
  obtain ⟨-, -, -, -, -, -, -, -, -, -, -, e0, e1, e2, -⟩ := idx_all t
  refine Eq.trans ?_ (congrArg (handed m c) (show ix3 (seq t) r n = _ from funext fun a => Fin.ext (by
    match a with
    | ⟨0, _⟩ => show t.val / 4 = win0_5.index t 0 * 1 + 1 * 0; rw [e0]; omega
    | ⟨1, _⟩ => show r.val = win0_5.index t 1 * 15 + 1 * r.val; rw [e1]; omega
    | ⟨2, _⟩ => show n.val = win0_5.index t 2 * 1024 + 1 * n.val; rw [e2]; omega)))
  exact congrArg (pad (mX m c) (seq t) n) (show 512 * (t.val % 4) + (16 + (497 + r.val)) = 2049 + r.val by omega)

/-- Every row handed on lies in the block of its sequence's last point. -/
theorem cover_new (i : S4x15x1024.Idx) : ∃ t : Fin cfg0.N, (cfg0.win 5).flush t = true ∧ i ∈ ((cfg0.win 5).blk t).view.set := by
  have h0 : (i 0 : Nat) < 4 := (i 0).isLt
  have h1 : (i 1 : Nat) < 15 := (i 1).isLt
  have h2 : (i 2 : Nat) < 1024 := (i 2).isLt
  have hN : cfg0.N = 16 := N_0
  refine ⟨⟨4 * (i 0 : Nat) + 3, by omega⟩, (flush0_5 _).2 (show (4 * (i 0 : Nat) + 3) % 4 = 3 by omega), ?_⟩
  generalize ht : (⟨4 * (i 0 : Nat) + 3, by omega⟩ : Fin cfg0.N) = t
  have hv : t.val = 4 * (i 0 : Nat) + 3 := by rw [← ht]
  show i ∈ ((View.whole main_v0_1).slice (win0_5.rect t)).set
  rw [View.set_slice_whole, Rect.mem_set_unit]
  obtain ⟨-, -, -, -, -, -, -, -, -, -, -, e0, e1, e2, -⟩ := idx_all t
  intro a
  match a with
  | ⟨0, _⟩ => show win0_5.index t 0 * 1 ≤ (i 0 : Nat) ∧ (i 0 : Nat) < win0_5.index t 0 * 1 + 1
              rw [e0, hv]; omega
  | ⟨1, _⟩ => show win0_5.index t 1 * 15 ≤ (i 1 : Nat) ∧ (i 1 : Nat) < win0_5.index t 1 * 15 + 15
              rw [e1]; omega
  | ⟨2, _⟩ => show win0_5.index t 2 * 1024 ≤ (i 2 : Nat) ∧ (i 2 : Nat) < win0_5.index t 2 * 1024 + 1024
              rw [e2]; omega

/-- The handed-on array after the kernel's run. -/
theorem final_new (c : Dev nD) : (dats m 0 c).arrAt 5 cfg0.N = handed m c :=
  (dats m 0 c).arrAt_eq_of_cover 5 (handed m c) (fun t hf => flushed_new m c t hf) cover_new

end Ker

/-- The predicate on the projection's array says that the pool input and its gate are real numbers. -/
theorem realCols_of_finite [Cert.Pre_finite.Facts] (X : (⟨2, ![8192, 10240]⟩ : Shape).Idx → EReal) (W : (⟨3, ![4, 256, 256]⟩ : Shape).Idx → EReal)
    (S : (⟨2, ![1, 1024]⟩ : Shape).Idx → EReal) (h : Cert.Pre_finite.fn (F := Ideal) X W S = fun _ => 1#1) : RealCols X := by
  intro R c
  haveI : Subsingleton Cert.Pre_finite.S_.Idx := ⟨fun a b => funext fun i => i.elim0⟩
  unfold Cert.Pre_finite.fn at h
  dsimp only at h
  have e := Host.reduce_andi_all _ _ _ _ (fun i => i.elim0) (congrFun h _) (ix2 R c)
  refine Cert.PoolMath.real_of_abs_lt _ (Eq.trans ?_ e)
  have htop : Ideal.ofBits .f32 0x7F800000#32 = (⊤ : EReal) := by simp [Ideal.ofBits, Ideal.ieee]
  have hx : extractStridedSlice Cert.Pre_finite.S8192x2048 ![0, 6144] X Cert.Pre_finite.Facts.slices_S8192x10240_S8192x2048_0_6144 (ix2 R c)
      = X (ix2 R ⟨6144 + c.val, by have := c.isLt; omega⟩) := extractStridedSlice_apply _ X _ _ _ (fun d => by
    match d with
    | ⟨0, _⟩ => show R.val = 0 + R.val; omega
    | ⟨1, _⟩ => rfl)
  rw [← hx, ← htop]
  rfl

/-- Both programs end with the same two arrays and their arguments unchanged. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre hag => by
  have hX : ∀ c, RealCols (mX m c) := fun c => @realCols_of_finite Cert.Pre_finite.Gen.facts _ _ _ (hpre c)
  refine ⟨fun c => result m c, fun c => handed m c,
    (θ_run _ _ _).mono (fun _ h c => ⟨(h c).1.trans (final_out m c (hX c)), (h c).2.1.trans (final_new m c), (h c).2.2⟩)
      (Cert.KernelIdeal.Value.run_blocks m ρ),
    (θ_run _ _ _).mono (fun _ h c => ⟨(h c).1.trans ?_, (h c).2.1.trans ?_, (h c).2.2⟩) (Cert.ReferenceIdeal.Value.run m' ρ')⟩
  · obtain ⟨h0, h1, h2⟩ := hag c
    rw [Cert.ReferenceIdeal.Read.val_main_v76_eq, h0, h1, h2]
    exact ref_out _ _ _ (hX c)
  · obtain ⟨h0, h1, h2⟩ := hag c
    rw [h0]
    exact (Cert.ReferenceIdeal.Read.val_main_v77_eq _).trans (ref_new _)

end Cert.PoolValue

end
-- ==== Proof.lean ====
/-
  The certificate: the five calls' frames, the two readings' agreement, and the value claims of the prompt's input projection,
  pool mixer and output projection and of the sample's input and output projections.
-/
module

public import proofs.«01_k».proof.Defs
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.ReferenceOutIdeal.Run
public import proofs.«01_k».proof.Proof.Gen.KernelIn
public import proofs.«01_k».proof.Proof.Gen.KernelInIdeal
public import proofs.«01_k».proof.Proof.Gen.ReferenceInIdeal
public import proofs.«01_k».proof.Proof.Gen.ReferenceInIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.KernelOutS
public import proofs.«01_k».proof.Proof.Gen.KernelOutS.Frame
public import proofs.«01_k».proof.Proof.Gen.KernelOutSIdeal
public import proofs.«01_k».proof.Proof.Gen.KernelOutSIdeal.Frame
public import proofs.«01_k».proof.Proof.Gen.KernelOutSIdeal.Value
public import proofs.«01_k».proof.Proof.Gen.ReferenceOutSIdeal
public import proofs.«01_k».proof.Proof.Gen.ReferenceOutSIdeal.Run
public import proofs.«01_k».proof.Proof.Gen.ReferenceOutSIdeal.Read
public import proofs.«01_k».proof.Proof.Gen.Pre_finite_z
public import proofs.«01_k».proof.Proof.Gen.KernelInS
public import proofs.«01_k».proof.Proof.Gen.KernelInSIdeal
public import proofs.«01_k».proof.Proof.Gen.ReferenceInSIdeal
public import proofs.«01_k».proof.Proof.Gen.ReferenceInSIdeal.Run
public import proofs.«01_k».proof.Proof.OutClaim
public import proofs.«01_k».proof.Proof.InClaim
public import proofs.«01_k».proof.Proof.OutSClaim
public import proofs.«01_k».proof.Proof.InSClaim
public import proofs.«01_k».proof.Proof.PoolClaim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The host program of the output projection leaves its arguments as they were and has no counter to move. -/
theorem frame_out : Cert.quiescent_ReferenceOutIdeal (hReferenceOutIdeal := Cert.ReferenceOutIdeal.Gen.facts) := fun m ρ _ =>
  (θ_run _ _ _).mono (fun r h => ⟨fun c => (h c).2, sem_eq_zero_of_no_sems rfl r.2⟩) (Cert.ReferenceOutIdeal.Value.run m ρ)

/-- So does the host program of the input projection, -/
theorem frame_in : Cert.quiescent_ReferenceInIdeal (hReferenceInIdeal := Cert.ReferenceInIdeal.Gen.facts) := fun m ρ _ =>
  (θ_run _ _ _).mono (fun r h => ⟨fun c => (h c).2.2, sem_eq_zero_of_no_sems rfl r.2⟩) (Cert.ReferenceInIdeal.Value.run m ρ)

/-- that of the sample's input projection, -/
theorem frame_inS : Cert.quiescent_ReferenceInSIdeal (hReferenceInSIdeal := Cert.ReferenceInSIdeal.Gen.facts) := fun m ρ _ =>
  (θ_run _ _ _).mono (fun r h => ⟨fun c => (h c).2.2.2.2, sem_eq_zero_of_no_sems rfl r.2⟩) (Cert.ReferenceInSIdeal.Value.run m ρ)

/-- that of the sample's output projection, -/
theorem frame_outS : Cert.quiescent_ReferenceOutSIdeal (hReferenceOutSIdeal := Cert.ReferenceOutSIdeal.Gen.facts) := fun m ρ _ =>
  (θ_run _ _ _).mono (fun r h => ⟨fun c => (h c).2, sem_eq_zero_of_no_sems rfl r.2⟩) (Cert.ReferenceOutSIdeal.Value.run m ρ)

/-- and that of the pooling mixer. -/
theorem frame_pool : Cert.quiescent_ReferenceIdeal (hReferenceIdeal := Cert.ReferenceIdeal.Gen.facts) := fun m ρ _ =>
  (θ_run _ _ _).mono (fun r h => ⟨fun c => (h c).2.2, sem_eq_zero_of_no_sems rfl r.2⟩) (Cert.ReferenceIdeal.Value.run m ρ)

/-- Everything the certificate claims. -/
theorem claim : Cert.Claim := ⟨Cert.KernelOut.Gen.facts, Cert.KernelOutIdeal.Gen.facts, Cert.ReferenceOutIdeal.Gen.facts,
  Cert.KernelIn.Gen.facts, Cert.KernelInIdeal.Gen.facts, Cert.ReferenceInIdeal.Gen.facts,
  Cert.KernelInS.Gen.facts, Cert.KernelInSIdeal.Gen.facts, Cert.ReferenceInSIdeal.Gen.facts,
  Cert.KernelOutS.Gen.facts, Cert.KernelOutSIdeal.Gen.facts, Cert.ReferenceOutSIdeal.Gen.facts,
  Cert.Kernel.Gen.facts, Cert.KernelIdeal.Gen.facts, Cert.ReferenceIdeal.Gen.facts,
  Cert.Pre_finite_z.Gen.facts, Cert.Pre_finite.Gen.facts,
  fun m ρ _ => Cert.KernelOut.Gen.frame m ρ, fun m ρ _ => Cert.KernelOutIdeal.Gen.frame m ρ, frame_out,
  Cert.InValue.frame_bits, fun m ρ _ => Cert.InRun.frame m ρ, frame_in,
  Cert.InSValue.frame_bits, fun m ρ _ => Cert.InSRun.frame m ρ, frame_inS,
  fun m ρ _ => Cert.KernelOutS.Gen.frame m ρ, fun m ρ _ => Cert.KernelOutSIdeal.Gen.frame m ρ,
  fun m ρ _ => Cert.KernelOutSIdeal.Gen.frame m ρ, frame_outS, fun m ρ _ => frame_outS m ρ trivial,
  fun m ρ _ => Cert.Kernel.Gen.frame m ρ, fun m ρ _ => Cert.KernelIdeal.Gen.frame m ρ, fun m ρ _ => Cert.KernelIdeal.Gen.frame m ρ,
  frame_pool, fun m ρ _ => frame_pool m ρ trivial,
  trivial, Cert.OutValue.algebraic, trivial, Cert.InValue.algebraic,
  trivial, Cert.InSValue.algebraic,
  IdealRules.named_const.statement Cert.KernelOutSIdeal.κ "inv_384" .f32 0x3B2AAAAB#32 ((1 / 384 : ℝ) : EReal) rfl,
  Cert.OutSValue.algebraic, trivial, Cert.PoolValue.algebraic⟩

end Cert.Proof

end
